-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzReferenceIdeal (m : (ℓ : Loc Cert.DzReferenceIdeal.nD Cert.DzReferenceIdeal.τ Cert.DzReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwTwoReferenceIdeal (m : (ℓ : Loc Cert.DwTwoReferenceIdeal.nD Cert.DwTwoReferenceIdeal.τ Cert.DwTwoReferenceIdeal.sig) → Buf (Elt Ideal) ℓ) : Prop :=
  True

def Pre_DwOneReferenceIdeal (m : (ℓ : Loc Cert.DwOneReferenceIdeal.nD Cert.DwOneReferenceIdeal.τ Cert.DwOneReferenceIdeal.sig) → Buf (Elt Ideal) ℓ) : Prop :=
  True

def Pre_Xout (m : (ℓ : Loc Cert.Xout.nD Cert.Xout.τ Cert.Xout.sig) → Buf (Elt Bits) ℓ) : Prop :=
  True

def Pre_XoutIdeal (m : (ℓ : Loc Cert.XoutIdeal.nD Cert.XoutIdeal.τ Cert.XoutIdeal.sig) → Buf (Elt Ideal) ℓ) : Prop :=
  True

def Pre_XoutReferenceIdeal (m : (ℓ : Loc Cert.XoutReferenceIdeal.nD Cert.XoutReferenceIdeal.τ Cert.XoutReferenceIdeal.sig) → Buf (Elt Ideal) ℓ) : Prop :=
  True

def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite_a [hPre_finite_a : Cert.Pre_finite_a.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite_a.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3))) = (fun _ => 1#1)

def Pre_AttnAReferenceIdeal (m : (ℓ : Loc Cert.AttnAReferenceIdeal.nD Cert.AttnAReferenceIdeal.τ Cert.AttnAReferenceIdeal.sig) → Buf (Elt Ideal) ℓ) : Prop :=
  True

def Pre_AttnAReferenceIdeal_finite_a [hPre_finite_a : Cert.Pre_finite_a.Facts] (m : (ℓ : Loc Cert.AttnAReferenceIdeal.nD Cert.AttnAReferenceIdeal.τ Cert.AttnAReferenceIdeal.sig) → Buf (Elt Ideal) ℓ) : Prop :=
  ∀ c : Dev Cert.AttnAReferenceIdeal.nD,
    (Cert.Pre_finite_a.fn (F := Ideal) (m ((c.tc : Thread Cert.AttnAReferenceIdeal.nD Cert.AttnAReferenceIdeal.τ).loc Cert.AttnAReferenceIdeal.main_arg0)) (m ((c.tc : Thread Cert.AttnAReferenceIdeal.nD Cert.AttnAReferenceIdeal.τ).loc Cert.AttnAReferenceIdeal.main_arg1)) (m ((c.tc : Thread Cert.AttnAReferenceIdeal.nD Cert.AttnAReferenceIdeal.τ).loc Cert.AttnAReferenceIdeal.main_arg2)) (m ((c.tc : Thread Cert.AttnAReferenceIdeal.nD Cert.AttnAReferenceIdeal.τ).loc Cert.AttnAReferenceIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxReferenceIdeal (m : (ℓ : Loc Cert.OutDxReferenceIdeal.nD Cert.OutDxReferenceIdeal.τ Cert.OutDxReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ r.2.sem = fun _ => 0)

def quiescent_DzReferenceIdeal [hDzReferenceIdeal : Cert.DzReferenceIdeal.Facts] : Prop :=
  ∀ (m : (ℓ : Loc Cert.DzReferenceIdeal.nD Cert.DzReferenceIdeal.τ Cert.DzReferenceIdeal.sig) → Buf (Elt Ideal) ℓ) (g : Dev Cert.DzReferenceIdeal.nD → PrngReg), Pre_DzReferenceIdeal m →
    θ_run (Cert.DzReferenceIdeal.defs (F := Ideal)) (onTc (τ := Cert.DzReferenceIdeal.τ) (Cert.DzReferenceIdeal.main (F := Ideal))) ⟨m, fun _ => 0, g⟩ (fun r => (∀ c : Dev Cert.DzReferenceIdeal.nD,
      r.2.mem ((c.tc : Thread Cert.DzReferenceIdeal.nD Cert.DzReferenceIdeal.τ).loc Cert.DzReferenceIdeal.main_arg0) = m ((c.tc : Thread Cert.DzReferenceIdeal.nD Cert.DzReferenceIdeal.τ).loc Cert.DzReferenceIdeal.main_arg0)
      ∧ r.2.mem ((c.tc : Thread Cert.DzReferenceIdeal.nD Cert.DzReferenceIdeal.τ).loc Cert.DzReferenceIdeal.main_arg1) = m ((c.tc : Thread Cert.DzReferenceIdeal.nD Cert.DzReferenceIdeal.τ).loc Cert.DzReferenceIdeal.main_arg1)
      ∧ r.2.mem ((c.tc : Thread Cert.DzReferenceIdeal.nD Cert.DzReferenceIdeal.τ).loc Cert.DzReferenceIdeal.main_arg2) = m ((c.tc : Thread Cert.DzReferenceIdeal.nD Cert.DzReferenceIdeal.τ).loc Cert.DzReferenceIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwTwoReferenceIdeal [hDwTwoReferenceIdeal : Cert.DwTwoReferenceIdeal.Facts] : Prop :=
  ∀ (m : (ℓ : Loc Cert.DwTwoReferenceIdeal.nD Cert.DwTwoReferenceIdeal.τ Cert.DwTwoReferenceIdeal.sig) → Buf (Elt Ideal) ℓ) (g : Dev Cert.DwTwoReferenceIdeal.nD → PrngReg), Pre_DwTwoReferenceIdeal m →
    θ_run (Cert.DwTwoReferenceIdeal.defs (F := Ideal)) (onTc (τ := Cert.DwTwoReferenceIdeal.τ) (Cert.DwTwoReferenceIdeal.main (F := Ideal))) ⟨m, fun _ => 0, g⟩ (fun r => (∀ c : Dev Cert.DwTwoReferenceIdeal.nD,
      r.2.mem ((c.tc : Thread Cert.DwTwoReferenceIdeal.nD Cert.DwTwoReferenceIdeal.τ).loc Cert.DwTwoReferenceIdeal.main_arg0) = m ((c.tc : Thread Cert.DwTwoReferenceIdeal.nD Cert.DwTwoReferenceIdeal.τ).loc Cert.DwTwoReferenceIdeal.main_arg0)
      ∧ r.2.mem ((c.tc : Thread Cert.DwTwoReferenceIdeal.nD Cert.DwTwoReferenceIdeal.τ).loc Cert.DwTwoReferenceIdeal.main_arg1) = m ((c.tc : Thread Cert.DwTwoReferenceIdeal.nD Cert.DwTwoReferenceIdeal.τ).loc Cert.DwTwoReferenceIdeal.main_arg1))
      ∧ r.2.sem = fun _ => 0)

def quiescent_DwOneReferenceIdeal [hDwOneReferenceIdeal : Cert.DwOneReferenceIdeal.Facts] : Prop :=
  ∀ (m : (ℓ : Loc Cert.DwOneReferenceIdeal.nD Cert.DwOneReferenceIdeal.τ Cert.DwOneReferenceIdeal.sig) → Buf (Elt Ideal) ℓ) (g : Dev Cert.DwOneReferenceIdeal.nD → PrngReg), Pre_DwOneReferenceIdeal m →
    θ_run (Cert.DwOneReferenceIdeal.defs (F := Ideal)) (onTc (τ := Cert.DwOneReferenceIdeal.τ) (Cert.DwOneReferenceIdeal.main (F := Ideal))) ⟨m, fun _ => 0, g⟩ (fun r => (∀ c : Dev Cert.DwOneReferenceIdeal.nD,
      r.2.mem ((c.tc : Thread Cert.DwOneReferenceIdeal.nD Cert.DwOneReferenceIdeal.τ).loc Cert.DwOneReferenceIdeal.main_arg0) = m ((c.tc : Thread Cert.DwOneReferenceIdeal.nD Cert.DwOneReferenceIdeal.τ).loc Cert.DwOneReferenceIdeal.main_arg0)
      ∧ r.2.mem ((c.tc : Thread Cert.DwOneReferenceIdeal.nD Cert.DwOneReferenceIdeal.τ).loc Cert.DwOneReferenceIdeal.main_arg1) = m ((c.tc : Thread Cert.DwOneReferenceIdeal.nD Cert.DwOneReferenceIdeal.τ).loc Cert.DwOneReferenceIdeal.main_arg1))
      ∧ r.2.sem = fun _ => 0)

def quiescent_Xout [hXout : Cert.Xout.Facts] : Prop :=
  ∀ (m : (ℓ : Loc Cert.Xout.nD Cert.Xout.τ Cert.Xout.sig) → Buf (Elt Bits) ℓ) (g : Dev Cert.Xout.nD → PrngReg), Pre_Xout m →
    θ_run (Cert.Xout.defs (F := Bits)) (onTc (τ := Cert.Xout.τ) (Cert.Xout.main (F := Bits))) ⟨m, fun _ => 0, g⟩ (fun r => (∀ c : Dev Cert.Xout.nD,
      r.2.mem ((c.tc : Thread Cert.Xout.nD Cert.Xout.τ).loc Cert.Xout.main_arg0) = m ((c.tc : Thread Cert.Xout.nD Cert.Xout.τ).loc Cert.Xout.main_arg0)
      ∧ r.2.mem ((c.tc : Thread Cert.Xout.nD Cert.Xout.τ).loc Cert.Xout.main_arg1) = m ((c.tc : Thread Cert.Xout.nD Cert.Xout.τ).loc Cert.Xout.main_arg1)
      ∧ r.2.mem ((c.tc : Thread Cert.Xout.nD Cert.Xout.τ).loc Cert.Xout.main_arg2) = m ((c.tc : Thread Cert.Xout.nD Cert.Xout.τ).loc Cert.Xout.main_arg2))
      ∧ r.2.sem = fun _ => 0)

def quiescent_XoutIdeal [hXoutIdeal : Cert.XoutIdeal.Facts] : Prop :=
  ∀ (m : (ℓ : Loc Cert.XoutIdeal.nD Cert.XoutIdeal.τ Cert.XoutIdeal.sig) → Buf (Elt Ideal) ℓ) (g : Dev Cert.XoutIdeal.nD → PrngReg), Pre_XoutIdeal m →
    θ_run (Cert.XoutIdeal.defs (F := Ideal)) (onTc (τ := Cert.XoutIdeal.τ) (Cert.XoutIdeal.main (F := Ideal))) ⟨m, fun _ => 0, g⟩ (fun r => (∀ c : Dev Cert.XoutIdeal.nD,
      r.2.mem ((c.tc : Thread Cert.XoutIdeal.nD Cert.XoutIdeal.τ).loc Cert.XoutIdeal.main_arg0) = m ((c.tc : Thread Cert.XoutIdeal.nD Cert.XoutIdeal.τ).loc Cert.XoutIdeal.main_arg0)
      ∧ r.2.mem ((c.tc : Thread Cert.XoutIdeal.nD Cert.XoutIdeal.τ).loc Cert.XoutIdeal.main_arg1) = m ((c.tc : Thread Cert.XoutIdeal.nD Cert.XoutIdeal.τ).loc Cert.XoutIdeal.main_arg1)
      ∧ r.2.mem ((c.tc : Thread Cert.XoutIdeal.nD Cert.XoutIdeal.τ).loc Cert.XoutIdeal.main_arg2) = m ((c.tc : Thread Cert.XoutIdeal.nD Cert.XoutIdeal.τ).loc Cert.XoutIdeal.main_arg2))
      ∧ r.2.sem = fun _ => 0)

def quiescent_XoutReferenceIdeal [hXoutReferenceIdeal : Cert.XoutReferenceIdeal.Facts] : Prop :=
  ∀ (m : (ℓ : Loc Cert.XoutReferenceIdeal.nD Cert.XoutReferenceIdeal.τ Cert.XoutReferenceIdeal.sig) → Buf (Elt Ideal) ℓ) (g : Dev Cert.XoutReferenceIdeal.nD → PrngReg), Pre_XoutReferenceIdeal m →
    θ_run (Cert.XoutReferenceIdeal.defs (F := Ideal)) (onTc (τ := Cert.XoutReferenceIdeal.τ) (Cert.XoutReferenceIdeal.main (F := Ideal))) ⟨m, fun _ => 0, g⟩ (fun r => (∀ c : Dev Cert.XoutReferenceIdeal.nD,
      r.2.mem ((c.tc : Thread Cert.XoutReferenceIdeal.nD Cert.XoutReferenceIdeal.τ).loc Cert.XoutReferenceIdeal.main_arg0) = m ((c.tc : Thread Cert.XoutReferenceIdeal.nD Cert.XoutReferenceIdeal.τ).loc Cert.XoutReferenceIdeal.main_arg0)
      ∧ r.2.mem ((c.tc : Thread Cert.XoutReferenceIdeal.nD Cert.XoutReferenceIdeal.τ).loc Cert.XoutReferenceIdeal.main_arg1) = m ((c.tc : Thread Cert.XoutReferenceIdeal.nD Cert.XoutReferenceIdeal.τ).loc Cert.XoutReferenceIdeal.main_arg1)
      ∧ r.2.mem ((c.tc : Thread Cert.XoutReferenceIdeal.nD Cert.XoutReferenceIdeal.τ).loc Cert.XoutReferenceIdeal.main_arg2) = m ((c.tc : Thread Cert.XoutReferenceIdeal.nD Cert.XoutReferenceIdeal.τ).loc Cert.XoutReferenceIdeal.main_arg2))
      ∧ r.2.sem = fun _ => 0)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnAIdeal_pre_finite_a [hAttnAIdeal : Cert.AttnAIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite_a m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnAReferenceIdeal [hAttnAReferenceIdeal : Cert.AttnAReferenceIdeal.Facts] : Prop :=
  ∀ (m : (ℓ : Loc Cert.AttnAReferenceIdeal.nD Cert.AttnAReferenceIdeal.τ Cert.AttnAReferenceIdeal.sig) → Buf (Elt Ideal) ℓ) (g : Dev Cert.AttnAReferenceIdeal.nD → PrngReg), Pre_AttnAReferenceIdeal m →
    θ_run (Cert.AttnAReferenceIdeal.defs (F := Ideal)) (onTc (τ := Cert.AttnAReferenceIdeal.τ) (Cert.AttnAReferenceIdeal.main (F := Ideal))) ⟨m, fun _ => 0, g⟩ (fun r => (∀ c : Dev Cert.AttnAReferenceIdeal.nD,
      r.2.mem ((c.tc : Thread Cert.AttnAReferenceIdeal.nD Cert.AttnAReferenceIdeal.τ).loc Cert.AttnAReferenceIdeal.main_arg0) = m ((c.tc : Thread Cert.AttnAReferenceIdeal.nD Cert.AttnAReferenceIdeal.τ).loc Cert.AttnAReferenceIdeal.main_arg0)
      ∧ r.2.mem ((c.tc : Thread Cert.AttnAReferenceIdeal.nD Cert.AttnAReferenceIdeal.τ).loc Cert.AttnAReferenceIdeal.main_arg1) = m ((c.tc : Thread Cert.AttnAReferenceIdeal.nD Cert.AttnAReferenceIdeal.τ).loc Cert.AttnAReferenceIdeal.main_arg1)
      ∧ r.2.mem ((c.tc : Thread Cert.AttnAReferenceIdeal.nD Cert.AttnAReferenceIdeal.τ).loc Cert.AttnAReferenceIdeal.main_arg2) = m ((c.tc : Thread Cert.AttnAReferenceIdeal.nD Cert.AttnAReferenceIdeal.τ).loc Cert.AttnAReferenceIdeal.main_arg2)
      ∧ r.2.mem ((c.tc : Thread Cert.AttnAReferenceIdeal.nD Cert.AttnAReferenceIdeal.τ).loc Cert.AttnAReferenceIdeal.main_arg3) = m ((c.tc : Thread Cert.AttnAReferenceIdeal.nD Cert.AttnAReferenceIdeal.τ).loc Cert.AttnAReferenceIdeal.main_arg3))
      ∧ r.2.sem = fun _ => 0)

def quiescent_AttnAReferenceIdeal_pre_finite_a [hAttnAReferenceIdeal : Cert.AttnAReferenceIdeal.Facts] [hPre_finite_a : Cert.Pre_finite_a.Facts] : Prop :=
  ∀ (m : (ℓ : Loc Cert.AttnAReferenceIdeal.nD Cert.AttnAReferenceIdeal.τ Cert.AttnAReferenceIdeal.sig) → Buf (Elt Ideal) ℓ) (g : Dev Cert.AttnAReferenceIdeal.nD → PrngReg), Pre_AttnAReferenceIdeal_finite_a m →
    θ_run (Cert.AttnAReferenceIdeal.defs (F := Ideal)) (onTc (τ := Cert.AttnAReferenceIdeal.τ) (Cert.AttnAReferenceIdeal.main (F := Ideal))) ⟨m, fun _ => 0, g⟩ (fun r => (∀ c : Dev Cert.AttnAReferenceIdeal.nD,
      r.2.mem ((c.tc : Thread Cert.AttnAReferenceIdeal.nD Cert.AttnAReferenceIdeal.τ).loc Cert.AttnAReferenceIdeal.main_arg0) = m ((c.tc : Thread Cert.AttnAReferenceIdeal.nD Cert.AttnAReferenceIdeal.τ).loc Cert.AttnAReferenceIdeal.main_arg0)
      ∧ r.2.mem ((c.tc : Thread Cert.AttnAReferenceIdeal.nD Cert.AttnAReferenceIdeal.τ).loc Cert.AttnAReferenceIdeal.main_arg1) = m ((c.tc : Thread Cert.AttnAReferenceIdeal.nD Cert.AttnAReferenceIdeal.τ).loc Cert.AttnAReferenceIdeal.main_arg1)
      ∧ r.2.mem ((c.tc : Thread Cert.AttnAReferenceIdeal.nD Cert.AttnAReferenceIdeal.τ).loc Cert.AttnAReferenceIdeal.main_arg2) = m ((c.tc : Thread Cert.AttnAReferenceIdeal.nD Cert.AttnAReferenceIdeal.τ).loc Cert.AttnAReferenceIdeal.main_arg2)
      ∧ r.2.mem ((c.tc : Thread Cert.AttnAReferenceIdeal.nD Cert.AttnAReferenceIdeal.τ).loc Cert.AttnAReferenceIdeal.main_arg3) = m ((c.tc : Thread Cert.AttnAReferenceIdeal.nD Cert.AttnAReferenceIdeal.τ).loc Cert.AttnAReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxReferenceIdeal [hOutDxReferenceIdeal : Cert.OutDxReferenceIdeal.Facts] : Prop :=
  ∀ (m : (ℓ : Loc Cert.OutDxReferenceIdeal.nD Cert.OutDxReferenceIdeal.τ Cert.OutDxReferenceIdeal.sig) → Buf (Elt Ideal) ℓ) (g : Dev Cert.OutDxReferenceIdeal.nD → PrngReg), Pre_OutDxReferenceIdeal m →
    θ_run (Cert.OutDxReferenceIdeal.defs (F := Ideal)) (onTc (τ := Cert.OutDxReferenceIdeal.τ) (Cert.OutDxReferenceIdeal.main (F := Ideal))) ⟨m, fun _ => 0, g⟩ (fun r => (∀ c : Dev Cert.OutDxReferenceIdeal.nD,
      r.2.mem ((c.tc : Thread Cert.OutDxReferenceIdeal.nD Cert.OutDxReferenceIdeal.τ).loc Cert.OutDxReferenceIdeal.main_arg0) = m ((c.tc : Thread Cert.OutDxReferenceIdeal.nD Cert.OutDxReferenceIdeal.τ).loc Cert.OutDxReferenceIdeal.main_arg0)
      ∧ r.2.mem ((c.tc : Thread Cert.OutDxReferenceIdeal.nD Cert.OutDxReferenceIdeal.τ).loc Cert.OutDxReferenceIdeal.main_arg1) = m ((c.tc : Thread Cert.OutDxReferenceIdeal.nD Cert.OutDxReferenceIdeal.τ).loc Cert.OutDxReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_v4) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Dz_DzIdeal : Prop :=
  True

def algebraic_DzIdeal_DzReferenceIdeal [hDzIdeal : Cert.DzIdeal.Facts] [hDzReferenceIdeal : Cert.DzReferenceIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzReferenceIdeal.nD Cert.DzReferenceIdeal.τ Cert.DzReferenceIdeal.sig) → Buf (Elt Ideal) ℓ) (g' : Dev Cert.DzReferenceIdeal.nD → PrngReg), Pre_DzIdeal m →
    (∀ c : Dev Cert.DzIdeal.nD,
      m' ((c.tc : Thread Cert.DzReferenceIdeal.nD Cert.DzReferenceIdeal.τ).loc Cert.DzReferenceIdeal.main_arg0) = m ((c.tc : Thread Cert.DzIdeal.nD Cert.DzIdeal.τ).loc Cert.DzIdeal.main_arg0)
      ∧ m' ((c.tc : Thread Cert.DzReferenceIdeal.nD Cert.DzReferenceIdeal.τ).loc Cert.DzReferenceIdeal.main_arg1) = m ((c.tc : Thread Cert.DzIdeal.nD Cert.DzIdeal.τ).loc Cert.DzIdeal.main_arg1)
      ∧ m' ((c.tc : Thread Cert.DzReferenceIdeal.nD Cert.DzReferenceIdeal.τ).loc Cert.DzReferenceIdeal.main_arg2) = m ((c.tc : Thread Cert.DzIdeal.nD Cert.DzIdeal.τ).loc Cert.DzIdeal.main_arg2)) →
    ∃ (v0 : (c : Dev Cert.DzIdeal.nD) → Buf (Elt Ideal) ((c.tc : Thread Cert.DzIdeal.nD Cert.DzIdeal.τ).loc Cert.DzIdeal.main_v3)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v3) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ θ_run (Cert.DzReferenceIdeal.defs (F := Ideal)) (onTc (τ := Cert.DzReferenceIdeal.τ) (Cert.DzReferenceIdeal.main (F := Ideal))) ⟨m', fun _ => 0, g'⟩ (fun r => ∀ c : Dev Cert.DzReferenceIdeal.nD,
          r.2.mem ((c.tc : Thread Cert.DzReferenceIdeal.nD Cert.DzReferenceIdeal.τ).loc Cert.DzReferenceIdeal.main_v12) = v0 c
          ∧ r.2.mem ((c.tc : Thread Cert.DzReferenceIdeal.nD Cert.DzReferenceIdeal.τ).loc Cert.DzReferenceIdeal.main_arg0) = m' ((c.tc : Thread Cert.DzReferenceIdeal.nD Cert.DzReferenceIdeal.τ).loc Cert.DzReferenceIdeal.main_arg0)
          ∧ r.2.mem ((c.tc : Thread Cert.DzReferenceIdeal.nD Cert.DzReferenceIdeal.τ).loc Cert.DzReferenceIdeal.main_arg1) = m' ((c.tc : Thread Cert.DzReferenceIdeal.nD Cert.DzReferenceIdeal.τ).loc Cert.DzReferenceIdeal.main_arg1)
          ∧ r.2.mem ((c.tc : Thread Cert.DzReferenceIdeal.nD Cert.DzReferenceIdeal.τ).loc Cert.DzReferenceIdeal.main_arg2) = m' ((c.tc : Thread Cert.DzReferenceIdeal.nD Cert.DzReferenceIdeal.τ).loc Cert.DzReferenceIdeal.main_arg2))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v3)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v3) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v2) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_Dw_DwIdeal : Prop :=
  True

def algebraic_DwIdeal_DwTwoReferenceIdeal [hDwIdeal : Cert.DwIdeal.Facts] [hDwTwoReferenceIdeal : Cert.DwTwoReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwTwoReferenceIdeal.nD Cert.DwTwoReferenceIdeal.τ Cert.DwTwoReferenceIdeal.sig) → Buf (Elt Ideal) ℓ) (g' : Dev Cert.DwTwoReferenceIdeal.nD → PrngReg), Pre_DwIdeal m →
    (∀ c : Dev Cert.DwIdeal.nD,
      m' ((c.tc : Thread Cert.DwTwoReferenceIdeal.nD Cert.DwTwoReferenceIdeal.τ).loc Cert.DwTwoReferenceIdeal.main_arg0) = m ((c.tc : Thread Cert.DwIdeal.nD Cert.DwIdeal.τ).loc Cert.DwIdeal.main_arg0)
      ∧ m' ((c.tc : Thread Cert.DwTwoReferenceIdeal.nD Cert.DwTwoReferenceIdeal.τ).loc Cert.DwTwoReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwTwoReferenceIdeal.defs (F := Ideal)) (onTc (τ := Cert.DwTwoReferenceIdeal.τ) (Cert.DwTwoReferenceIdeal.main (F := Ideal))) ⟨m', fun _ => 0, g'⟩ (fun r => ∀ c : Dev Cert.DwTwoReferenceIdeal.nD,
          r.2.mem ((c.tc : Thread Cert.DwTwoReferenceIdeal.nD Cert.DwTwoReferenceIdeal.τ).loc Cert.DwTwoReferenceIdeal.main_v4) = v0 c
          ∧ r.2.mem ((c.tc : Thread Cert.DwTwoReferenceIdeal.nD Cert.DwTwoReferenceIdeal.τ).loc Cert.DwTwoReferenceIdeal.main_arg0) = m' ((c.tc : Thread Cert.DwTwoReferenceIdeal.nD Cert.DwTwoReferenceIdeal.τ).loc Cert.DwTwoReferenceIdeal.main_arg0)
          ∧ r.2.mem ((c.tc : Thread Cert.DwTwoReferenceIdeal.nD Cert.DwTwoReferenceIdeal.τ).loc Cert.DwTwoReferenceIdeal.main_arg1) = m' ((c.tc : Thread Cert.DwTwoReferenceIdeal.nD Cert.DwTwoReferenceIdeal.τ).loc Cert.DwTwoReferenceIdeal.main_arg1))

def algebraic_DwIdeal_DwOneReferenceIdeal [hDwIdeal : Cert.DwIdeal.Facts] [hDwOneReferenceIdeal : Cert.DwOneReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwOneReferenceIdeal.nD Cert.DwOneReferenceIdeal.τ Cert.DwOneReferenceIdeal.sig) → Buf (Elt Ideal) ℓ) (g' : Dev Cert.DwOneReferenceIdeal.nD → PrngReg), Pre_DwIdeal m →
    (∀ c : Dev Cert.DwIdeal.nD,
      m' ((c.tc : Thread Cert.DwOneReferenceIdeal.nD Cert.DwOneReferenceIdeal.τ).loc Cert.DwOneReferenceIdeal.main_arg0) = m ((c.tc : Thread Cert.DwIdeal.nD Cert.DwIdeal.τ).loc Cert.DwIdeal.main_arg0)
      ∧ m' ((c.tc : Thread Cert.DwOneReferenceIdeal.nD Cert.DwOneReferenceIdeal.τ).loc Cert.DwOneReferenceIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwOneReferenceIdeal.defs (F := Ideal)) (onTc (τ := Cert.DwOneReferenceIdeal.τ) (Cert.DwOneReferenceIdeal.main (F := Ideal))) ⟨m', fun _ => 0, g'⟩ (fun r => ∀ c : Dev Cert.DwOneReferenceIdeal.nD,
          r.2.mem ((c.tc : Thread Cert.DwOneReferenceIdeal.nD Cert.DwOneReferenceIdeal.τ).loc Cert.DwOneReferenceIdeal.main_v5) = v0 c
          ∧ r.2.mem ((c.tc : Thread Cert.DwOneReferenceIdeal.nD Cert.DwOneReferenceIdeal.τ).loc Cert.DwOneReferenceIdeal.main_arg0) = m' ((c.tc : Thread Cert.DwOneReferenceIdeal.nD Cert.DwOneReferenceIdeal.τ).loc Cert.DwOneReferenceIdeal.main_arg0)
          ∧ r.2.mem ((c.tc : Thread Cert.DwOneReferenceIdeal.nD Cert.DwOneReferenceIdeal.τ).loc Cert.DwOneReferenceIdeal.main_arg1) = m' ((c.tc : Thread Cert.DwOneReferenceIdeal.nD Cert.DwOneReferenceIdeal.τ).loc Cert.DwOneReferenceIdeal.main_arg1))

def preserves_Xout_XoutIdeal : Prop :=
  True

def algebraic_XoutIdeal_XoutReferenceIdeal [hXoutIdeal : Cert.XoutIdeal.Facts] [hXoutReferenceIdeal : Cert.XoutReferenceIdeal.Facts] : Prop :=
  ∀ (m : (ℓ : Loc Cert.XoutIdeal.nD Cert.XoutIdeal.τ Cert.XoutIdeal.sig) → Buf (Elt Ideal) ℓ) (g : Dev Cert.XoutIdeal.nD → PrngReg)
    (m' : (ℓ : Loc Cert.XoutReferenceIdeal.nD Cert.XoutReferenceIdeal.τ Cert.XoutReferenceIdeal.sig) → Buf (Elt Ideal) ℓ) (g' : Dev Cert.XoutReferenceIdeal.nD → PrngReg), Pre_XoutIdeal m →
    (∀ c : Dev Cert.XoutIdeal.nD,
      m' ((c.tc : Thread Cert.XoutReferenceIdeal.nD Cert.XoutReferenceIdeal.τ).loc Cert.XoutReferenceIdeal.main_arg0) = m ((c.tc : Thread Cert.XoutIdeal.nD Cert.XoutIdeal.τ).loc Cert.XoutIdeal.main_arg0)
      ∧ m' ((c.tc : Thread Cert.XoutReferenceIdeal.nD Cert.XoutReferenceIdeal.τ).loc Cert.XoutReferenceIdeal.main_arg1) = m ((c.tc : Thread Cert.XoutIdeal.nD Cert.XoutIdeal.τ).loc Cert.XoutIdeal.main_arg1)
      ∧ m' ((c.tc : Thread Cert.XoutReferenceIdeal.nD Cert.XoutReferenceIdeal.τ).loc Cert.XoutReferenceIdeal.main_arg2) = m ((c.tc : Thread Cert.XoutIdeal.nD Cert.XoutIdeal.τ).loc Cert.XoutIdeal.main_arg2)) →
    ∃ (v0 : (c : Dev Cert.XoutIdeal.nD) → Buf (Elt Ideal) ((c.tc : Thread Cert.XoutIdeal.nD Cert.XoutIdeal.τ).loc Cert.XoutIdeal.main_v2)),
      θ_run (Cert.XoutIdeal.defs (F := Ideal)) (onTc (τ := Cert.XoutIdeal.τ) (Cert.XoutIdeal.main (F := Ideal))) ⟨m, fun _ => 0, g⟩ (fun r => ∀ c : Dev Cert.XoutIdeal.nD,
          r.2.mem ((c.tc : Thread Cert.XoutIdeal.nD Cert.XoutIdeal.τ).loc Cert.XoutIdeal.main_v2) = v0 c
          ∧ r.2.mem ((c.tc : Thread Cert.XoutIdeal.nD Cert.XoutIdeal.τ).loc Cert.XoutIdeal.main_arg0) = m ((c.tc : Thread Cert.XoutIdeal.nD Cert.XoutIdeal.τ).loc Cert.XoutIdeal.main_arg0)
          ∧ r.2.mem ((c.tc : Thread Cert.XoutIdeal.nD Cert.XoutIdeal.τ).loc Cert.XoutIdeal.main_arg1) = m ((c.tc : Thread Cert.XoutIdeal.nD Cert.XoutIdeal.τ).loc Cert.XoutIdeal.main_arg1)
          ∧ r.2.mem ((c.tc : Thread Cert.XoutIdeal.nD Cert.XoutIdeal.τ).loc Cert.XoutIdeal.main_arg2) = m ((c.tc : Thread Cert.XoutIdeal.nD Cert.XoutIdeal.τ).loc Cert.XoutIdeal.main_arg2))
      ∧ θ_run (Cert.XoutReferenceIdeal.defs (F := Ideal)) (onTc (τ := Cert.XoutReferenceIdeal.τ) (Cert.XoutReferenceIdeal.main (F := Ideal))) ⟨m', fun _ => 0, g'⟩ (fun r => ∀ c : Dev Cert.XoutReferenceIdeal.nD,
          r.2.mem ((c.tc : Thread Cert.XoutReferenceIdeal.nD Cert.XoutReferenceIdeal.τ).loc Cert.XoutReferenceIdeal.main_v1) = v0 c
          ∧ r.2.mem ((c.tc : Thread Cert.XoutReferenceIdeal.nD Cert.XoutReferenceIdeal.τ).loc Cert.XoutReferenceIdeal.main_arg0) = m' ((c.tc : Thread Cert.XoutReferenceIdeal.nD Cert.XoutReferenceIdeal.τ).loc Cert.XoutReferenceIdeal.main_arg0)
          ∧ r.2.mem ((c.tc : Thread Cert.XoutReferenceIdeal.nD Cert.XoutReferenceIdeal.τ).loc Cert.XoutReferenceIdeal.main_arg1) = m' ((c.tc : Thread Cert.XoutReferenceIdeal.nD Cert.XoutReferenceIdeal.τ).loc Cert.XoutReferenceIdeal.main_arg1)
          ∧ r.2.mem ((c.tc : Thread Cert.XoutReferenceIdeal.nD Cert.XoutReferenceIdeal.τ).loc Cert.XoutReferenceIdeal.main_arg2) = m' ((c.tc : Thread Cert.XoutReferenceIdeal.nD Cert.XoutReferenceIdeal.τ).loc Cert.XoutReferenceIdeal.main_arg2))

def preserves_AttnA_AttnAIdeal : Prop :=
  IdealRules.named_const.Statement Cert.AttnAIdeal.κ "scale2" .f32 0x3DD53B95#32 (((Real.sqrt 192)⁻¹ * (Real.log 2)⁻¹ : ℝ) : EReal)
  ∧ IdealRules.named_const.Statement Cert.AttnAIdeal.κ "log2e" .f32 0x3FB8AA3B#32 (((Real.log 2)⁻¹ : ℝ) : EReal)
  ∧ IdealRules.named_const.Statement Cert.AttnAIdeal.κ "scale" .f32 0x3D93CD3A#32 (((Real.sqrt 192)⁻¹ : ℝ) : EReal)

def algebraic_AttnAIdeal_AttnAReferenceIdeal_pre_finite_a [hAttnAIdeal : Cert.AttnAIdeal.Facts] [hAttnAReferenceIdeal : Cert.AttnAReferenceIdeal.Facts] [hPre_finite_a : Cert.Pre_finite_a.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnAReferenceIdeal.nD Cert.AttnAReferenceIdeal.τ Cert.AttnAReferenceIdeal.sig) → Buf (Elt Ideal) ℓ) (g' : Dev Cert.AttnAReferenceIdeal.nD → PrngReg), Pre_AttnAIdeal_finite_a m →
    (∀ c : Dev Cert.AttnAIdeal.nD,
      m' ((c.tc : Thread Cert.AttnAReferenceIdeal.nD Cert.AttnAReferenceIdeal.τ).loc Cert.AttnAReferenceIdeal.main_arg0) = m ((c.tc : Thread Cert.AttnAIdeal.nD Cert.AttnAIdeal.τ).loc Cert.AttnAIdeal.main_arg0)
      ∧ m' ((c.tc : Thread Cert.AttnAReferenceIdeal.nD Cert.AttnAReferenceIdeal.τ).loc Cert.AttnAReferenceIdeal.main_arg1) = m ((c.tc : Thread Cert.AttnAIdeal.nD Cert.AttnAIdeal.τ).loc Cert.AttnAIdeal.main_arg1)
      ∧ m' ((c.tc : Thread Cert.AttnAReferenceIdeal.nD Cert.AttnAReferenceIdeal.τ).loc Cert.AttnAReferenceIdeal.main_arg2) = m ((c.tc : Thread Cert.AttnAIdeal.nD Cert.AttnAIdeal.τ).loc Cert.AttnAIdeal.main_arg2)
      ∧ m' ((c.tc : Thread Cert.AttnAReferenceIdeal.nD Cert.AttnAReferenceIdeal.τ).loc Cert.AttnAReferenceIdeal.main_arg3) = m ((c.tc : Thread Cert.AttnAIdeal.nD Cert.AttnAIdeal.τ).loc Cert.AttnAIdeal.main_arg3)) →
    ∃ (v0 : (c : Dev Cert.AttnAIdeal.nD) → Buf (Elt Ideal) ((c.tc : Thread Cert.AttnAIdeal.nD Cert.AttnAIdeal.τ).loc Cert.AttnAIdeal.main_v44_0)) (v1 : (c : Dev Cert.AttnAIdeal.nD) → Buf (Elt Ideal) ((c.tc : Thread Cert.AttnAIdeal.nD Cert.AttnAIdeal.τ).loc Cert.AttnAIdeal.main_v44_1)) (v2 : (c : Dev Cert.AttnAIdeal.nD) → Buf (Elt Ideal) ((c.tc : Thread Cert.AttnAIdeal.nD Cert.AttnAIdeal.τ).loc Cert.AttnAIdeal.main_v44_2)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v44_0) = v0 c
          ∧ r.2.mem ((c.tc : Thread Cert.AttnAIdeal.nD Cert.AttnAIdeal.τ).loc Cert.AttnAIdeal.main_v44_1) = v1 c
          ∧ r.2.mem ((c.tc : Thread Cert.AttnAIdeal.nD Cert.AttnAIdeal.τ).loc Cert.AttnAIdeal.main_v44_2) = v2 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ θ_run (Cert.AttnAReferenceIdeal.defs (F := Ideal)) (onTc (τ := Cert.AttnAReferenceIdeal.τ) (Cert.AttnAReferenceIdeal.main (F := Ideal))) ⟨m', fun _ => 0, g'⟩ (fun r => ∀ c : Dev Cert.AttnAReferenceIdeal.nD,
          r.2.mem ((c.tc : Thread Cert.AttnAReferenceIdeal.nD Cert.AttnAReferenceIdeal.τ).loc Cert.AttnAReferenceIdeal.main_v65) = v0 c
          ∧ r.2.mem ((c.tc : Thread Cert.AttnAReferenceIdeal.nD Cert.AttnAReferenceIdeal.τ).loc Cert.AttnAReferenceIdeal.main_v70) = v1 c
          ∧ r.2.mem ((c.tc : Thread Cert.AttnAReferenceIdeal.nD Cert.AttnAReferenceIdeal.τ).loc Cert.AttnAReferenceIdeal.main_v71) = v2 c
          ∧ r.2.mem ((c.tc : Thread Cert.AttnAReferenceIdeal.nD Cert.AttnAReferenceIdeal.τ).loc Cert.AttnAReferenceIdeal.main_arg0) = m' ((c.tc : Thread Cert.AttnAReferenceIdeal.nD Cert.AttnAReferenceIdeal.τ).loc Cert.AttnAReferenceIdeal.main_arg0)
          ∧ r.2.mem ((c.tc : Thread Cert.AttnAReferenceIdeal.nD Cert.AttnAReferenceIdeal.τ).loc Cert.AttnAReferenceIdeal.main_arg1) = m' ((c.tc : Thread Cert.AttnAReferenceIdeal.nD Cert.AttnAReferenceIdeal.τ).loc Cert.AttnAReferenceIdeal.main_arg1)
          ∧ r.2.mem ((c.tc : Thread Cert.AttnAReferenceIdeal.nD Cert.AttnAReferenceIdeal.τ).loc Cert.AttnAReferenceIdeal.main_arg2) = m' ((c.tc : Thread Cert.AttnAReferenceIdeal.nD Cert.AttnAReferenceIdeal.τ).loc Cert.AttnAReferenceIdeal.main_arg2)
          ∧ r.2.mem ((c.tc : Thread Cert.AttnAReferenceIdeal.nD Cert.AttnAReferenceIdeal.τ).loc Cert.AttnAReferenceIdeal.main_arg3) = m' ((c.tc : Thread Cert.AttnAReferenceIdeal.nD Cert.AttnAReferenceIdeal.τ).loc Cert.AttnAReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v3)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v2) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v5) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_OutDx_OutDxIdeal : Prop :=
  True

def algebraic_OutDxIdeal_OutDxReferenceIdeal [hOutDxIdeal : Cert.OutDxIdeal.Facts] [hOutDxReferenceIdeal : Cert.OutDxReferenceIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxReferenceIdeal.nD Cert.OutDxReferenceIdeal.τ Cert.OutDxReferenceIdeal.sig) → Buf (Elt Ideal) ℓ) (g' : Dev Cert.OutDxReferenceIdeal.nD → PrngReg), Pre_OutDxIdeal m →
    (∀ c : Dev Cert.OutDxIdeal.nD,
      m' ((c.tc : Thread Cert.OutDxReferenceIdeal.nD Cert.OutDxReferenceIdeal.τ).loc Cert.OutDxReferenceIdeal.main_arg0) = m ((c.tc : Thread Cert.OutDxIdeal.nD Cert.OutDxIdeal.τ).loc Cert.OutDxIdeal.main_arg0)
      ∧ m' ((c.tc : Thread Cert.OutDxReferenceIdeal.nD Cert.OutDxReferenceIdeal.τ).loc Cert.OutDxReferenceIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxReferenceIdeal.defs (F := Ideal)) (onTc (τ := Cert.OutDxReferenceIdeal.τ) (Cert.OutDxReferenceIdeal.main (F := Ideal))) ⟨m', fun _ => 0, g'⟩ (fun r => ∀ c : Dev Cert.OutDxReferenceIdeal.nD,
          r.2.mem ((c.tc : Thread Cert.OutDxReferenceIdeal.nD Cert.OutDxReferenceIdeal.τ).loc Cert.OutDxReferenceIdeal.main_v2) = v0 c
          ∧ r.2.mem ((c.tc : Thread Cert.OutDxReferenceIdeal.nD Cert.OutDxReferenceIdeal.τ).loc Cert.OutDxReferenceIdeal.main_arg0) = m' ((c.tc : Thread Cert.OutDxReferenceIdeal.nD Cert.OutDxReferenceIdeal.τ).loc Cert.OutDxReferenceIdeal.main_arg0)
          ∧ r.2.mem ((c.tc : Thread Cert.OutDxReferenceIdeal.nD Cert.OutDxReferenceIdeal.τ).loc Cert.OutDxReferenceIdeal.main_arg1) = m' ((c.tc : Thread Cert.OutDxReferenceIdeal.nD Cert.OutDxReferenceIdeal.τ).loc Cert.OutDxReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v4) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDz : Cert.Dz.Facts) (hDzIdeal : Cert.DzIdeal.Facts) (hDzReferenceIdeal : Cert.DzReferenceIdeal.Facts) (hDh : Cert.Dh.Facts) (hDhIdeal : Cert.DhIdeal.Facts) (hDhReferenceIdeal : Cert.DhReferenceIdeal.Facts) (hDw : Cert.Dw.Facts) (hDwIdeal : Cert.DwIdeal.Facts) (hDwTwoReferenceIdeal : Cert.DwTwoReferenceIdeal.Facts) (hDwOneReferenceIdeal : Cert.DwOneReferenceIdeal.Facts) (hXout : Cert.Xout.Facts) (hXoutIdeal : Cert.XoutIdeal.Facts) (hXoutReferenceIdeal : Cert.XoutReferenceIdeal.Facts) (hAttnA : Cert.AttnA.Facts) (hAttnAIdeal : Cert.AttnAIdeal.Facts) (hAttnAReferenceIdeal : Cert.AttnAReferenceIdeal.Facts) (hIn : Cert.In.Facts) (hInIdeal : Cert.InIdeal.Facts) (hInReferenceIdeal : Cert.InReferenceIdeal.Facts) (hInDx : Cert.InDx.Facts) (hInDxIdeal : Cert.InDxIdeal.Facts) (hInDxReferenceIdeal : Cert.InDxReferenceIdeal.Facts) (hInDw : Cert.InDw.Facts) (hInDwIdeal : Cert.InDwIdeal.Facts) (hInDwReferenceIdeal : Cert.InDwReferenceIdeal.Facts) (hOut : Cert.Out.Facts) (hOutIdeal : Cert.OutIdeal.Facts) (hOutReferenceIdeal : Cert.OutReferenceIdeal.Facts) (hOutDx : Cert.OutDx.Facts) (hOutDxIdeal : Cert.OutDxIdeal.Facts) (hOutDxReferenceIdeal : Cert.OutDxReferenceIdeal.Facts) (hOutDw : Cert.OutDw.Facts) (hOutDwIdeal : Cert.OutDwIdeal.Facts) (hOutDwReferenceIdeal : Cert.OutDwReferenceIdeal.Facts) (hPre_finite : Cert.Pre_finite.Facts) (hPre_finite_a : Cert.Pre_finite_a.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Dz (hDz := hDz)
    ∧ quiescent_DzIdeal (hDzIdeal := hDzIdeal)
    ∧ quiescent_DzReferenceIdeal (hDzReferenceIdeal := hDzReferenceIdeal)
    ∧ quiescent_Dh (hDh := hDh)
    ∧ quiescent_DhIdeal (hDhIdeal := hDhIdeal)
    ∧ quiescent_DhReferenceIdeal (hDhReferenceIdeal := hDhReferenceIdeal)
    ∧ quiescent_Dw (hDw := hDw)
    ∧ quiescent_DwIdeal (hDwIdeal := hDwIdeal)
    ∧ quiescent_DwTwoReferenceIdeal (hDwTwoReferenceIdeal := hDwTwoReferenceIdeal)
    ∧ quiescent_DwOneReferenceIdeal (hDwOneReferenceIdeal := hDwOneReferenceIdeal)
    ∧ quiescent_Xout (hXout := hXout)
    ∧ quiescent_XoutIdeal (hXoutIdeal := hXoutIdeal)
    ∧ quiescent_XoutReferenceIdeal (hXoutReferenceIdeal := hXoutReferenceIdeal)
    ∧ quiescent_AttnA (hAttnA := hAttnA)
    ∧ quiescent_AttnAIdeal (hAttnAIdeal := hAttnAIdeal)
    ∧ quiescent_AttnAIdeal_pre_finite_a (hAttnAIdeal := hAttnAIdeal) (hPre_finite_a := hPre_finite_a)
    ∧ quiescent_AttnAReferenceIdeal (hAttnAReferenceIdeal := hAttnAReferenceIdeal)
    ∧ quiescent_AttnAReferenceIdeal_pre_finite_a (hAttnAReferenceIdeal := hAttnAReferenceIdeal) (hPre_finite_a := hPre_finite_a)
    ∧ quiescent_In (hIn := hIn)
    ∧ quiescent_InIdeal (hInIdeal := hInIdeal)
    ∧ quiescent_InReferenceIdeal (hInReferenceIdeal := hInReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Out (hOut := hOut)
    ∧ quiescent_OutIdeal (hOutIdeal := hOutIdeal)
    ∧ quiescent_OutReferenceIdeal (hOutReferenceIdeal := hOutReferenceIdeal)
    ∧ quiescent_OutDx (hOutDx := hOutDx)
    ∧ quiescent_OutDxIdeal (hOutDxIdeal := hOutDxIdeal)
    ∧ quiescent_OutDxReferenceIdeal (hOutDxReferenceIdeal := hOutDxReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Dz_DzIdeal
    ∧ algebraic_DzIdeal_DzReferenceIdeal (hDzIdeal := hDzIdeal) (hDzReferenceIdeal := hDzReferenceIdeal)
    ∧ preserves_Dh_DhIdeal
    ∧ algebraic_DhIdeal_DhReferenceIdeal (hDhIdeal := hDhIdeal) (hDhReferenceIdeal := hDhReferenceIdeal)
    ∧ preserves_Dw_DwIdeal
    ∧ algebraic_DwIdeal_DwTwoReferenceIdeal (hDwIdeal := hDwIdeal) (hDwTwoReferenceIdeal := hDwTwoReferenceIdeal)
    ∧ algebraic_DwIdeal_DwOneReferenceIdeal (hDwIdeal := hDwIdeal) (hDwOneReferenceIdeal := hDwOneReferenceIdeal)
    ∧ preserves_Xout_XoutIdeal
    ∧ algebraic_XoutIdeal_XoutReferenceIdeal (hXoutIdeal := hXoutIdeal) (hXoutReferenceIdeal := hXoutReferenceIdeal)
    ∧ preserves_AttnA_AttnAIdeal
    ∧ algebraic_AttnAIdeal_AttnAReferenceIdeal_pre_finite_a (hAttnAIdeal := hAttnAIdeal) (hAttnAReferenceIdeal := hAttnAReferenceIdeal) (hPre_finite_a := hPre_finite_a)
    ∧ preserves_In_InIdeal
    ∧ algebraic_InIdeal_InReferenceIdeal (hInIdeal := hInIdeal) (hInReferenceIdeal := hInReferenceIdeal)
    ∧ preserves_InDx_InDxIdeal
    ∧ algebraic_InDxIdeal_InDxReferenceIdeal (hInDxIdeal := hInDxIdeal) (hInDxReferenceIdeal := hInDxReferenceIdeal)
    ∧ preserves_InDw_InDwIdeal
    ∧ algebraic_InDwIdeal_InDwReferenceIdeal (hInDwIdeal := hInDwIdeal) (hInDwReferenceIdeal := hInDwReferenceIdeal)
    ∧ preserves_Out_OutIdeal
    ∧ algebraic_OutIdeal_OutReferenceIdeal (hOutIdeal := hOutIdeal) (hOutReferenceIdeal := hOutReferenceIdeal)
    ∧ preserves_OutDx_OutDxIdeal
    ∧ algebraic_OutDxIdeal_OutDxReferenceIdeal (hOutDxIdeal := hOutDxIdeal) (hOutDxReferenceIdeal := hOutDxReferenceIdeal)
    ∧ preserves_OutDw_OutDwIdeal
    ∧ algebraic_OutDwIdeal_OutDwReferenceIdeal (hOutDwIdeal := hOutDwIdeal) (hOutDwReferenceIdeal := hOutDwReferenceIdeal)
-- ==== Pre_finite.lean ====
abbrev S4096x2x3x128 : Shape := ⟨4, ![4096, 2, 3, 128]⟩
abbrev S4096x2x128 : Shape := ⟨3, ![4096, 2, 128]⟩
abbrev S_ : Shape := ⟨0, ![]⟩

class Facts : Prop where
  bcast_S_S4096x2x3x128 : S_.BroadcastsInDim S4096x2x3x128 (![] : Fin 0 → Fin S4096x2x3x128.rank)
  reducesTo_S4096x2x3x128_S_d0_1_2_3 : S4096x2x3x128.ReducesTo [0, 1, 2, 3] S_
  h_S_ : 0 < S_.numel
  bcast_S_S4096x2x128 : S_.BroadcastsInDim S4096x2x128 (![] : Fin 0 → Fin S4096x2x128.rank)
  reducesTo_S4096x2x128_S_d0_1_2 : S4096x2x128.ReducesTo [0, 1, 2] S_

variable [Facts]

def fn_part1 {F : FTy → Type} [FloatOps F] (main_v13 : IVec S_ 1) (main_v16 : IVec S4096x2x3x128 1) : IVec S_ 1 :=
  let main_c_5 : IVec S_ 1 := constantI S_ 1 1#1
  let main_v17 : IVec S_ 1 := (fun x v => Host.reduce IntOp.andi x v reducesTo_S4096x2x3x128_S_d0_1_2_3 h_S_) main_v16 main_c_5
  let main_v18 : IVec S_ 1 := andi main_v13 main_v17
  main_v18

def fn {F : FTy → Type} [FloatOps F] (main_arg0 : FVec F S4096x2x3x128 .f32) (main_arg1 : FVec F S4096x2x128 .f32) (main_arg2 : FVec F S4096x2x128 .f32) (main_arg3 : FVec F S4096x2x3x128 .f32) : IVec S_ 1 :=
  let main_v0 : FVec F S4096x2x3x128 .f32 := Host.absf main_arg0
  let main_cst : FVec F S_ .f32 := constant S_ .f32 0x7F800000#32
  let main_v1 : FVec F S4096x2x3x128 .f32 := broadcastInDim S4096x2x3x128 ![] bcast_S_S4096x2x3x128 main_cst
  let main_v2 : IVec S4096x2x3x128 1 := cmpf .olt main_v0 main_v1
  let main_c : IVec S_ 1 := constantI S_ 1 1#1
  let main_v3 : IVec S_ 1 := (fun x v => Host.reduce IntOp.andi x v reducesTo_S4096x2x3x128_S_d0_1_2_3 h_S_) main_v2 main_c
  let main_v4 : FVec F S4096x2x128 .f32 := Host.absf main_arg1
  let main_cst_0 : FVec F S_ .f32 := constant S_ .f32 0x7F800000#32
  let main_v5 : FVec F S4096x2x128 .f32 := broadcastInDim S4096x2x128 ![] bcast_S_S4096x2x128 main_cst_0
  let main_v6 : IVec S4096x2x128 1 := cmpf .olt main_v4 main_v5
  let main_c_1 : IVec S_ 1 := constantI S_ 1 1#1
  let main_v7 : IVec S_ 1 := (fun x v => Host.reduce IntOp.andi x v reducesTo_S4096x2x128_S_d0_1_2 h_S_) main_v6 main_c_1
  let main_v8 : IVec S_ 1 := andi main_v3 main_v7
  let main_v9 : FVec F S4096x2x128 .f32 := Host.absf main_arg2
  let main_cst_2 : FVec F S_ .f32 := constant S_ .f32 0x7F800000#32
  let main_v10 : FVec F S4096x2x128 .f32 := broadcastInDim S4096x2x128 ![] bcast_S_S4096x2x128 main_cst_2
  let main_v11 : IVec S4096x2x128 1 := cmpf .olt main_v9 main_v10
  let main_c_3 : IVec S_ 1 := constantI S_ 1 1#1
  let main_v12 : IVec S_ 1 := (fun x v => Host.reduce IntOp.andi x v reducesTo_S4096x2x128_S_d0_1_2 h_S_) main_v11 main_c_3
  let main_v13 : IVec S_ 1 := andi main_v8 main_v12
  let main_v14 : FVec F S4096x2x3x128 .f32 := Host.absf main_arg3
  let main_cst_4 : FVec F S_ .f32 := constant S_ .f32 0x7F800000#32
  let main_v15 : FVec F S4096x2x3x128 .f32 := broadcastInDim S4096x2x3x128 ![] bcast_S_S4096x2x3x128 main_cst_4
  let main_v16 : IVec S4096x2x3x128 1 := cmpf .olt main_v14 main_v15
  fn_part1 (F := F) main_v13 main_v16
-- ==== Pre_finite_a.lean ====
abbrev S4096x4x1x192 : Shape := ⟨4, ![4096, 4, 1, 192]⟩
abbrev S4096x4x192 : Shape := ⟨3, ![4096, 4, 192]⟩
abbrev S4096x4x128 : Shape := ⟨3, ![4096, 4, 128]⟩
abbrev S4096x4x1x128 : Shape := ⟨4, ![4096, 4, 1, 128]⟩
abbrev S_ : Shape := ⟨0, ![]⟩

class Facts : Prop where
  bcast_S_S4096x4x1x192 : S_.BroadcastsInDim S4096x4x1x192 (![] : Fin 0 → Fin S4096x4x1x192.rank)
  reducesTo_S4096x4x1x192_S_d0_1_2_3 : S4096x4x1x192.ReducesTo [0, 1, 2, 3] S_
  h_S_ : 0 < S_.numel
  bcast_S_S4096x4x192 : S_.BroadcastsInDim S4096x4x192 (![] : Fin 0 → Fin S4096x4x192.rank)
  reducesTo_S4096x4x192_S_d0_1_2 : S4096x4x192.ReducesTo [0, 1, 2] S_
  bcast_S_S4096x4x128 : S_.BroadcastsInDim S4096x4x128 (![] : Fin 0 → Fin S4096x4x128.rank)
  reducesTo_S4096x4x128_S_d0_1_2 : S4096x4x128.ReducesTo [0, 1, 2] S_
  bcast_S_S4096x4x1x128 : S_.BroadcastsInDim S4096x4x1x128 (![] : Fin 0 → Fin S4096x4x1x128.rank)
  reducesTo_S4096x4x1x128_S_d0_1_2_3 : S4096x4x1x128.ReducesTo [0, 1, 2, 3] S_

variable [Facts]

def fn_part1 {F : FTy → Type} [FloatOps F] (main_v13 : IVec S_ 1) (main_v16 : IVec S4096x4x1x128 1) : IVec S_ 1 :=
  let main_c_5 : IVec S_ 1 := constantI S_ 1 1#1
  let main_v17 : IVec S_ 1 := (fun x v => Host.reduce IntOp.andi x v reducesTo_S4096x4x1x128_S_d0_1_2_3 h_S_) main_v16 main_c_5
  let main_v18 : IVec S_ 1 := andi main_v13 main_v17
  main_v18

def fn {F : FTy → Type} [FloatOps F] (main_arg0 : FVec F S4096x4x1x192 .f32) (main_arg1 : FVec F S4096x4x192 .f32) (main_arg2 : FVec F S4096x4x128 .f32) (main_arg3 : FVec F S4096x4x1x128 .f32) : IVec S_ 1 :=
  let main_v0 : FVec F S4096x4x1x192 .f32 := Host.absf main_arg0
  let main_cst : FVec F S_ .f32 := constant S_ .f32 0x7F800000#32
  let main_v1 : FVec F S4096x4x1x192 .f32 := broadcastInDim S4096x4x1x192 ![] bcast_S_S4096x4x1x192 main_cst
  let main_v2 : IVec S4096x4x1x192 1 := cmpf .olt main_v0 main_v1
  let main_c : IVec S_ 1 := constantI S_ 1 1#1
  let main_v3 : IVec S_ 1 := (fun x v => Host.reduce IntOp.andi x v reducesTo_S4096x4x1x192_S_d0_1_2_3 h_S_) main_v2 main_c
  let main_v4 : FVec F S4096x4x192 .f32 := Host.absf main_arg1
  let main_cst_0 : FVec F S_ .f32 := constant S_ .f32 0x7F800000#32
  let main_v5 : FVec F S4096x4x192 .f32 := broadcastInDim S4096x4x192 ![] bcast_S_S4096x4x192 main_cst_0
  let main_v6 : IVec S4096x4x192 1 := cmpf .olt main_v4 main_v5
  let main_c_1 : IVec S_ 1 := constantI S_ 1 1#1
  let main_v7 : IVec S_ 1 := (fun x v => Host.reduce IntOp.andi x v reducesTo_S4096x4x192_S_d0_1_2 h_S_) main_v6 main_c_1
  let main_v8 : IVec S_ 1 := andi main_v3 main_v7
  let main_v9 : FVec F S4096x4x128 .f32 := Host.absf main_arg2
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  let main_c_3 : IVec S_ 1 := constantI S_ 1 1#1
  let main_v12 : IVec S_ 1 := (fun x v => Host.reduce IntOp.andi x v reducesTo_S4096x4x128_S_d0_1_2 h_S_) main_v11 main_c_3
  let main_v13 : IVec S_ 1 := andi main_v8 main_v12
  let main_v14 : FVec F S4096x4x1x128 .f32 := Host.absf main_arg3
  let main_cst_4 : FVec F S_ .f32 := constant S_ .f32 0x7F800000#32
  let main_v15 : FVec F S4096x4x1x128 .f32 := broadcastInDim S4096x4x1x128 ![] bcast_S_S4096x4x1x128 main_cst_4
  let main_v16 : IVec S4096x4x1x128 1 := cmpf .olt main_v14 main_v15
  fn_part1 (F := F) main_v13 main_v16
-- ==== Kernel.lean ====
abbrev S4096x2x3x128 : Shape := ⟨4, ![4096, 2, 3, 128]⟩
abbrev S4096x2x128 : Shape := ⟨3, ![4096, 2, 128]⟩
abbrev S2x4096x4096x3 : Shape := ⟨4, ![2, 4096, 4096, 3]⟩
abbrev S2x3x4096x4096 : Shape := ⟨4, ![2, 3, 4096, 4096]⟩
abbrev S_ : Shape := ⟨0, ![]⟩
abbrev S2x3x4096 : Shape := ⟨3, ![2, 3, 4096]⟩
abbrev S2x3x4096x1 : Shape := ⟨4, ![2, 3, 4096, 1]⟩
abbrev S2x128x3x4096 : Shape := ⟨4, ![2, 128, 3, 4096]⟩
abbrev S4096x2x3 : Shape := ⟨3, ![4096, 2, 3]⟩
abbrev S4096x768 : Shape := ⟨2, ![4096, 768]⟩
abbrev S4096x256 : Shape := ⟨2, ![4096, 256]⟩
abbrev S4096x6x1 : Shape := ⟨3, ![4096, 6, 1]⟩
abbrev S4096x6x128 : Shape := ⟨3, ![4096, 6, 128]⟩
abbrev S512x128 : Shape := ⟨2, ![512, 128]⟩
abbrev S4096x128 : Shape := ⟨2, ![4096, 128]⟩
abbrev S512x4096 : Shape := ⟨2, ![512, 4096]⟩
abbrev S512x1 : Shape := ⟨2, ![512, 1]⟩

abbrev nBuf : Space → Nat
  | .hbm => 46
  | .vmem => 18
  | .smem => 0
  | _ => 0

abbrev bufTy : (tb : Table) → Fin (tcTables nBuf tb) → BufTy
  | .hbm, ⟨0, _⟩ => ⟨S4096x2x3x128, .f32⟩
  | .hbm, ⟨1, _⟩ => ⟨S4096x2x128, .f32⟩
  | .hbm, ⟨2, _⟩ => ⟨S4096x2x128, .f32⟩
  | .hbm, ⟨3, _⟩ => ⟨S4096x2x3x128, .f32⟩
  | .hbm, ⟨4, _⟩ => ⟨S2x4096x4096x3, .f32⟩
  | .hbm, ⟨5, _⟩ => ⟨S2x3x4096x4096, .f32⟩
  | .hbm, ⟨6, _⟩ => ⟨S_, .f32⟩
  | .hbm, ⟨7, _⟩ => ⟨S2x3x4096x4096, .f32⟩
  | .hbm, ⟨8, _⟩ => ⟨S2x3x4096x4096, .f32⟩
  | .hbm, ⟨9, _⟩ => ⟨S_, .f32⟩
  | .hbm, ⟨10, _⟩ => ⟨S2x3x4096, .f32⟩
  | .hbm, ⟨11, _⟩ => ⟨S2x3x4096x1, .f32⟩
  | .hbm, ⟨12, _⟩ => ⟨S2x3x4096x4096, .f32⟩
  | .hbm, ⟨13, _⟩ => ⟨S2x3x4096x4096, .f32⟩
  | .hbm, ⟨14, _⟩ => ⟨S2x3x4096x4096, .f32⟩
  | .hbm, ⟨15, _⟩ => ⟨S_, .f32⟩
  | .hbm, ⟨16, _⟩ => ⟨S2x3x4096, .f32⟩
  | .hbm, ⟨17, _⟩ => ⟨S2x3x4096x1, .f32⟩
  | .hbm, ⟨18, _⟩ => ⟨S2x3x4096x1, .f32⟩
  | .hbm, ⟨19, _⟩ => ⟨S2x3x4096x1, .f32⟩
  | .hbm, ⟨20, _⟩ => ⟨S2x3x4096, .f32⟩
  | .hbm, ⟨21, _⟩ => ⟨S2x3x4096x4096, .f32⟩
  | .hbm, ⟨22, _⟩ => ⟨S2x3x4096x4096, .f32⟩
  | .hbm, ⟨23, _⟩ => ⟨S2x128x3x4096, .f32⟩
  | .hbm, ⟨24, _⟩ => ⟨S4096x2x3x128, .f32⟩
  | .hbm, ⟨25, _⟩ => ⟨S4096x2x3, .f32⟩
  | .hbm, ⟨26, _⟩ => ⟨S4096x2x3x128, .f32⟩
  | .hbm, ⟨27, _⟩ => ⟨S_, .f32⟩
  | .hbm, ⟨28, _⟩ => ⟨S4096x2x3, .f32⟩
  | .hbm, ⟨29, _⟩ => ⟨S4096x768, .f32⟩
  | .hbm, ⟨30, _⟩ => ⟨S4096x768, .bf16⟩
  | .hbm, ⟨31, _⟩ => ⟨S4096x256, .f32⟩
  | .hbm, ⟨32, _⟩ => ⟨S4096x256, .bf16⟩
  | .hbm, ⟨33, _⟩ => ⟨S4096x256, .f32⟩
  | .hbm, ⟨34, _⟩ => ⟨S4096x256, .bf16⟩
  | .hbm, ⟨35, _⟩ => ⟨S4096x768, .f32⟩
  | .hbm, ⟨36, _⟩ => ⟨S4096x768, .bf16⟩
  | .hbm, ⟨37, _⟩ => ⟨S4096x6x1, .f32⟩
  | .hbm, ⟨38, _⟩ => ⟨S4096x6x128, .f32⟩
  | .hbm, ⟨39, _⟩ => ⟨S4096x768, .f32⟩
  | .hbm, ⟨40, _⟩ => ⟨S4096x6x1, .f32⟩
  | .hbm, ⟨41, _⟩ => ⟨S4096x6x128, .f32⟩
  | .hbm, ⟨42, _⟩ => ⟨S4096x768, .f32⟩
  | .hbm, ⟨43, _⟩ => ⟨S4096x768, .f32⟩
  | .hbm, ⟨44, _⟩ => ⟨S4096x256, .f32⟩
  | .hbm, ⟨45, _⟩ => ⟨S4096x256, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x2x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev main_v35_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "log2e" => some (((Real.log 2)⁻¹ : ℝ) : EReal)
  | "scale2" => some (((11863283 / 134217728) * (Real.log 2)⁻¹ : ℝ) : EReal)
  | _ => none
-- ==== ReferenceIdeal.lean ====
abbrev S4096x2x3x128 : Shape := ⟨4, ![4096, 2, 3, 128]⟩
abbrev S4096x2x128 : Shape := ⟨3, ![4096, 2, 128]⟩
abbrev S2x4096x4096x3 : Shape := ⟨4, ![2, 4096, 4096, 3]⟩
abbrev S2x3x4096x4096 : Shape := ⟨4, ![2, 3, 4096, 4096]⟩
abbrev S_ : Shape := ⟨0, ![]⟩
abbrev S2x3x4096 : Shape := ⟨3, ![2, 3, 4096]⟩
abbrev S2x3x4096x1 : Shape := ⟨4, ![2, 3, 4096, 1]⟩
abbrev S2x128x3x4096 : Shape := ⟨4, ![2, 128, 3, 4096]⟩
abbrev S2x128x4096 : Shape := ⟨3, ![2, 128, 4096]⟩
abbrev S2x4096x3x128 : Shape := ⟨4, ![2, 4096, 3, 128]⟩
abbrev S2x4096x128 : Shape := ⟨3, ![2, 4096, 128]⟩
abbrev S4096x768 : Shape := ⟨2, ![4096, 768]⟩
abbrev S4096x256 : Shape := ⟨2, ![4096, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x2x3x128, .f32⟩
  | .hbm, ⟨1, _⟩ => ⟨S4096x2x128, .f32⟩
  | .hbm, ⟨2, _⟩ => ⟨S4096x2x128, .f32⟩
  | .hbm, ⟨3, _⟩ => ⟨S4096x2x3x128, .f32⟩
  | .hbm, ⟨4, _⟩ => ⟨S2x4096x4096x3, .f32⟩
  | .hbm, ⟨5, _⟩ => ⟨S2x3x4096x4096, .f32⟩
  | .hbm, ⟨6, _⟩ => ⟨S_, .f32⟩
  | .hbm, ⟨7, _⟩ => ⟨S2x3x4096x4096, .f32⟩
  | .hbm, ⟨8, _⟩ => ⟨S2x3x4096x4096, .f32⟩
  | .hbm, ⟨9, _⟩ => ⟨S_, .f32⟩
  | .hbm, ⟨10, _⟩ => ⟨S2x3x4096, .f32⟩
  | .hbm, ⟨11, _⟩ => ⟨S2x3x4096x1, .f32⟩
  | .hbm, ⟨12, _⟩ => ⟨S2x3x4096x4096, .f32⟩
  | .hbm, ⟨13, _⟩ => ⟨S2x3x4096x4096, .i1⟩
  | .hbm, ⟨14, _⟩ => ⟨S2x3x4096x4096, .f32⟩
  | .hbm, ⟨15, _⟩ => ⟨S_, .f32⟩
  | .hbm, ⟨16, _⟩ => ⟨S2x3x4096, .f32⟩
  | .hbm, ⟨17, _⟩ => ⟨S_, .f32⟩
  | .hbm, ⟨18, _⟩ => ⟨S2x3x4096, .f32⟩
  | .hbm, ⟨19, _⟩ => ⟨S2x3x4096, .f32⟩
  | .hbm, ⟨20, _⟩ => ⟨S_, .f32⟩
  | .hbm, ⟨21, _⟩ => ⟨S2x3x4096, .f32⟩
  | .hbm, ⟨22, _⟩ => ⟨S2x3x4096, .i1⟩
  | .hbm, ⟨23, _⟩ => ⟨S_, .f32⟩
  | .hbm, ⟨24, _⟩ => ⟨S2x3x4096, .f32⟩
  | .hbm, ⟨25, _⟩ => ⟨S2x3x4096, .i1⟩
  | .hbm, ⟨26, _⟩ => ⟨S_, .f32⟩
  | .hbm, ⟨27, _⟩ => ⟨S2x3x4096, .f32⟩
  | .hbm, ⟨28, _⟩ => ⟨S_, .f32⟩
  | .hbm, ⟨29, _⟩ => ⟨S2x3x4096, .f32⟩
  | .hbm, ⟨30, _⟩ => ⟨S_, .f32⟩
  | .hbm, ⟨31, _⟩ => ⟨S2x3x4096, .f32⟩
  | .hbm, ⟨32, _⟩ => ⟨S2x3x4096, .f32⟩
  | .hbm, ⟨33, _⟩ => ⟨S2x3x4096, .f32⟩
  | .hbm, ⟨34, _⟩ => ⟨S2x3x4096x1, .f32⟩
  | .hbm, ⟨35, _⟩ => ⟨S2x3x4096x4096, .f32⟩
  | .hbm, ⟨36, _⟩ => ⟨S2x3x4096x4096, .f32⟩
  | .hbm, ⟨37, _⟩ => ⟨S2x3x4096x4096, .f32⟩
  | .hbm, ⟨38, _⟩ => ⟨S_, .f32⟩
  | .hbm, ⟨39, _⟩ => ⟨S2x3x4096, .f32⟩
  | .hbm, ⟨40, _⟩ => ⟨S2x3x4096x1, .f32⟩
  | .hbm, ⟨41, _⟩ => ⟨S2x3x4096x4096, .f32⟩
  | .hbm, ⟨42, _⟩ => ⟨S2x3x4096x4096, .f32⟩
  | .hbm, ⟨43, _⟩ => ⟨S2x3x4096x1, .f32⟩
  | .hbm, ⟨44, _⟩ => ⟨S_, .f32⟩
  | .hbm, ⟨45, _⟩ => ⟨S2x3x4096x1, .f32⟩
  | .hbm, ⟨46, _⟩ => ⟨S2x3x4096x1, .f32⟩
  | .hbm, ⟨47, _⟩ => ⟨S2x128x3x4096, .f32⟩
  | .hbm, ⟨48, _⟩ => ⟨S4096x2x3x128, .f32⟩
  | .hbm, ⟨49, _⟩ => ⟨S2x128x3x4096, .f32⟩
  | .hbm, ⟨50, _⟩ => ⟨S2x3x4096x4096, .f32⟩
  | .hbm, ⟨51, _⟩ => ⟨S2x128x4096, .f32⟩
  | .hbm, ⟨52, _⟩ => ⟨S4096x2x128, .f32⟩
  | .hbm, ⟨53, _⟩ => ⟨S2x3x4096x4096, .f32⟩
  | .hbm, ⟨54, _⟩ => ⟨S2x3x4096x4096, .f32⟩
  | .hbm, ⟨55, _⟩ => ⟨S2x3x4096x4096, .f32⟩
  | .hbm, ⟨56, _⟩ => ⟨S_, .f32⟩
  | .hbm, ⟨57, _⟩ => ⟨S2x3x4096, .f32⟩
  | .hbm, ⟨58, _⟩ => ⟨S2x3x4096x1, .f32⟩
  | .hbm, ⟨59, _⟩ => ⟨S2x3x4096x1, .f32⟩
  | .hbm, ⟨60, _⟩ => ⟨S2x3x4096x4096, .f32⟩
  | .hbm, ⟨61, _⟩ => ⟨S2x3x4096x4096, .f32⟩
  | .hbm, ⟨62, _⟩ => ⟨S_, .f32⟩
  | .hbm, ⟨63, _⟩ => ⟨S2x3x4096, .f32⟩
  | .hbm, ⟨64, _⟩ => ⟨S2x3x4096x4096, .f32⟩
  | .hbm, ⟨65, _⟩ => ⟨S2x3x4096x4096, .f32⟩
  | .hbm, ⟨66, _⟩ => ⟨S2x3x4096x4096, .f32⟩
  | .hbm, ⟨67, _⟩ => ⟨S_, .f32⟩
  | .hbm, ⟨68, _⟩ => ⟨S2x3x4096x4096, .f32⟩
  | .hbm, ⟨69, _⟩ => ⟨S2x3x4096x4096, .f32⟩
  | .hbm, ⟨70, _⟩ => ⟨S2x4096x4096x3, .f32⟩
  | .hbm, ⟨71, _⟩ => ⟨S2x4096x3x128, .f32⟩
  | .hbm, ⟨72, _⟩ => ⟨S4096x2x3x128, .f32⟩
  | .hbm, ⟨73, _⟩ => ⟨S2x4096x128, .f32⟩
  | .hbm, ⟨74, _⟩ => ⟨S4096x2x128, .f32⟩
  | .hbm, ⟨75, _⟩ => ⟨S4096x768, .f32⟩
  | .hbm, ⟨76, _⟩ => ⟨S4096x256, .f32⟩
  | .hbm, ⟨77, _⟩ => ⟨S4096x256, .f32⟩
  | _, _ => ⟨S4096x2x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S8192x2048, .f32⟩
  | .hbm, ⟨4, _⟩ => ⟨S8192x2048, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Dz.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S4096x2048, .bf16⟩
  | .hbm, ⟨4, _⟩ => ⟨S8192x2048, .bf16⟩
  | .hbm, ⟨5, _⟩ => ⟨S4096x8192, .bf16⟩
  | .hbm, ⟨6, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DzReferenceIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dh.lean ====
abbrev S4096x8192 : Shape := ⟨2, ![4096, 8192]⟩
abbrev S2048x8192 : Shape := ⟨2, ![2048, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S4096x8192, .bf16⟩
  | .hbm, ⟨3, _⟩ => ⟨S8192x2048, .f32⟩
  | .hbm, ⟨4, _⟩ => ⟨S8192x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhReferenceIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dw.lean ====
abbrev S4096x8192 : Shape := ⟨2, ![4096, 8192]⟩
abbrev S4096x2048 : Shape := ⟨2, ![4096, 2048]⟩
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwTwoReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOneReferenceIdeal.lean ====
abbrev S4096x8192 : Shape := ⟨2, ![4096, 8192]⟩
abbrev S4096x2048 : Shape := ⟨2, ![4096, 2048]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S8192x2048, .f32⟩
  | .hbm, ⟨8, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Xout.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x8192, .bf16⟩
  | .hbm, ⟨4, _⟩ => ⟨S8192x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoutReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AttnA.lean ====
abbrev S4096x4x1x192 : Shape := ⟨4, ![4096, 4, 1, 192]⟩
abbrev S4096x4x192 : Shape := ⟨3, ![4096, 4, 192]⟩
abbrev S4096x4x128 : Shape := ⟨3, ![4096, 4, 128]⟩
abbrev S4096x4x1x128 : Shape := ⟨4, ![4096, 4, 1, 128]⟩
abbrev S4x4096x4096x1 : Shape := ⟨4, ![4, 4096, 4096, 1]⟩
abbrev S4x1x4096x4096 : Shape := ⟨4, ![4, 1, 4096, 4096]⟩
abbrev S_ : Shape := ⟨0, ![]⟩
abbrev S4x1x4096 : Shape := ⟨3, ![4, 1, 4096]⟩
abbrev S4x1x4096x1 : Shape := ⟨4, ![4, 1, 4096, 1]⟩
abbrev S4x128x1x4096 : Shape := ⟨4, ![4, 128, 1, 4096]⟩
abbrev S4096x4x1 : Shape := ⟨3, ![4096, 4, 1]⟩
abbrev S4096x4x64 : Shape := ⟨3, ![4096, 4, 64]⟩
abbrev S4096x4x256 : Shape := ⟨3, ![4096, 4, 256]⟩
abbrev S4096x1024 : Shape := ⟨2, ![4096, 1024]⟩
abbrev S4096x512 : Shape := ⟨2, ![4096, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x4096 : Shape := ⟨2, ![512, 4096]⟩
abbrev S512x1 : Shape := ⟨2, ![512, 1]⟩

abbrev nBuf : Space → Nat
  | .hbm => 58
  | .vmem => 18
  | .smem => 0
  | _ => 0

abbrev bufTy : (tb : Table) → Fin (tcTables nBuf tb) → BufTy
  | .hbm, ⟨0, _⟩ => ⟨S4096x4x1x192, .f32⟩
  | .hbm, ⟨1, _⟩ => ⟨S4096x4x192, .f32⟩
  | .hbm, ⟨2, _⟩ => ⟨S4096x4x128, .f32⟩
  | .hbm, ⟨3, _⟩ => ⟨S4096x4x1x128, .f32⟩
  | .hbm, ⟨4, _⟩ => ⟨S4x4096x4096x1, .f32⟩
  | .hbm, ⟨5, _⟩ => ⟨S4x1x4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x1x4096x4096, .f32⟩
  | .hbm, ⟨11, _⟩ => ⟨S4x1x4096x4096, .f32⟩
  | .hbm, ⟨12, _⟩ => ⟨S_, .f32⟩
  | .hbm, ⟨13, _⟩ => ⟨S4x1x4096, .f32⟩
  | .hbm, ⟨14, _⟩ => ⟨S4x1x4096x1, .f32⟩
  | .hbm, ⟨15, _⟩ => ⟨S4x1x4096x4096, .f32⟩
  | .hbm, ⟨16, _⟩ => ⟨S4x1x4096x4096, .f32⟩
  | .hbm, ⟨17, _⟩ => ⟨S4x1x4096x4096, .f32⟩
  | .hbm, ⟨18, _⟩ => ⟨S_, .f32⟩
  | .hbm, ⟨19, _⟩ => ⟨S4x1x4096, .f32⟩
  | .hbm, ⟨20, _⟩ => ⟨S4x1x4096x1, .f32⟩
  | .hbm, ⟨21, _⟩ => ⟨S4x1x4096x1, .f32⟩
  | .hbm, ⟨22, _⟩ => ⟨S4x1x4096x1, .f32⟩
  | .hbm, ⟨23, _⟩ => ⟨S4x1x4096, .f32⟩
  | .hbm, ⟨24, _⟩ => ⟨S4x1x4096x4096, .f32⟩
  | .hbm, ⟨25, _⟩ => ⟨S4x1x4096x4096, .f32⟩
  | .hbm, ⟨26, _⟩ => ⟨S4x128x1x4096, .f32⟩
  | .hbm, ⟨27, _⟩ => ⟨S4096x4x1x128, .f32⟩
  | .hbm, ⟨28, _⟩ => ⟨S4096x4x1, .f32⟩
  | .hbm, ⟨29, _⟩ => ⟨S4096x4x1x128, .f32⟩
  | .hbm, ⟨30, _⟩ => ⟨S_, .f32⟩
  | .hbm, ⟨31, _⟩ => ⟨S4096x4x1, .f32⟩
  | .hbm, ⟨32, _⟩ => ⟨S4096x4x192, .f32⟩
  | .hbm, ⟨33, _⟩ => ⟨S4096x4x128, .f32⟩
  | .hbm, ⟨34, _⟩ => ⟨S_, .f32⟩
  | .hbm, ⟨35, _⟩ => ⟨S4096x4x64, .f32⟩
  | .hbm, ⟨36, _⟩ => ⟨S4096x4x64, .f32⟩
  | .hbm, ⟨37, _⟩ => ⟨S4096x4x256, .f32⟩
  | .hbm, ⟨38, _⟩ => ⟨S4096x1024, .f32⟩
  | .hbm, ⟨39, _⟩ => ⟨S4096x1024, .bf16⟩
  | .hbm, ⟨40, _⟩ => ⟨S4096x4x128, .f32⟩
  | .hbm, ⟨41, _⟩ => ⟨S_, .f32⟩
  | .hbm, ⟨42, _⟩ => ⟨S4096x4x64, .f32⟩
  | .hbm, ⟨43, _⟩ => ⟨S4096x4x64, .f32⟩
  | .hbm, ⟨44, _⟩ => ⟨S4096x4x256, .f32⟩
  | .hbm, ⟨45, _⟩ => ⟨S4096x1024, .f32⟩
  | .hbm, ⟨46, _⟩ => ⟨S4096x1024, .bf16⟩
  | .hbm, ⟨47, _⟩ => ⟨S4096x512, .f32⟩
  | .hbm, ⟨48, _⟩ => ⟨S4096x512, .bf16⟩
  | .hbm, ⟨49, _⟩ => ⟨S4096x512, .f32⟩
  | .hbm, ⟨50, _⟩ => ⟨S4096x512, .bf16⟩
  | .hbm, ⟨51, _⟩ => ⟨S4096x4x128, .f32⟩
  | .hbm, ⟨52, _⟩ => ⟨S4096x512, .f32⟩
  | .hbm, ⟨53, _⟩ => ⟨S4096x4x128, .f32⟩
  | .hbm, ⟨54, _⟩ => ⟨S4096x512, .f32⟩
  | .hbm, ⟨55, _⟩ => ⟨S4096x1024, .f32⟩
  | .hbm, ⟨56, _⟩ => ⟨S4096x1024, .f32⟩
  | .hbm, ⟨57, _⟩ => ⟨S4096x512, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S4096x256, .f32⟩
  | .local _ .vmem, ⟨15, _⟩ => ⟨S4096x256, .f32⟩
  | .local _ .vmem, ⟨16, _⟩ => ⟨S4096x128, .f32⟩
  | .local _ .vmem, ⟨17, _⟩ => ⟨S4096x128, .f32⟩
  | _, _ => ⟨S4096x4x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== AttnAIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale2" => some (((Real.sqrt 192)⁻¹ * (Real.log 2)⁻¹ : ℝ) : EReal)
  | _ => none
-- ==== AttnAReferenceIdeal.lean ====
abbrev S4096x4x1x192 : Shape := ⟨4, ![4096, 4, 1, 192]⟩
abbrev S4096x4x192 : Shape := ⟨3, ![4096, 4, 192]⟩
abbrev S4096x4x128 : Shape := ⟨3, ![4096, 4, 128]⟩
abbrev S4096x4x1x128 : Shape := ⟨4, ![4096, 4, 1, 128]⟩
abbrev S4x4096x4096x1 : Shape := ⟨4, ![4, 4096, 4096, 1]⟩
abbrev S4x1x4096x4096 : Shape := ⟨4, ![4, 1, 4096, 4096]⟩
abbrev S_ : Shape := ⟨0, ![]⟩
abbrev S4x1x4096 : Shape := ⟨3, ![4, 1, 4096]⟩
abbrev S4x1x4096x1 : Shape := ⟨4, ![4, 1, 4096, 1]⟩
abbrev S4x128x1x4096 : Shape := ⟨4, ![4, 128, 1, 4096]⟩
abbrev S4x128x4096 : Shape := ⟨3, ![4, 128, 4096]⟩
abbrev S4x4096 : Shape := ⟨2, ![4, 4096]⟩
abbrev S4x4096x1x192 : Shape := ⟨4, ![4, 4096, 1, 192]⟩
abbrev S4x4096x192 : Shape := ⟨3, ![4, 4096, 192]⟩
abbrev S4096x4x64 : Shape := ⟨3, ![4096, 4, 64]⟩
abbrev S4096x4x256 : Shape := ⟨3, ![4096, 4, 256]⟩
abbrev S4096x1024 : Shape := ⟨2, ![4096, 1024]⟩
abbrev S4096x512 : Shape := ⟨2, ![4096, 512]⟩

abbrev nBuf : Space → Nat
  | .hbm => 92
  | .vmem => 0
  | .smem => 0
  | _ => 0

abbrev bufTy : (tb : Table) → Fin (tcTables nBuf tb) → BufTy
  | .hbm, ⟨0, _⟩ => ⟨S4096x4x1x192, .f32⟩
  | .hbm, ⟨1, _⟩ => ⟨S4096x4x192, .f32⟩
  | .hbm, ⟨2, _⟩ => ⟨S4096x4x128, .f32⟩
  | .hbm, ⟨3, _⟩ => ⟨S4096x4x1x128, .f32⟩
  | .hbm, ⟨4, _⟩ => ⟨S4x4096x4096x1, .f32⟩
  | .hbm, ⟨5, _⟩ => ⟨S4x1x4096x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x1x4096x4096, .f32⟩
  | .hbm, ⟨11, _⟩ => ⟨S4x1x4096x4096, .f32⟩
  | .hbm, ⟨12, _⟩ => ⟨S_, .f32⟩
  | .hbm, ⟨13, _⟩ => ⟨S4x1x4096, .f32⟩
  | .hbm, ⟨14, _⟩ => ⟨S4x1x4096x1, .f32⟩
  | .hbm, ⟨15, _⟩ => ⟨S4x1x4096x4096, .f32⟩
  | .hbm, ⟨16, _⟩ => ⟨S4x1x4096x4096, .i1⟩
  | .hbm, ⟨17, _⟩ => ⟨S4x1x4096x4096, .f32⟩
  | .hbm, ⟨18, _⟩ => ⟨S_, .f32⟩
  | .hbm, ⟨19, _⟩ => ⟨S4x1x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S_, .f32⟩
  | .hbm, ⟨24, _⟩ => ⟨S4x1x4096, .f32⟩
  | .hbm, ⟨25, _⟩ => ⟨S4x1x4096, .i1⟩
  | .hbm, ⟨26, _⟩ => ⟨S_, .f32⟩
  | .hbm, ⟨27, _⟩ => ⟨S4x1x4096, .f32⟩
  | .hbm, ⟨28, _⟩ => ⟨S4x1x4096, .i1⟩
  | .hbm, ⟨29, _⟩ => ⟨S_, .f32⟩
  | .hbm, ⟨30, _⟩ => ⟨S4x1x4096, .f32⟩
  | .hbm, ⟨31, _⟩ => ⟨S_, .f32⟩
  | .hbm, ⟨32, _⟩ => ⟨S4x1x4096, .f32⟩
  | .hbm, ⟨33, _⟩ => ⟨S_, .f32⟩
  | .hbm, ⟨34, _⟩ => ⟨S4x1x4096, .f32⟩
  | .hbm, ⟨35, _⟩ => ⟨S4x1x4096, .f32⟩
  | .hbm, ⟨36, _⟩ => ⟨S4x1x4096, .f32⟩
  | .hbm, ⟨37, _⟩ => ⟨S4x1x4096x1, .f32⟩
  | .hbm, ⟨38, _⟩ => ⟨S4x1x4096x4096, .f32⟩
  | .hbm, ⟨39, _⟩ => ⟨S4x1x4096x4096, .f32⟩
  | .hbm, ⟨40, _⟩ => ⟨S4x1x4096x4096, .f32⟩
  | .hbm, ⟨41, _⟩ => ⟨S_, .f32⟩
  | .hbm, ⟨42, _⟩ => ⟨S4x1x4096, .f32⟩
  | .hbm, ⟨43, _⟩ => ⟨S4x1x4096x1, .f32⟩
  | .hbm, ⟨44, _⟩ => ⟨S4x1x4096x4096, .f32⟩
  | .hbm, ⟨45, _⟩ => ⟨S4x1x4096x4096, .f32⟩
  | .hbm, ⟨46, _⟩ => ⟨S4x1x4096x1, .f32⟩
  | .hbm, ⟨47, _⟩ => ⟨S_, .f32⟩
  | .hbm, ⟨48, _⟩ => ⟨S4x1x4096x1, .f32⟩
  | .hbm, ⟨49, _⟩ => ⟨S4x1x4096x1, .f32⟩
  | .hbm, ⟨50, _⟩ => ⟨S4x128x1x4096, .f32⟩
  | .hbm, ⟨51, _⟩ => ⟨S4096x4x1x128, .f32⟩
  | .hbm, ⟨52, _⟩ => ⟨S4x128x1x4096, .f32⟩
  | .hbm, ⟨53, _⟩ => ⟨S4x1x4096x4096, .f32⟩
  | .hbm, ⟨54, _⟩ => ⟨S4x128x4096, .f32⟩
  | .hbm, ⟨55, _⟩ => ⟨S4096x4x128, .f32⟩
  | .hbm, ⟨56, _⟩ => ⟨S4x1x4096x4096, .f32⟩
  | .hbm, ⟨57, _⟩ => ⟨S4x1x4096x4096, .f32⟩
  | .hbm, ⟨58, _⟩ => ⟨S4x1x4096x4096, .f32⟩
  | .hbm, ⟨59, _⟩ => ⟨S_, .f32⟩
  | .hbm, ⟨60, _⟩ => ⟨S4x1x4096, .f32⟩
  | .hbm, ⟨61, _⟩ => ⟨S4x1x4096x1, .f32⟩
  | .hbm, ⟨62, _⟩ => ⟨S4x1x4096x1, .f32⟩
  | .hbm, ⟨63, _⟩ => ⟨S4x1x4096x4096, .f32⟩
  | .hbm, ⟨64, _⟩ => ⟨S4x1x4096x4096, .f32⟩
  | .hbm, ⟨65, _⟩ => ⟨S_, .f32⟩
  | .hbm, ⟨66, _⟩ => ⟨S4x4096, .f32⟩
  | .hbm, ⟨67, _⟩ => ⟨S4x1x4096, .f32⟩
  | .hbm, ⟨68, _⟩ => ⟨S4x1x4096x4096, .f32⟩
  | .hbm, ⟨69, _⟩ => ⟨S4x1x4096x4096, .f32⟩
  | .hbm, ⟨70, _⟩ => ⟨S4x1x4096x4096, .f32⟩
  | .hbm, ⟨71, _⟩ => ⟨S4x1x4096x4096, .f32⟩
  | .hbm, ⟨72, _⟩ => ⟨S4x1x4096x4096, .f32⟩
  | .hbm, ⟨73, _⟩ => ⟨S4x4096x4096x1, .f32⟩
  | .hbm, ⟨74, _⟩ => ⟨S4x4096x1x192, .f32⟩
  | .hbm, ⟨75, _⟩ => ⟨S4096x4x1x192, .f32⟩
  | .hbm, ⟨76, _⟩ => ⟨S4x4096x192, .f32⟩
  | .hbm, ⟨77, _⟩ => ⟨S4096x4x192, .f32⟩
  | .hbm, ⟨78, _⟩ => ⟨S4096x4x192, .f32⟩
  | .hbm, ⟨79, _⟩ => ⟨S4096x4x128, .f32⟩
  | .hbm, ⟨80, _⟩ => ⟨S_, .f32⟩
  | .hbm, ⟨81, _⟩ => ⟨S4096x4x64, .f32⟩
  | .hbm, ⟨82, _⟩ => ⟨S4096x4x64, .f32⟩
  | .hbm, ⟨83, _⟩ => ⟨S4096x4x256, .f32⟩
  | .hbm, ⟨84, _⟩ => ⟨S4096x1024, .f32⟩
  | .hbm, ⟨85, _⟩ => ⟨S4096x4x128, .f32⟩
  | .hbm, ⟨86, _⟩ => ⟨S_, .f32⟩
  | .hbm, ⟨87, _⟩ => ⟨S4096x4x64, .f32⟩
  | .hbm, ⟨88, _⟩ => ⟨S4096x4x64, .f32⟩
  | .hbm, ⟨89, _⟩ => ⟨S4096x4x256, .f32⟩
  | .hbm, ⟨90, _⟩ => ⟨S4096x1024, .f32⟩
  | .hbm, ⟨91, _⟩ => ⟨S4096x512, .f32⟩
  | _, _ => ⟨S4096x4x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_cst_8 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_13 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== In.lean ====
abbrev S4096x2048 : Shape := ⟨2, ![4096, 2048]⟩
abbrev S2048x4608 : Shape := ⟨2, ![2048, 4608]⟩
abbrev S4608x2048 : Shape := ⟨2, ![4608, 2048]⟩
abbrev S4096x4608 : Shape := ⟨2, ![4096, 4608]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4608, .f32⟩
  | .hbm, ⟨2, _⟩ => ⟨S4096x2048, .bf16⟩
  | .hbm, ⟨3, _⟩ => ⟨S4608x2048, .f32⟩
  | .hbm, ⟨4, _⟩ => ⟨S4608x2048, .bf16⟩
  | .hbm, ⟨5, _⟩ => ⟨S4096x4608, .bf16⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .bf16⟩
  | .local _ .vmem, ⟨5, _⟩ => ⟨S1024x768, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x2048 : Shape := ⟨2, ![4096, 2048]⟩
abbrev S2048x4608 : Shape := ⟨2, ![2048, 4608]⟩
abbrev S4096x4608 : Shape := ⟨2, ![4096, 4608]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4608, .f32⟩
  | .hbm, ⟨2, _⟩ => ⟨S4096x4608, .f32⟩
  | .hbm, ⟨3, _⟩ => ⟨S4096x4608, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDx.lean ====
abbrev S4096x4608 : Shape := ⟨2, ![4096, 4608]⟩
abbrev S2048x4608 : Shape := ⟨2, ![2048, 4608]⟩
abbrev S4608x2048 : Shape := ⟨2, ![4608, 2048]⟩
abbrev S4096x2048 : Shape := ⟨2, ![4096, 2048]⟩
abbrev S1024x2304 : Shape := ⟨2, ![1024, 2304]⟩
abbrev S2304x1024 : Shape := ⟨2, ![2304, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4608, .f32⟩
  | .hbm, ⟨1, _⟩ => ⟨S2048x4608, .f32⟩
  | .hbm, ⟨2, _⟩ => ⟨S4096x4608, .bf16⟩
  | .hbm, ⟨3, _⟩ => ⟨S4608x2048, .f32⟩
  | .hbm, ⟨4, _⟩ => ⟨S4608x2048, .bf16⟩
  | .hbm, ⟨5, _⟩ => ⟨S4096x2048, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxReferenceIdeal.lean ====
abbrev S4096x4608 : Shape := ⟨2, ![4096, 4608]⟩
abbrev S2048x4608 : Shape := ⟨2, ![2048, 4608]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S2048x4608, .f32⟩
  | .hbm, ⟨2, _⟩ => ⟨S_, .f32⟩
  | .hbm, ⟨3, _⟩ => ⟨S4096x2048, .f32⟩
  | .hbm, ⟨4, _⟩ => ⟨S4096x4608, .f32⟩
  | .hbm, ⟨5, _⟩ => ⟨S4096x2048, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InDw.lean ====
abbrev S4096x4608 : Shape := ⟨2, ![4096, 4608]⟩
abbrev S4096x2048 : Shape := ⟨2, ![4096, 2048]⟩
abbrev S4608x2048 : Shape := ⟨2, ![4608, 2048]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4608, .f32⟩
  | .hbm, ⟨1, _⟩ => ⟨S4096x2048, .f32⟩
  | .hbm, ⟨2, _⟩ => ⟨S4096x4608, .bf16⟩
  | .hbm, ⟨3, _⟩ => ⟨S4096x2048, .bf16⟩
  | .hbm, ⟨4, _⟩ => ⟨S4608x2048, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x4608 : Shape := ⟨2, ![4096, 4608]⟩
abbrev S4096x2048 : Shape := ⟨2, ![4096, 2048]⟩
abbrev S_ : Shape := ⟨0, ![]⟩
abbrev S2048x4608 : Shape := ⟨2, ![2048, 4608]⟩
abbrev S4608x2048 : Shape := ⟨2, ![4608, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4096x2048, .f32⟩
  | .hbm, ⟨2, _⟩ => ⟨S_, .f32⟩
  | .hbm, ⟨3, _⟩ => ⟨S2048x4608, .f32⟩
  | .hbm, ⟨4, _⟩ => ⟨S4096x4608, .f32⟩
  | .hbm, ⟨5, _⟩ => ⟨S4608x2048, .f32⟩
  | .hbm, ⟨6, _⟩ => ⟨S2048x4608, .f32⟩
  | .hbm, ⟨7, _⟩ => ⟨S4608x2048, .f32⟩
  | .hbm, ⟨8, _⟩ => ⟨S4608x2048, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Attn.Softmax.lean ====
/- The mathematics of one row of softmax attention and of its gradient, over the reals, and the way from finite
   extended reals to it. Nothing here speaks of a program. -/
module

public import Idealize.ShloMosaic.PureOps.Ideal
public import Idealize.ShloMosaic.PureOps.Ideal.Laws
public import Idealize.ShloMosaic.Lib.IdealHost
public import Mathlib.Analysis.SpecialFunctions.Pow.Real
public import Mathlib.Analysis.SpecialFunctions.Log.Basic

@[expose] public section

noncomputable section

namespace Cert.Softmax

open Idealize.ShloMosaic

/-! ## Sums, maxima and quotients of finite extended reals -/

/-- A finite sum of reals, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest entry of a row. -/
def rowMax {n : ℕ} [NeZero n] (x : Fin n → ℝ) : ℝ := Finset.univ.sup' ⟨0, Finset.mem_univ _⟩ x

/-- The maximum of finitely many reals, folded among the extended reals from −∞, is the real maximum. -/
theorem fold_max_coe {n : ℕ} [NeZero n] (x : Fin n → ℝ) :
    Finset.fold max (⊥ : EReal) (fun j => ((x j : ℝ) : EReal)) Finset.univ = ((rowMax x : ℝ) : EReal) := by
  refine le_antisymm ?_ ?_
  · rw [Finset.fold_max_le]
    exact ⟨bot_le, fun j _ => EReal.coe_le_coe_iff.2 (Finset.le_sup' x (Finset.mem_univ j))⟩
  · rw [Finset.le_fold_max]
    obtain ⟨j, hj, h⟩ := Finset.exists_mem_eq_sup' (⟨0, Finset.mem_univ _⟩ : (Finset.univ : Finset (Fin n)).Nonempty) x
    exact Or.inr ⟨j, hj, by rw [rowMax, h]⟩

/-- The quotient of reals with a divisor that is not zero. -/
theorem div_coe_coe (x : ℝ) {y : ℝ} (h : y ≠ 0) : Ideal.div (x : EReal) (y : EReal) = ((x / y : ℝ) : EReal) := by
  rw [Ideal.div_coe h, ← EReal.coe_mul, mul_one_div]

/-- A sum of exponentials over a row is positive. -/
theorem sum_exp_pos {n : ℕ} [NeZero n] (f : Fin n → ℝ) : 0 < ∑ j, Real.exp (f j) :=
  Finset.sum_pos (fun _ _ => Real.exp_pos _) ⟨0, Finset.mem_univ _⟩

/-- The logarithm of a sum of exponentials is real. -/
theorem log_sum_exp {n : ℕ} [NeZero n] (f : Fin n → ℝ) :
    Ideal.log ((∑ j, Real.exp (f j) : ℝ) : EReal) = ((Real.log (∑ j, Real.exp (f j)) : ℝ) : EReal) := by
  rw [Ideal.log_coe, if_neg (not_le.2 (sum_exp_pos f))]

/-- A real over a sum of exponentials is real. -/
theorem div_sum_exp {n : ℕ} [NeZero n] (a : ℝ) (f : Fin n → ℝ) :
    Ideal.div (a : EReal) ((∑ j, Real.exp (f j) : ℝ) : EReal) = ((a / ∑ j, Real.exp (f j) : ℝ) : EReal) :=
  div_coe_coe a (sum_exp_pos f).ne'

/-- The f32 word of −∞. -/
theorem ofBits_neg_inf : Ideal.ofBits .f32 0xFF800000#32 = (⊥ : EReal) := by
  simp [Ideal.ofBits, Ideal.ieee]

/-! ## One row: scores, probabilities, gradients -/

variable {n d e : ℕ}

/-- The score of a query row `a` against key `j`, scaled by `c`. -/
def score (c : ℝ) (a : Fin d → ℝ) (K : Fin n → Fin d → ℝ) (j : Fin n) : ℝ := (∑ x, a x * K j x) * c

/-- The softmax of a row of scores. -/
def prob (x : Fin n → ℝ) (j : Fin n) : ℝ := Real.exp (x j) / ∑ l, Real.exp (x l)

/-- The logarithm of the row's sum of exponentials, computed about the row's maximum. -/
def lse [NeZero n] (x : Fin n → ℝ) : ℝ := rowMax x + Real.log (∑ l, Real.exp (x l - rowMax x))

/-- The gradient of a row's probabilities: the cotangent row against each value row. -/
def dprob (ct : Fin e → ℝ) (W : Fin n → Fin e → ℝ) (j : Fin n) : ℝ := ∑ f, ct f * W j f

/-- The gradient of a row's unscaled scores, from the scores `x` and the gradient `y` of the probabilities. -/
def dscore (c : ℝ) (x y : Fin n → ℝ) (j : Fin n) : ℝ := prob x j * (y j - ∑ l, prob x l * y l) * c

/-- The softmax does not change when one number is taken from every score. -/
theorem prob_shift (x : Fin n → ℝ) (s : ℝ) (j : Fin n) :
    Real.exp (x j - s) / ∑ l, Real.exp (x l - s) = prob x j := by
  simp only [Real.exp_sub, prob]
  rw [← Finset.sum_div, div_div_div_cancel_right₀ (Real.exp_pos s).ne']

/-- The probability of key `j` from the row's log-sum. -/
theorem exp_sub_lse [NeZero n] (x : Fin n → ℝ) (j : Fin n) : Real.exp (x j - lse x) = prob x j := by
  rw [lse, ← sub_sub, Real.exp_sub, Real.exp_log (sum_exp_pos _), prob_shift]

/-- The same as a power of two: the scores scaled by `c / log 2`, the log-sum by `1 / log 2`. -/
theorem rpow_sub_lse [NeZero n] (c : ℝ) (a : Fin d → ℝ) (K : Fin n → Fin d → ℝ) (j : Fin n) :
    Real.rpow 2 ((∑ x, a x * K j x) * (c * (Real.log 2)⁻¹) - lse (score c a K) * (Real.log 2)⁻¹) = prob (score c a K) j := by
  have h2 : Real.log 2 ≠ 0 := (Real.log_pos one_lt_two).ne'
  rw [← exp_sub_lse, Real.rpow_eq_pow, Real.rpow_def_of_pos two_pos]
  congr 1
  rw [score]
  field_simp

/-- The row sum of output times cotangent is the row sum of probability times its gradient. -/
theorem sum_ct_out (x : Fin n → ℝ) (ct : Fin e → ℝ) (W : Fin n → Fin e → ℝ) :
    ∑ f, ct f * ∑ j, W j f * prob x j = ∑ j, prob x j * dprob ct W j := by
  simp only [dprob, Finset.mul_sum]
  rw [Finset.sum_comm]
  exact Finset.sum_congr rfl fun _ _ => Finset.sum_congr rfl fun _ _ => by ring

/-- The gradient of the scores in the form that differentiating `exp (x - s) / ∑ exp (x - s)` gives it, quotient
    and sum apart. -/
theorem dscore_quotient [NeZero n] (c : ℝ) (x y : Fin n → ℝ) (s : ℝ) (j : Fin n) :
    (y j / (∑ l, Real.exp (x l - s))
      + -(∑ l, y l * (1 / ((∑ k, Real.exp (x k - s)) * ∑ k, Real.exp (x k - s))) * Real.exp (x l - s)))
        * Real.exp (x j - s) * c = dscore c x y j := by
  have hD := (sum_exp_pos fun l => x l - s).ne'
  have hp : ∀ l, Real.exp (x l - s) = prob x l * ∑ k, Real.exp (x k - s) := fun l => by
    rw [← prob_shift x s l, div_mul_cancel₀ _ hD]
  have hs : ∑ l, y l * (1 / ((∑ k, Real.exp (x k - s)) * ∑ k, Real.exp (x k - s))) * Real.exp (x l - s)
      = (∑ l, prob x l * y l) / ∑ k, Real.exp (x k - s) := by
    rw [Finset.sum_div]
    refine Finset.sum_congr rfl fun l _ => ?_
    rw [hp l]
    generalize (∑ k, Real.exp (x k - s)) = D at hD ⊢
    field_simp
  rw [hs, hp j, dscore]
  generalize (∑ k, Real.exp (x k - s)) = D at hD ⊢
  field_simp
  ring

/-! ## The same rows among the extended reals, every entry finite -/

/-- A row of scores, the key first in each product. -/
theorem score_of_coe {A : Fin d → EReal} {K : Fin n → Fin d → EReal} {c₀ : EReal} {a : Fin d → ℝ} {κ : Fin n → Fin d → ℝ} {c : ℝ}
    (hA : ∀ x, A x = ((a x : ℝ) : EReal)) (hK : ∀ j x, K j x = ((κ j x : ℝ) : EReal)) (hc : c₀ = ((c : ℝ) : EReal)) (j : Fin n) :
    (∑ x, K j x * A x) * c₀ = ((score c a κ j : ℝ) : EReal) := by
  simp only [hA, hK, hc, ← EReal.coe_mul, coe_sum, score]
  exact congrArg _ (congrArg (· * c) (Finset.sum_congr rfl fun _ _ => mul_comm _ _))

/-- A row's greatest score. -/
theorem rowMax_of_coe [NeZero n] {S : Fin n → EReal} {x : Fin n → ℝ} (hS : ∀ j, S j = ((x j : ℝ) : EReal)) :
    Finset.fold max (Ideal.ofBits .f32 0xFF800000#32) (fun j => S j) Finset.univ = ((rowMax x : ℝ) : EReal) := by
  simp only [hS, ofBits_neg_inf, fold_max_coe]

/-- A row's log-sum about its maximum. -/
theorem lse_of_coe [NeZero n] {S : Fin n → EReal} {x : Fin n → ℝ} (hS : ∀ j, S j = ((x j : ℝ) : EReal)) :
    Finset.fold max (Ideal.ofBits .f32 0xFF800000#32) (fun j => S j) Finset.univ
        + Ideal.log (∑ j, Ideal.exp (S j - Finset.fold max (Ideal.ofBits .f32 0xFF800000#32) (fun j => S j) Finset.univ))
      = ((lse x : ℝ) : EReal) := by
  rw [rowMax_of_coe hS]
  simp only [hS, ← EReal.coe_sub, Ideal.exp_coe, coe_sum, log_sum_exp, ← EReal.coe_add, lse]

/-- A row's probability, the maximum taken from every score. -/
theorem prob_of_coe [NeZero n] {S : Fin n → EReal} {x : Fin n → ℝ} (hS : ∀ j, S j = ((x j : ℝ) : EReal)) (j : Fin n) :
    Ideal.div (Ideal.exp (S j - Finset.fold max (Ideal.ofBits .f32 0xFF800000#32) (fun j => S j) Finset.univ))
        (∑ j, Ideal.exp (S j - Finset.fold max (Ideal.ofBits .f32 0xFF800000#32) (fun j => S j) Finset.univ))
      = ((prob x j : ℝ) : EReal) := by
  rw [rowMax_of_coe hS]
  simp only [hS, ← EReal.coe_sub, Ideal.exp_coe, coe_sum, div_sum_exp, prob_shift]

/-- A row's sum of output times cotangent, the output a sum of value times probability. -/
theorem delta_of_coe {T : Fin e → EReal} {W : Fin n → Fin e → EReal} {P : Fin n → EReal} {t : Fin e → ℝ} {w : Fin n → Fin e → ℝ}
    {x : Fin n → ℝ} (hT : ∀ f, T f = ((t f : ℝ) : EReal)) (hW : ∀ j f, W j f = ((w j f : ℝ) : EReal))
    (hP : ∀ j, P j = ((prob x j : ℝ) : EReal)) :
    ∑ f, T f * ∑ j, W j f * P j = ((∑ j, prob x j * dprob t w j : ℝ) : EReal) := by
  simp only [hT, hW, hP, ← EReal.coe_mul, coe_sum, sum_ct_out]

end Cert.Softmax

end
-- ==== Proof.Attn.HostStagesB.lean ====
/- The host code before the call, one stage at a time: the scores, their row maxima, the exponentials, their sums, the
   log-sums, the output, each read at an index of finite arguments. -/
module

public import proofs.«01_k».proof.Proof.Gen.KernelIdeal
public import proofs.«01_k».proof.Proof.Attn.Softmax
public import Idealize.ShloMosaic.Lib.Pointwise

@[expose] public section

set_option maxRecDepth 16384

noncomputable section

open Idealize.ShloMosaic Idealize.ShloMosaic.TcCoe Idealize.SL.Sem

namespace Cert.Softmax

/-- The scale of the scores: the real that the literal's f32 word is. -/
def scaleH : ℝ := 11863283 / 134217728

theorem ofBits_scaleH : Ideal.ofBits .f32 0x3DB504F3#32 = ((scaleH : ℝ) : EReal) := by
  unfold scaleH
  simp [Ideal.ofBits, Ideal.ieee, -EReal.coe_mul]; norm_num

end Cert.Softmax

namespace Cert.KernelIdeal.AttnB
open Cert.KernelIdeal Cert.KernelIdeal.Gen Cert.Softmax

/-- Every score, scaled. -/
def stScore (A : FVec Ideal S4096x2x3x128 .f32) (K : FVec Ideal S4096x2x128 .f32) : FVec Ideal S2x3x4096x4096 .f32 :=
  mulf (transpose S2x3x4096x4096 [0, 3, 2, 1] (Host.dotGeneral dot_S4096x2x128_S4096x2x3x128_S2x4096x4096x3_2_3_0_02_1_1 none K A) transposes_S2x4096x4096x3_S2x3x4096x4096_0_3_2_1)
    (broadcastInDim S2x3x4096x4096 ![] bcast_S_S2x3x4096x4096 (constant S_ .f32 0x3DB504F3#32))

/-- Each row's greatest score. -/
def stMax (S : FVec Ideal S2x3x4096x4096 .f32) : FVec Ideal S2x3x4096x1 .f32 :=
  broadcastInDim S2x3x4096x1 ![0, 1, 2] bcast_S2x3x4096_S2x3x4096x1_0_1_2
    (Host.reduce FloatOps.maximumf S (constant S_ .f32 0xFF800000#32) reducesTo_S2x3x4096x4096_S2x3x4096_d3 h_S_)

/-- The exponentials about the maxima. -/
def stExp (S : FVec Ideal S2x3x4096x4096 .f32) (M : FVec Ideal S2x3x4096x1 .f32) : FVec Ideal S2x3x4096x4096 .f32 :=
  Host.exp (subf S (broadcastInDim S2x3x4096x4096 ![0, 1, 2, 3] bcast_S2x3x4096x1_S2x3x4096x4096_0_1_2_3 M))

/-- Each row's sum of exponentials. -/
def stSum (E : FVec Ideal S2x3x4096x4096 .f32) : FVec Ideal S2x3x4096x1 .f32 :=
  broadcastInDim S2x3x4096x1 ![0, 1, 2] bcast_S2x3x4096_S2x3x4096x1_0_1_2
    (Host.reduceAdd E (constant S_ .f32 0x00000000#32) reducesTo_S2x3x4096x4096_S2x3x4096_d3 h_S_)

/-- Each row's log-sum, the query row first. -/
def stLse (M D : FVec Ideal S2x3x4096x1 .f32) : FVec Ideal S4096x2x3 .f32 :=
  transpose S4096x2x3 [2, 0, 1] (shapeCast S2x3x4096 (addf M (Host.log D)) shapeCasts_S2x3x4096x1_S2x3x4096) transposes_S2x3x4096_S4096x2x3_2_0_1

/-- The probabilities. -/
def stProb (E : FVec Ideal S2x3x4096x4096 .f32) (D : FVec Ideal S2x3x4096x1 .f32) : FVec Ideal S2x3x4096x4096 .f32 :=
  Host.divf E (broadcastInDim S2x3x4096x4096 ![0, 1, 2, 3] bcast_S2x3x4096x1_S2x3x4096x4096_0_1_2_3 D)

/-- Each row's sum of output times cotangent. -/
def stDelta (W : FVec Ideal S4096x2x128 .f32) (P : FVec Ideal S2x3x4096x4096 .f32) (T : FVec Ideal S4096x2x3x128 .f32) : FVec Ideal S4096x2x3 .f32 :=
  Host.reduceAdd (mulf T (transpose S4096x2x3x128 [3, 0, 2, 1] (Host.dotGeneral dot_S4096x2x128_S2x3x4096x4096_S2x128x3x4096_0_3_2_12_1_0 none W P) transposes_S2x128x3x4096_S4096x2x3x128_3_0_2_1))
    (constant S_ .f32 0x00000000#32) reducesTo_S4096x2x3x128_S4096x2x3_d3 h_S_

/-- One number per row and head, repeated over the head's 128 lanes. -/
def stLanes (r : FVec Ideal S4096x2x3 .f32) : FVec Ideal S4096x768 .f32 :=
  shapeCast S4096x768 (broadcastInDim S4096x6x128 ![0, 1, 2] bcast_S4096x6x1_S4096x6x128_0_1_2 (shapeCast S4096x6x1 r shapeCasts_S4096x2x3_S4096x6x1)) shapeCasts_S4096x6x128_S4096x768

section at_index
variable (A T : FVec Ideal S4096x2x3x128 .f32) (K W : FVec Ideal S4096x2x128 .f32) (S E P : FVec Ideal S2x3x4096x4096 .f32)
  (M D : FVec Ideal S2x3x4096x1 .f32) (r : FVec Ideal S4096x2x3 .f32) (h : Fin 2) (g : Fin 3) (i j : Fin 4096)

theorem stScore_at : stScore A K (ix4 h g i j) = (∑ x : Fin 128, K (ix3 j h x) * A (ix4 i h g x)) * Ideal.ofBits .f32 0x3DB504F3#32 := by
  pointwise [stScore]
theorem stMax_at : stMax S (ix4 h g i 0) = Finset.fold max (Ideal.ofBits .f32 0xFF800000#32) (fun j : Fin 4096 => S (ix4 h g i j)) Finset.univ := by
  pointwise [stMax]
theorem stExp_at : stExp S M (ix4 h g i j) = Ideal.exp (S (ix4 h g i j) - M (ix4 h g i 0)) := by
  pointwise [stExp]
theorem stSum_at : stSum E (ix4 h g i 0) = ∑ j : Fin 4096, E (ix4 h g i j) := by
  pointwise [stSum]
theorem stLse_at : stLse M D (ix3 i h g) = M (ix4 h g i 0) + Ideal.log (D (ix4 h g i 0)) := by
  pointwise [stLse]
theorem stProb_at : stProb E D (ix4 h g i j) = Ideal.div (E (ix4 h g i j)) (D (ix4 h g i 0)) := by
  pointwise [stProb]
theorem stDelta_at : stDelta W P T (ix3 i h g) = ∑ f : Fin 128, T (ix4 i h g f) * ∑ j : Fin 4096, W (ix3 j h f) * P (ix4 h g i j) := by
  pointwise [stDelta]
theorem stLanes_at (l : Fin 768) (x : Fin 128) (hl : (l : ℕ) = (h * 3 + g) * 128 + x) : stLanes r (ix2 i l) = r (ix3 i h g) := by
  pointwise [stLanes]
  congr 2 <;> exact Fin.ext (by simp only []; omega)
end at_index

end Cert.KernelIdeal.AttnB

end
-- ==== Proof.Attn.HostB.lean ====
/- What the kernel's host code hands to the call, of finite arguments: the flattened arrays, and each row's log-sum
   and row sum of output times cotangent, repeated over 128 lanes. -/
module

public import proofs.«01_k».proof.Proof.Gen.KernelIdeal.Value
public import proofs.«01_k».proof.Proof.Attn.HostStagesB
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.AttnB
open Cert.KernelIdeal Cert.KernelIdeal.Gen Cert.Softmax

variable (m : (ℓ : Loc nD τ sig) → Buf (Elt Ideal) ℓ)

/-- The four arguments on device `c` are the real arrays `q`, `k`, `v`, `ct`. -/
structure Reals (c : Dev nD) (q : Fin 4096 → Fin 2 → Fin 3 → Fin 128 → ℝ) (k v : Fin 4096 → Fin 2 → Fin 128 → ℝ)
    (ct : Fin 4096 → Fin 2 → Fin 3 → Fin 128 → ℝ) : Prop where
  hq : ∀ i h g x, (m ((c : Thread nD τ).loc main_arg0) : FVec Ideal S4096x2x3x128 .f32) (ix4 i h g x) = ((q i h g x : ℝ) : EReal)
  hk : ∀ i h x, (m ((c : Thread nD τ).loc main_arg1) : FVec Ideal S4096x2x128 .f32) (ix3 i h x) = ((k i h x : ℝ) : EReal)
  hv : ∀ i h x, (m ((c : Thread nD τ).loc main_arg2) : FVec Ideal S4096x2x128 .f32) (ix3 i h x) = ((v i h x : ℝ) : EReal)
  hct : ∀ i h g x, (m ((c : Thread nD τ).loc main_arg3) : FVec Ideal S4096x2x3x128 .f32) (ix4 i h g x) = ((ct i h g x : ℝ) : EReal)

/-- Query row `i` of head `(h, g)`, scored against every key. -/
def X (q : Fin 4096 → Fin 2 → Fin 3 → Fin 128 → ℝ) (k : Fin 4096 → Fin 2 → Fin 128 → ℝ) (h : Fin 2) (g : Fin 3) (i : Fin 4096) :
    Fin 4096 → ℝ := score scaleH (q i h g) (fun j => k j h)

/-- The gradient of that row's probabilities. -/
def Y (v : Fin 4096 → Fin 2 → Fin 128 → ℝ) (ct : Fin 4096 → Fin 2 → Fin 3 → Fin 128 → ℝ) (h : Fin 2) (g : Fin 3) (i : Fin 4096) :
    Fin 4096 → ℝ := dprob (ct i h g) (fun j => v j h)

variable {m} {c : Dev nD} {q : Fin 4096 → Fin 2 → Fin 3 → Fin 128 → ℝ} {k v : Fin 4096 → Fin 2 → Fin 128 → ℝ}
  {ct : Fin 4096 → Fin 2 → Fin 3 → Fin 128 → ℝ} (R : Reals m c q k v ct)
include R

/-- The query array, heads side by side. -/
theorem Reals.v22_at (i : Fin 4096) (l : Fin 768) (h : Fin 2) (g : Fin 3) (x : Fin 128) (hl : (l : ℕ) = (h * 3 + g) * 128 + x) :
    (V m c main_v22 : FVec Ideal S4096x768 .bf16) (ix2 i l) = ((q i h g x : ℝ) : EReal) := by
  entry_read
  pointwise
  refine Eq.trans ?_ (R.hq i h g x)
  congr 2 <;> exact Fin.ext (by simp only []; omega)

/-- The cotangent array, heads side by side. -/
theorem Reals.v28_at (i : Fin 4096) (l : Fin 768) (h : Fin 2) (g : Fin 3) (x : Fin 128) (hl : (l : ℕ) = (h * 3 + g) * 128 + x) :
    (V m c main_v28 : FVec Ideal S4096x768 .bf16) (ix2 i l) = ((ct i h g x : ℝ) : EReal) := by
  entry_read
  pointwise
  refine Eq.trans ?_ (R.hct i h g x)
  congr 2 <;> exact Fin.ext (by simp only []; omega)

/-- The key array, heads side by side. -/
theorem Reals.v24_at (i : Fin 4096) (l : Fin 256) (h : Fin 2) (x : Fin 128) (hl : (l : ℕ) = h * 128 + x) :
    (V m c main_v24 : FVec Ideal S4096x256 .bf16) (ix2 i l) = ((k i h x : ℝ) : EReal) := by
  entry_read
  pointwise
  refine Eq.trans ?_ (R.hk i h x)
  congr 2 <;> exact Fin.ext (by simp only []; omega)

/-- The value array, heads side by side. -/
theorem Reals.v26_at (i : Fin 4096) (l : Fin 256) (h : Fin 2) (x : Fin 128) (hl : (l : ℕ) = h * 128 + x) :
    (V m c main_v26 : FVec Ideal S4096x256 .bf16) (ix2 i l) = ((v i h x : ℝ) : EReal) := by
  entry_read
  pointwise
  refine Eq.trans ?_ (R.hv i h x)
  congr 2 <;> exact Fin.ext (by simp only []; omega)

/-- The scores of finite arguments. -/
theorem Reals.stScore_coe (h : Fin 2) (g : Fin 3) (i j : Fin 4096) :
    stScore (m ((c : Thread nD τ).loc main_arg0)) (m ((c : Thread nD τ).loc main_arg1)) (ix4 h g i j) = ((X q k h g i j : ℝ) : EReal) :=
  (stScore_at ..).trans (score_of_coe (fun x => R.hq i h g x) (fun j x => R.hk j h x) ofBits_scaleH j)

/-- Their row maxima. -/
theorem Reals.stMax_coe (h : Fin 2) (g : Fin 3) (i : Fin 4096) :
    stMax (stScore (m ((c : Thread nD τ).loc main_arg0)) (m ((c : Thread nD τ).loc main_arg1))) (ix4 h g i 0) = ((rowMax (X q k h g i) : ℝ) : EReal) :=
  (stMax_at ..).trans (rowMax_of_coe (R.stScore_coe h g i))

/-- The exponentials about the maxima. -/
theorem Reals.stExp_coe (h : Fin 2) (g : Fin 3) (i j : Fin 4096) :
    stExp (stScore (m ((c : Thread nD τ).loc main_arg0)) (m ((c : Thread nD τ).loc main_arg1)))
        (stMax (stScore (m ((c : Thread nD τ).loc main_arg0)) (m ((c : Thread nD τ).loc main_arg1)))) (ix4 h g i j)
      = ((Real.exp (X q k h g i j - rowMax (X q k h g i)) : ℝ) : EReal) := by
  rw [stExp_at, R.stScore_coe, R.stMax_coe, ← EReal.coe_sub, Ideal.exp_coe]

/-- Their sums. -/
theorem Reals.stSum_coe (h : Fin 2) (g : Fin 3) (i : Fin 4096) :
    stSum (stExp (stScore (m ((c : Thread nD τ).loc main_arg0)) (m ((c : Thread nD τ).loc main_arg1)))
        (stMax (stScore (m ((c : Thread nD τ).loc main_arg0)) (m ((c : Thread nD τ).loc main_arg1))))) (ix4 h g i 0)
      = ((∑ j, Real.exp (X q k h g i j - rowMax (X q k h g i)) : ℝ) : EReal) := by
  rw [stSum_at, Finset.sum_congr rfl fun j _ => R.stExp_coe h g i j, coe_sum]

omit R in
/-- The log-sum operand is the stages' composition. -/
theorem v31_eq : (V m c main_v31 : FVec Ideal S4096x768 .f32)
    = let S := stScore (m ((c : Thread nD τ).loc main_arg0)) (m ((c : Thread nD τ).loc main_arg1))
      stLanes (stLse (stMax S) (stSum (stExp S (stMax S)))) := by
  entry_read
  rfl

omit R in
/-- The operand of the sums of output times cotangent is the stages' composition. -/
theorem v34_eq : (V m c main_v34 : FVec Ideal S4096x768 .f32)
    = let S := stScore (m ((c : Thread nD τ).loc main_arg0)) (m ((c : Thread nD τ).loc main_arg1))
      stLanes (stDelta (m ((c : Thread nD τ).loc main_arg2)) (stProb (stExp S (stMax S)) (stSum (stExp S (stMax S)))) (m ((c : Thread nD τ).loc main_arg3))) := by
  entry_read
  rfl

/-- Each row's log-sum, on every lane of its head. -/
theorem Reals.v31_at (i : Fin 4096) (l : Fin 768) (h : Fin 2) (g : Fin 3) (x : Fin 128) (hl : (l : ℕ) = (h * 3 + g) * 128 + x) :
    (V m c main_v31 : FVec Ideal S4096x768 .f32) (ix2 i l) = ((lse (X q k h g i) : ℝ) : EReal) := by
  rw [v31_eq]
  refine (stLanes_at _ h g i l x hl).trans ((stLse_at ..).trans ?_)
  rw [R.stMax_coe, R.stSum_coe, log_sum_exp, ← EReal.coe_add, lse]

/-- Each row's sum of output times cotangent, on every lane of its head. -/
theorem Reals.v34_at (i : Fin 4096) (l : Fin 768) (h : Fin 2) (g : Fin 3) (x : Fin 128) (hl : (l : ℕ) = (h * 3 + g) * 128 + x) :
    (V m c main_v34 : FVec Ideal S4096x768 .f32) (ix2 i l) = ((∑ j, prob (X q k h g i) j * Y v ct h g i j : ℝ) : EReal) := by
  rw [v34_eq]
  refine (stLanes_at _ h g i l x hl).trans ((stDelta_at ..).trans ?_)
  refine delta_of_coe (fun f => R.hct i h g f) (fun j f => R.hv j h f) fun j => ?_
  refine (stProb_at ..).trans ?_
  rw [R.stExp_coe, R.stSum_coe, div_sum_exp, prob_shift]

end Cert.KernelIdeal.AttnB

end
-- ==== Proof.Attn.Finite.lean ====
/- What the precondition `finite` gives: every entry of the four arguments is a real number. -/
module

public import proofs.«01_k».proof.Defs
public import proofs.«01_k».proof.Proof.Gen.Pre_finite
public import proofs.«01_k».proof.Proof.Attn.HostB
public import Idealize.ShloMosaic.Lib.ReduceAll

@[expose] public section

set_option maxRecDepth 16384

noncomputable section

open Idealize.ShloMosaic Idealize.ShloMosaic.TcCoe Idealize.SL.Sem

namespace Cert.Finite
open Cert.Pre_finite Cert.KernelIdeal.AttnB

instance : Subsingleton S_.Idx := ⟨fun a b => funext fun x => x.elim0⟩

/-- An extended real whose absolute value lies below the f32 word of +∞ is a real number. -/
theorem real_of_lt (x : EReal) (h : Ideal.cmp .olt (max x (-x)) (Ideal.ofBits .f32 0x7F800000#32) = 1#1) : x = ((x.toReal : ℝ) : EReal) := by
  have e : Ideal.ofBits .f32 0x7F800000#32 = (⊤ : EReal) := by simp [Ideal.ofBits, Ideal.ieee]
  rw [e] at h
  have h2 : max x (-x) < ⊤ := by
    by_contra hn
    simp [Ideal.cmp, hn] at h
  refine (EReal.coe_toReal ?_ ?_).symm
  · rintro rfl; simp at h2
  · rintro rfl; simp at h2

/-- The host's test `all (|x| < ∞)`, of one array: where it is one, every entry is a real number. -/
theorem real_of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    x i = (((x i : EReal).toReal : ℝ) : EReal) :=
  real_of_lt _ (Host.reduce_andi_all _ _ _ _ j e i)

/-- The precondition, of four arrays: every entry of each is a real number. -/
theorem real_of_fn (x0 : FVec Ideal S4096x2x3x128 .f32) (x1 x2 : FVec Ideal S4096x2x128 .f32) (x3 : FVec Ideal S4096x2x3x128 .f32)
    (e : Cert.Pre_finite.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have e0 := congrFun e (fun x => x.elim0)
  obtain ⟨e0, e3⟩ := IntOp.andi_eq_one.1 e0
  obtain ⟨e0, e2⟩ := IntOp.andi_eq_one.1 e0
  obtain ⟨e0, e1⟩ := IntOp.andi_eq_one.1 e0
  exact ⟨real_of_all x0 Facts.bcast_S_S4096x2x3x128 Facts.reducesTo_S4096x2x3x128_S_d0_1_2_3 Facts.h_S_ (fun x => x.elim0) e0,
    real_of_all x1 Facts.bcast_S_S4096x2x128 Facts.reducesTo_S4096x2x128_S_d0_1_2 Facts.h_S_ (fun x => x.elim0) e1,
    real_of_all x2 Facts.bcast_S_S4096x2x128 Facts.reducesTo_S4096x2x128_S_d0_1_2 Facts.h_S_ (fun x => x.elim0) e2,
    real_of_all x3 Facts.bcast_S_S4096x2x3x128 Facts.reducesTo_S4096x2x3x128_S_d0_1_2_3 Facts.h_S_ (fun x => x.elim0) e3⟩

/-- Where the precondition holds, the arguments of every device are real arrays. -/
theorem reals (m : (ℓ : Loc Cert.KernelIdeal.nD Cert.KernelIdeal.τ Cert.KernelIdeal.sig) → Buf (Elt Ideal) ℓ) (hm : Pre_KernelIdeal_finite m) (c : Dev Cert.KernelIdeal.nD) :
    ∃ q k v ct, Cert.KernelIdeal.AttnB.Reals m c q k v ct := by
  obtain ⟨h0, h1, h2, h3⟩ := real_of_fn _ _ _ _ (hm c)
  exact ⟨_, _, _, _, ⟨fun i h g x => h0 (ix4 i h g x), fun i h x => h1 (ix3 i h x), fun i h x => h2 (ix3 i h x), fun i h g x => h3 (ix4 i h g x)⟩⟩

end Cert.Finite

end
-- ==== Proof.Attn.RefStagesB.lean ====
/- The reference's stages, each read at an index: the scores, the softmax about the row maxima, and what differentiating
   them gives. -/
module

public import proofs.«01_k».proof.Proof.Gen.ReferenceIdeal.Read
public import proofs.«01_k».proof.Proof.Attn.Softmax
public import Idealize.ShloMosaic.Lib.Pointwise

@[expose] public section

set_option maxRecDepth 16384

noncomputable section

open Idealize.ShloMosaic Idealize.ShloMosaic.TcCoe Idealize.SL.Sem

namespace Cert.ReferenceIdeal.AttnB
open Cert.ReferenceIdeal Cert.ReferenceIdeal.Gen Cert.ReferenceIdeal.Read Cert.Softmax

variable (x0 x3 : FVec Ideal S4096x2x3x128 .f32) (x1 x2 : FVec Ideal S4096x2x128 .f32) (h : Fin 2) (g : Fin 3) (i j : Fin 4096)

theorem v3_at : val_main_v3 (F := Ideal) x0 x1 (ix4 h g i j) = (∑ x : Fin 128, x1 (ix3 j h x) * x0 (ix4 i h g x)) * Ideal.ofBits .f32 0x3DB504F3#32 := by
  pointwise [val_main_v3, val_main_v2, val_main_v1, val_main_v0, val_main_cst]

theorem v4_at : val_main_v4 (F := Ideal) x0 x1 (ix3 h g i)
    = Finset.fold max (Ideal.ofBits .f32 0xFF800000#32) (fun j : Fin 4096 => val_main_v3 (F := Ideal) x0 x1 (ix4 h g i j)) Finset.univ := by
  unfold val_main_v4
  generalize val_main_v3 (F := Ideal) x0 x1 = S
  pointwise [val_main_cst_0]

theorem max_neg_inf (b : EReal) : FloatOps.maximumf (F := Ideal) (φ := .f32) (Ideal.ofBits .f32 0xFF800000#32) b = b := by
  rw [ofBits_neg_inf]
  exact (max_eq_right bot_le : @max EReal _ ⊥ b = b)

theorem maximumf_at {s : Shape} (B S : FVec Ideal s .f32) (y : s.Idx) (r : EReal) (hb : B y = Ideal.ofBits .f32 0xFF800000#32) (hr : S y = r) :
    maximumf B S y = r := by
  show FloatOps.maximumf (B y) (S y) = r
  rw [hb, hr]
  exact max_neg_inf r

theorem v10_at : val_main_v10 (F := Ideal) (ix3 h g i) = Ideal.ofBits .f32 0xFF800000#32 := by
  pointwise [val_main_v10, val_main_cst_2]

theorem v11_at (r : EReal) (hr : val_main_v4 (F := Ideal) x0 x1 (ix3 h g i) = r) : val_main_v11 (F := Ideal) x0 x1 (ix3 h g i) = r :=
  maximumf_at _ _ _ r (v10_at h g i) hr

theorem v24_at : val_main_v24 (F := Ideal) x0 x1 (ix4 h g i j)
    = Ideal.exp (val_main_v3 (F := Ideal) x0 x1 (ix4 h g i j) - val_main_v11 (F := Ideal) x0 x1 (ix3 h g i)) := by
  unfold val_main_v24 val_main_v23 val_main_v22 val_main_v21
  generalize val_main_v3 (F := Ideal) x0 x1 = S
  generalize val_main_v11 (F := Ideal) x0 x1 = M
  pointwise

theorem v26_at : val_main_v26 (F := Ideal) x0 x1 (ix4 h g i 0) = ∑ j : Fin 4096, val_main_v24 (F := Ideal) x0 x1 (ix4 h g i j) := by
  unfold val_main_v26 val_main_v25
  generalize val_main_v24 (F := Ideal) x0 x1 = E
  pointwise [val_main_cst_8]

theorem v28_at : val_main_v28 (F := Ideal) x0 x1 (ix4 h g i j)
    = Ideal.div (val_main_v24 (F := Ideal) x0 x1 (ix4 h g i j)) (val_main_v26 (F := Ideal) x0 x1 (ix4 h g i 0)) := by
  unfold val_main_v28 val_main_v27
  generalize val_main_v24 (F := Ideal) x0 x1 = E
  generalize val_main_v26 (F := Ideal) x0 x1 = D
  pointwise

theorem v31_at : val_main_v31 (F := Ideal) x0 x1 (ix4 h g i 0)
    = Ideal.div 1 (val_main_v26 (F := Ideal) x0 x1 (ix4 h g i 0) * val_main_v26 (F := Ideal) x0 x1 (ix4 h g i 0)) := by
  unfold val_main_v31 val_main_v29
  generalize val_main_v26 (F := Ideal) x0 x1 = D
  pointwise [val_main_v30, val_main_cst_9]

theorem v35_at : val_main_v35 (F := Ideal) x2 x3 (ix4 h g i j) = ∑ f : Fin 128, x3 (ix4 i h g f) * x2 (ix3 j h f) := by
  pointwise [val_main_v35, val_main_v34]

theorem v46_at : val_main_v46 (F := Ideal) x0 x1 x2 x3 (ix3 h g i)
    = -∑ l : Fin 4096, val_main_v35 (F := Ideal) x2 x3 (ix4 h g i l) * val_main_v31 (F := Ideal) x0 x1 (ix4 h g i 0)
        * val_main_v24 (F := Ideal) x0 x1 (ix4 h g i l) := by
  unfold val_main_v46 val_main_v43 val_main_v42 val_main_v41 val_main_v40 val_main_v39 val_main_v38
  generalize val_main_v24 (F := Ideal) x0 x1 = E
  generalize val_main_v35 (F := Ideal) x2 x3 = Y
  generalize val_main_v31 (F := Ideal) x0 x1 = D
  pointwise [val_main_cst_10, val_main_cst_11]
  exact Fin.sum_univ_one _

theorem v51_at : val_main_v51 (F := Ideal) x0 x1 x2 x3 (ix4 h g i j)
    = (Ideal.div (val_main_v35 (F := Ideal) x2 x3 (ix4 h g i j)) (val_main_v26 (F := Ideal) x0 x1 (ix4 h g i 0))
        + val_main_v46 (F := Ideal) x0 x1 x2 x3 (ix3 h g i)) * val_main_v24 (F := Ideal) x0 x1 (ix4 h g i j) * Ideal.ofBits .f32 0x3DB504F3#32 := by
  unfold val_main_v51 val_main_v49 val_main_v48 val_main_v47 val_main_v45 val_main_v44
  generalize val_main_v24 (F := Ideal) x0 x1 = E
  generalize val_main_v35 (F := Ideal) x2 x3 = Y
  generalize val_main_v26 (F := Ideal) x0 x1 = D
  generalize val_main_v46 (F := Ideal) x0 x1 x2 x3 = Z
  pointwise [val_main_v50, val_main_cst_12]

theorem v57_at (l : Fin 768) (x : Fin 128) (hl : (l : ℕ) = (h * 3 + g) * 128 + x) :
    val_main_v57 (F := Ideal) x0 x1 x2 x3 (ix2 i l) = ∑ j : Fin 4096, val_main_v51 (F := Ideal) x0 x1 x2 x3 (ix4 h g i j) * x1 (ix3 j h x) := by
  unfold val_main_v57 val_main_v54 val_main_v53 val_main_v52
  generalize val_main_v51 (F := Ideal) x0 x1 x2 x3 = Z
  have e1 : (⟨(l : ℕ) / 384, by omega⟩ : Fin 2) = h := Fin.ext (by simp only []; omega)
  have e2 : (⟨(l : ℕ) / 128 % 3, by omega⟩ : Fin 3) = g := Fin.ext (by simp only []; omega)
  have e3 : (⟨(l : ℕ) % 128, by omega⟩ : Fin 128) = x := Fin.ext (by simp only []; omega)
  pointwise
  simp only [e1, e2, e3]

theorem v58_at (l : Fin 256) (x : Fin 128) (hl : (l : ℕ) = h * 128 + x) :
    val_main_v58 (F := Ideal) x0 x1 x2 x3 (ix2 j l) = ∑ i : Fin 4096, ∑ g : Fin 3, val_main_v51 (F := Ideal) x0 x1 x2 x3 (ix4 h g i j) * x0 (ix4 i h g x) := by
  unfold val_main_v58 val_main_v56 val_main_v55 val_main_v52
  generalize val_main_v51 (F := Ideal) x0 x1 x2 x3 = Z
  have e1 : (⟨(l : ℕ) / 128, by omega⟩ : Fin 2) = h := Fin.ext (by simp only []; omega)
  have e3 : (⟨(l : ℕ) % 128, by omega⟩ : Fin 128) = x := Fin.ext (by simp only []; omega)
  pointwise
  simp only [e1, e3]

theorem v59_at (l : Fin 256) (x : Fin 128) (hl : (l : ℕ) = h * 128 + x) :
    val_main_v59 (F := Ideal) x0 x1 x3 (ix2 j l) = ∑ g : Fin 3, ∑ i : Fin 4096, x3 (ix4 i h g x) * val_main_v28 (F := Ideal) x0 x1 (ix4 h g i j) := by
  unfold val_main_v59 val_main_v37 val_main_v36 val_main_v34
  generalize val_main_v28 (F := Ideal) x0 x1 = Z
  have e1 : (⟨(l : ℕ) / 128, by omega⟩ : Fin 2) = h := Fin.ext (by simp only []; omega)
  have e3 : (⟨(l : ℕ) % 128, by omega⟩ : Fin 128) = x := Fin.ext (by simp only []; omega)
  pointwise
  simp only [e1, e3]

end Cert.ReferenceIdeal.AttnB

end
-- ==== Proof.Attn.PayB.lean ====
/- What one grid point of the call computes from its blocks: the probabilities, the gradient of the scores, and the
   three products that go to the results. -/
module

public import proofs.«01_k».proof.Proof.Gen.KernelIdeal.Skeleton
public import proofs.«01_k».proof.Proof.Attn.HostStagesB
public import Idealize.ShloMosaic.Lib.Pointwise

@[expose] public section

set_option maxRecDepth 16384

noncomputable section

open Idealize.ShloMosaic Idealize.ShloMosaic.TcCoe Idealize.SL.Sem

namespace Cert.KernelIdeal.AttnB
open Cert.KernelIdeal Cert.KernelIdeal.Gen Cert.Softmax

/-- The scale times `1 / log 2`. -/
theorem scale2_eq : Named.named (F := Ideal) (φ := .f32) Cert.KernelIdeal.κ "scale2" 0x3E0293EE#32 = ((scaleH * (Real.log 2)⁻¹ : ℝ) : EReal) :=
  IdealRules.named_const.ideal_named_scalar _ _ _ _ rfl

/-- `1 / log 2`. -/
theorem log2e_eq : Named.named (F := Ideal) (φ := .f32) Cert.KernelIdeal.κ "log2e" 0x3FB8AA3B#32 = (((Real.log 2)⁻¹ : ℝ) : EReal) :=
  IdealRules.named_const.ideal_named_scalar _ _ _ _ rfl

section at_index
variable (v5 v9 : Vec Ideal S512x128 .bf16) (v7 v21 : Vec Ideal S4096x128 .bf16) (v14 v24 : Vec Ideal S512x1 .f32)
  (v6 v10 : FVec Ideal S512x128 .bf16) (v31 : FVec Ideal S512x4096 .bf16) (v20 : FVec Ideal S512x4096 .f32)
  (acc : Vec Ideal S4096x128 .f32) (r : Fin 512) (j : Fin 4096) (f : Fin 128)

theorem pay8_at : k0_pay8 (F := Ideal) v5 v7 v14 (ix2 r j)
    = Ideal.exp2 ((∑ x : Fin 128, v5 (ix2 r x) * v7 (ix2 j x)) * ((scaleH * (Real.log 2)⁻¹ : ℝ) : EReal)
        - v14 (ix2 r 0) * (((Real.log 2)⁻¹ : ℝ) : EReal)) := by
  rw [← scale2_eq, ← log2e_eq]
  pointwise [k0_pay8, k0_pay5, k0_pay6]
  rfl

theorem pay9_at : k0_pay9 (F := Ideal) v5 v7 v9 v14 v21 v24 (ix2 r j)
    = k0_pay8 (F := Ideal) v5 v7 v14 (ix2 r j) * ((∑ x : Fin 128, v9 (ix2 r x) * v21 (ix2 j x)) - v24 (ix2 r 0)) * Ideal.ofBits .f32 0x3DB504F3#32 := by
  unfold k0_pay9
  generalize k0_pay8 (F := Ideal) v5 v7 v14 = p
  pointwise [k0_pay7]

theorem pay10_at : k0_pay10 (F := Ideal) v5 v7 v9 v14 v21 v24 (ix2 r f)
    = ∑ j : Fin 4096, k0_pay9 (F := Ideal) v5 v7 v9 v14 v21 v24 (ix2 r j) * v7 (ix2 j f) := by
  unfold k0_pay10
  generalize k0_pay9 (F := Ideal) v5 v7 v9 v14 v21 v24 = p
  pointwise [k0_pay6]

theorem pay1_at : k0_pay1 (F := Ideal) v6 v31 acc (ix2 j f) = acc (ix2 j f) + ∑ r : Fin 512, v31 (ix2 r j) * v6 (ix2 r f) := by
  pointwise [k0_pay1]

theorem pay2_at : k0_pay2 (F := Ideal) v10 v20 acc (ix2 j f) = acc (ix2 j f) + ∑ r : Fin 512, v20 (ix2 r j) * v10 (ix2 r f) := by
  pointwise [k0_pay2]
end at_index

/-! ## Of real blocks -/

section reals
variable {v5 v9 : Vec Ideal S512x128 .bf16} {v7 v21 : Vec Ideal S4096x128 .bf16} {v14 v24 : Vec Ideal S512x1 .f32}
  {a t : Fin 512 → Fin 128 → ℝ} {κ w : Fin 4096 → Fin 128 → ℝ}

/-- The blocks of one grid point are real: query rows `a`, keys `κ`, values `w`, cotangent rows `t`, and of each row the
    log-sum and the sum of output times cotangent. -/
structure RealBlocks (v5 v9 : Vec Ideal S512x128 .bf16) (v7 v21 : Vec Ideal S4096x128 .bf16) (v14 v24 : Vec Ideal S512x1 .f32)
    (a t : Fin 512 → Fin 128 → ℝ) (κ w : Fin 4096 → Fin 128 → ℝ) : Prop where
  hq : ∀ r x, v5 (ix2 r x) = ((a r x : ℝ) : EReal)
  ht : ∀ r x, v9 (ix2 r x) = ((t r x : ℝ) : EReal)
  hk : ∀ j x, v7 (ix2 j x) = ((κ j x : ℝ) : EReal)
  hv : ∀ j x, v21 (ix2 j x) = ((w j x : ℝ) : EReal)
  hl : ∀ r, v14 (ix2 r 0) = ((lse (score scaleH (a r) κ) : ℝ) : EReal)
  hd : ∀ r, v24 (ix2 r 0) = ((∑ j, prob (score scaleH (a r) κ) j * dprob (t r) w j : ℝ) : EReal)

variable (B : RealBlocks v5 v9 v7 v21 v14 v24 a t κ w) (r : Fin 512) (j : Fin 4096) (f : Fin 128)
include B

/-- The probabilities. -/
theorem RealBlocks.pay8 : k0_pay8 (F := Ideal) v5 v7 v14 (ix2 r j) = ((prob (score scaleH (a r) κ) j : ℝ) : EReal) := by
  refine (pay8_at ..).trans ?_
  simp only [B.hq, B.hk, B.hl, ← EReal.coe_mul, coe_sum, ← EReal.coe_sub, Ideal.exp2_coe, rpow_sub_lse]

/-- The gradient of the scores before scaling. -/
theorem RealBlocks.pay9 : k0_pay9 (F := Ideal) v5 v7 v9 v14 v21 v24 (ix2 r j)
    = ((dscore scaleH (score scaleH (a r) κ) (dprob (t r) w) j : ℝ) : EReal) := by
  refine (pay9_at ..).trans ?_
  rw [B.pay8, ofBits_scaleH, B.hd]
  simp only [B.ht, B.hv, ← EReal.coe_mul, coe_sum, ← EReal.coe_sub, dscore, dprob]

/-- The gradient of the query rows. -/
theorem RealBlocks.pay10 : k0_pay10 (F := Ideal) v5 v7 v9 v14 v21 v24 (ix2 r f)
    = ((∑ j, dscore scaleH (score scaleH (a r) κ) (dprob (t r) w) j * κ j f : ℝ) : EReal) := by
  refine (pay10_at ..).trans ?_
  simp only [B.pay9, B.hk, ← EReal.coe_mul, coe_sum]
end reals

end Cert.KernelIdeal.AttnB

end
-- ==== Proof.Attn.BlocksB.lean ====
/- What the blocks of one grid point hold, of finite arguments. -/
module

public import proofs.«01_k».proof.Proof.Attn.HostB
public import proofs.«01_k».proof.Proof.Attn.PayB

@[expose] public section

set_option maxRecDepth 16384

noncomputable section

open Idealize.ShloMosaic Idealize.ShloMosaic.TcCoe Idealize.SL.Sem
open Idealize.ShloMosaic.Pipeline (Dat)

namespace Cert.KernelIdeal.AttnB
open Cert.KernelIdeal Cert.KernelIdeal.Gen Cert.Softmax

/-! ## Which block each window holds at grid point `t` -/

theorem idxQ : ∀ t : Fin cfg0.N, win0_0.index t = ![t.val % 8, t.val / 8] := (by decide +kernel : ∀ t : Fin grid0.N, win0_0.index t = _)
theorem idxK : ∀ t : Fin cfg0.N, win0_1.index t = ![0, t.val / 24] := (by decide +kernel : ∀ t : Fin grid0.N, win0_1.index t = _)
theorem idxV : ∀ t : Fin cfg0.N, win0_2.index t = ![0, t.val / 24] := (by decide +kernel : ∀ t : Fin grid0.N, win0_2.index t = _)
theorem idxT : ∀ t : Fin cfg0.N, win0_3.index t = ![t.val % 8, t.val / 8] := (by decide +kernel : ∀ t : Fin grid0.N, win0_3.index t = _)
theorem idxL : ∀ t : Fin cfg0.N, win0_4.index t = ![t.val % 8, t.val / 8] := (by decide +kernel : ∀ t : Fin grid0.N, win0_4.index t = _)
theorem idxD : ∀ t : Fin cfg0.N, win0_5.index t = ![t.val % 8, t.val / 8] := (by decide +kernel : ∀ t : Fin grid0.N, win0_5.index t = _)
theorem idxDq : ∀ t : Fin cfg0.N, win0_6.index t = ![t.val % 8, t.val / 8] := (by decide +kernel : ∀ t : Fin grid0.N, win0_6.index t = _)
theorem idxDk : ∀ t : Fin cfg0.N, win0_7.index t = ![0, t.val / 24] := (by decide +kernel : ∀ t : Fin grid0.N, win0_7.index t = _)
theorem idxDv : ∀ t : Fin cfg0.N, win0_8.index t = ![0, t.val / 24] := (by decide +kernel : ∀ t : Fin grid0.N, win0_8.index t = _)

/-- The key head of grid point `t`. -/
def hd (t : Fin cfg0.N) : Fin 2 := ⟨t.val / 24, by have := t.isLt; have : cfg0.N = 48 := rfl; omega⟩
/-- Its query head of that key head. -/
def gr (t : Fin cfg0.N) : Fin 3 := ⟨t.val / 8 % 3, by omega⟩
/-- Its query row `r`. -/
def qrow (t : Fin cfg0.N) (r : Fin 512) : Fin 4096 := ⟨512 * (t.val % 8) + r, by omega⟩

/-! ## A window's block, read out of the array it is a block of -/

theorem read0 (A : (r : Ref sig .tc) → r.ty.Idx → Elt Ideal r.ty.elt) (t : Fin cfg0.N) (y : S512x128.Idx) :
    ((cfg0.win 0).blk t).view.read (Elt Ideal) (A (Pipeline.arrRef spec0 0)) y = A main_v22 ((win0_0.blk t).view.emb y) := rfl
theorem read1 (A : (r : Ref sig .tc) → r.ty.Idx → Elt Ideal r.ty.elt) (t : Fin cfg0.N) (y : S4096x128.Idx) :
    ((cfg0.win 1).blk t).view.read (Elt Ideal) (A (Pipeline.arrRef spec0 1)) y = A main_v24 ((win0_1.blk t).view.emb y) := rfl
theorem read2 (A : (r : Ref sig .tc) → r.ty.Idx → Elt Ideal r.ty.elt) (t : Fin cfg0.N) (y : S4096x128.Idx) :
    ((cfg0.win 2).blk t).view.read (Elt Ideal) (A (Pipeline.arrRef spec0 2)) y = A main_v26 ((win0_2.blk t).view.emb y) := rfl
theorem read3 (A : (r : Ref sig .tc) → r.ty.Idx → Elt Ideal r.ty.elt) (t : Fin cfg0.N) (y : S512x128.Idx) :
    ((cfg0.win 3).blk t).view.read (Elt Ideal) (A (Pipeline.arrRef spec0 3)) y = A main_v28 ((win0_3.blk t).view.emb y) := rfl
theorem read4 (A : (r : Ref sig .tc) → r.ty.Idx → Elt Ideal r.ty.elt) (t : Fin cfg0.N) (y : S512x128.Idx) :
    ((cfg0.win 4).blk t).view.read (Elt Ideal) (A (Pipeline.arrRef spec0 4)) y = A main_v31 ((win0_4.blk t).view.emb y) := rfl
theorem read5 (A : (r : Ref sig .tc) → r.ty.Idx → Elt Ideal r.ty.elt) (t : Fin cfg0.N) (y : S512x128.Idx) :
    ((cfg0.win 5).blk t).view.read (Elt Ideal) (A (Pipeline.arrRef spec0 5)) y = A main_v34 ((win0_5.blk t).view.emb y) := rfl

variable {m : (ℓ : Loc nD τ sig) → Buf (Elt Ideal) ℓ} {c : Dev nD} {q : Fin 4096 → Fin 2 → Fin 3 → Fin 128 → ℝ}
  {k v : Fin 4096 → Fin 2 → Fin 128 → ℝ} {ct : Fin 4096 → Fin 2 → Fin 3 → Fin 128 → ℝ} (R : Reals m c q k v ct)
include R

/-- The query block. -/
theorem Reals.iblk0 (t : Fin cfg0.N) (r : Fin 512) (x : Fin 128) :
    (iblk m c 0 t : Vec Ideal S512x128 .bf16) (ix2 r x) = ((q (qrow t r) (hd t) (gr t) x : ℝ) : EReal) := by
  have e : (win0_0.blk t).view.emb (ix2 r x) = (ix2 (qrow t r) ⟨(hd t * 3 + gr t) * 128 + x, by omega⟩ : S4096x768.Idx) := by
    blk_ext [idxQ, qrow, hd, gr]
  refine (read0 (V m c) t (ix2 r x)).trans ?_
  rw [e]
  exact R.v22_at (qrow t r) ⟨(hd t * 3 + gr t) * 128 + x, by omega⟩ (hd t) (gr t) x rfl

/-- The key block. -/
theorem Reals.iblk1 (t : Fin cfg0.N) (j : Fin 4096) (x : Fin 128) :
    (iblk m c 1 t : Vec Ideal S4096x128 .bf16) (ix2 j x) = ((k j (hd t) x : ℝ) : EReal) := by
  have e : (win0_1.blk t).view.emb (ix2 j x) = (ix2 j ⟨hd t * 128 + x, by omega⟩ : S4096x256.Idx) := by
    blk_ext [idxK, hd]
  refine (read1 (V m c) t (ix2 j x)).trans ?_
  rw [e]
  exact R.v24_at j ⟨hd t * 128 + x, by omega⟩ (hd t) x rfl

/-- The value block. -/
theorem Reals.iblk2 (t : Fin cfg0.N) (j : Fin 4096) (x : Fin 128) :
    (iblk m c 2 t : Vec Ideal S4096x128 .bf16) (ix2 j x) = ((v j (hd t) x : ℝ) : EReal) := by
  have e : (win0_2.blk t).view.emb (ix2 j x) = (ix2 j ⟨hd t * 128 + x, by omega⟩ : S4096x256.Idx) := by
    blk_ext [idxV, hd]
  refine (read2 (V m c) t (ix2 j x)).trans ?_
  rw [e]
  exact R.v26_at j ⟨hd t * 128 + x, by omega⟩ (hd t) x rfl

/-- The cotangent block. -/
theorem Reals.iblk3 (t : Fin cfg0.N) (r : Fin 512) (x : Fin 128) :
    (iblk m c 3 t : Vec Ideal S512x128 .bf16) (ix2 r x) = ((ct (qrow t r) (hd t) (gr t) x : ℝ) : EReal) := by
  have e : (win0_3.blk t).view.emb (ix2 r x) = (ix2 (qrow t r) ⟨(hd t * 3 + gr t) * 128 + x, by omega⟩ : S4096x768.Idx) := by
    blk_ext [idxT, qrow, hd, gr]
  refine (read3 (V m c) t (ix2 r x)).trans ?_
  rw [e]
  exact R.v28_at (qrow t r) ⟨(hd t * 3 + gr t) * 128 + x, by omega⟩ (hd t) (gr t) x rfl

/-- The log-sums. -/
theorem Reals.iblk4 (t : Fin cfg0.N) (r : Fin 512) (x : Fin 128) :
    (iblk m c 4 t : Vec Ideal S512x128 .f32) (ix2 r x) = ((lse (X q k (hd t) (gr t) (qrow t r)) : ℝ) : EReal) := by
  have e : (win0_4.blk t).view.emb (ix2 r x) = (ix2 (qrow t r) ⟨(hd t * 3 + gr t) * 128 + x, by omega⟩ : S4096x768.Idx) := by
    blk_ext [idxL, qrow, hd, gr]
  refine (read4 (V m c) t (ix2 r x)).trans ?_
  rw [e]
  exact R.v31_at (qrow t r) ⟨(hd t * 3 + gr t) * 128 + x, by omega⟩ (hd t) (gr t) x rfl

/-- The sums of output times cotangent. -/
theorem Reals.iblk5 (t : Fin cfg0.N) (r : Fin 512) (x : Fin 128) :
    (iblk m c 5 t : Vec Ideal S512x128 .f32) (ix2 r x)
      = ((∑ j, prob (X q k (hd t) (gr t) (qrow t r)) j * Y v ct (hd t) (gr t) (qrow t r) j : ℝ) : EReal) := by
  have e : (win0_5.blk t).view.emb (ix2 r x) = (ix2 (qrow t r) ⟨(hd t * 3 + gr t) * 128 + x, by omega⟩ : S4096x768.Idx) := by
    blk_ext [idxD, qrow, hd, gr]
  refine (read5 (V m c) t (ix2 r x)).trans ?_
  rw [e]
  exact R.v34_at (qrow t r) ⟨(hd t * 3 + gr t) * 128 + x, by omega⟩ (hd t) (gr t) x rfl

/-- The blocks of grid point `t`, as the body reads them, are real. -/
theorem Reals.blocks (t : Fin cfg0.N) :
    RealBlocks (iblk m c 0 t) (iblk m c 3 t) (iblk m c 1 t) (iblk m c 2 t)
      (View.ld (iblk m c 4 t) (Rect.unit ![0, 0] ![512, 1] inb_S512x128_S512x1_0_0))
      (View.ld (iblk m c 5 t) (Rect.unit ![0, 0] ![512, 1] inb_S512x128_S512x1_0_0))
      (fun r => q (qrow t r) (hd t) (gr t)) (fun r => ct (qrow t r) (hd t) (gr t)) (fun j => k j (hd t)) (fun j => v j (hd t)) where
  hq := R.iblk0 t
  ht := R.iblk3 t
  hk := R.iblk1 t
  hv := R.iblk2 t
  hl r := by
    refine Eq.trans ?_ (R.iblk4 t r 0)
    pointwise
  hd r := by
    refine Eq.trans ?_ (R.iblk5 t r 0)
    pointwise

end Cert.KernelIdeal.AttnB

end
-- ==== Proof.Attn.FinalB.lean ====
/- What the three result arrays hold after the call, of finite arguments: the gradients of the queries, keys and values,
   each key head's two gradients summed over the query heads that share it. -/
module

public import proofs.«01_k».proof.Proof.Attn.BlocksB

@[expose] public section

set_option maxRecDepth 16384

noncomputable section

open Idealize.ShloMosaic Idealize.ShloMosaic.TcCoe Idealize.SL.Sem
open Idealize.ShloMosaic.Pipeline (Dat)

namespace Cert.KernelIdeal.AttnB
open Cert.KernelIdeal Cert.KernelIdeal.Gen Cert.Softmax

/-! ## The gradients, as real numbers -/

section grads
variable (q : Fin 4096 → Fin 2 → Fin 3 → Fin 128 → ℝ) (k v : Fin 4096 → Fin 2 → Fin 128 → ℝ) (ct : Fin 4096 → Fin 2 → Fin 3 → Fin 128 → ℝ)

/-- The gradient of query row `i` of head `(h, g)`. -/
def gradQ (i : Fin 4096) (h : Fin 2) (g : Fin 3) (x : Fin 128) : ℝ :=
  ∑ j, dscore scaleH (X q k h g i) (Y v ct h g i) j * k j h x

/-- The gradient of key row `j` of head `h`. -/
def gradK (j : Fin 4096) (h : Fin 2) (x : Fin 128) : ℝ :=
  ∑ g, ∑ i, dscore scaleH (X q k h g i) (Y v ct h g i) j * q i h g x

/-- The gradient of value row `j` of head `h`. -/
def gradV (j : Fin 4096) (h : Fin 2) (x : Fin 128) : ℝ :=
  ∑ g, ∑ i, prob (X q k h g i) j * ct i h g x

/-- The query gradient as an array, heads side by side. -/
def arrQ : FVec Ideal S4096x768 .f32 := fun y =>
  ((gradQ q k v ct (y 0) ⟨(y 1).val / 384, by idx_bounds y; omega⟩ ⟨(y 1).val / 128 % 3, by omega⟩ ⟨(y 1).val % 128, by omega⟩ : ℝ) : EReal)

/-- The key gradient as an array. -/
def arrK : FVec Ideal S4096x256 .f32 := fun y =>
  ((gradK q k v ct (y 0) ⟨(y 1).val / 128, by idx_bounds y; omega⟩ ⟨(y 1).val % 128, by omega⟩ : ℝ) : EReal)

/-- The value gradient as an array. -/
def arrV : FVec Ideal S4096x256 .f32 := fun y =>
  ((gradV q k ct (y 0) ⟨(y 1).val / 128, by idx_bounds y; omega⟩ ⟨(y 1).val % 128, by omega⟩ : ℝ) : EReal)

theorem arrQ_at (i : Fin 4096) (l : Fin 768) (h : Fin 2) (g : Fin 3) (x : Fin 128) (hl : (l : ℕ) = (h * 3 + g) * 128 + x) :
    arrQ q k v ct (ix2 i l) = ((gradQ q k v ct i h g x : ℝ) : EReal) := by
  show ((gradQ q k v ct i ⟨l.val / 384, _⟩ ⟨l.val / 128 % 3, _⟩ ⟨l.val % 128, _⟩ : ℝ) : EReal) = _
  congr 2 <;> exact Fin.ext (by simp only []; omega)

theorem arrK_at (j : Fin 4096) (l : Fin 256) (h : Fin 2) (x : Fin 128) (hl : (l : ℕ) = h * 128 + x) :
    arrK q k v ct (ix2 j l) = ((gradK q k v ct j h x : ℝ) : EReal) := by
  show ((gradK q k v ct j ⟨l.val / 128, _⟩ ⟨l.val % 128, _⟩ : ℝ) : EReal) = _
  congr 2 <;> exact Fin.ext (by simp only []; omega)

theorem arrV_at (j : Fin 4096) (l : Fin 256) (h : Fin 2) (x : Fin 128) (hl : (l : ℕ) = h * 128 + x) :
    arrV q k ct (ix2 j l) = ((gradV q k ct j h x : ℝ) : EReal) := by
  show ((gradV q k ct j ⟨l.val / 128, _⟩ ⟨l.val % 128, _⟩ : ℝ) : EReal) = _
  congr 2 <;> exact Fin.ext (by simp only []; omega)
end grads

/-! ## The 24 grid points of one key head, and their rows -/

theorem sum_points (f : Fin 3 → Fin 4096 → ℝ) :
    ∑ s : Fin 24, ∑ r : Fin 512, f ⟨s.val / 8 % 3, by omega⟩ ⟨512 * (s.val % 8) + r, by omega⟩ = ∑ g, ∑ i, f g i := by
  rw [Fin.sum_univ_tiles 3 8 rfl]
  refine Finset.sum_congr rfl fun g _ => ?_
  rw [Fin.sum_univ_tiles 8 512 rfl (f g)]
  refine Finset.sum_congr rfl fun b _ => Finset.sum_congr rfl fun r _ => ?_
  have e : (⟨(g.val * 8 + b.val) / 8 % 3, by omega⟩ : Fin 3) = g := Fin.ext (by show (g.val * 8 + b.val) / 8 % 3 = g.val; omega)
  have e' : (⟨512 * ((g.val * 8 + b.val) % 8) + r.val, by omega⟩ : Fin 4096) = ⟨b.val * 512 + r.val, by omega⟩ :=
    Fin.ext (by show 512 * ((g.val * 8 + b.val) % 8) + r.val = b.val * 512 + r.val; omega)
  exact congrArg₂ f e e'

theorem pay5_at (v5 : Vec Ideal S512x128 .bf16) (r : Fin 512) (x : Fin 128) : k0_pay5 (F := Ideal) v5 (ix2 r x) = v5 (ix2 r x) := by
  pointwise [k0_pay5]

theorem pay7_at (v9 : Vec Ideal S512x128 .bf16) (r : Fin 512) (x : Fin 128) : k0_pay7 (F := Ideal) v9 (ix2 r x) = v9 (ix2 r x) := by
  pointwise [k0_pay7]

theorem pay3_zero (y : S4096x128.Idx) : k0_pay3 (F := Ideal) y = (0 : EReal) := by
  idx_vars y
  pointwise [k0_pay3]

theorem pay4_zero (y : S4096x128.Idx) : k0_pay4 (F := Ideal) y = (0 : EReal) := by
  idx_vars y
  pointwise [k0_pay4]

variable {m : (ℓ : Loc nD τ sig) → Buf (Elt Ideal) ℓ} {c : Dev nD} {q : Fin 4096 → Fin 2 → Fin 3 → Fin 128 → ℝ}
  {k v : Fin 4096 → Fin 2 → Fin 128 → ℝ} {ct : Fin 4096 → Fin 2 → Fin 3 → Fin 128 → ℝ} (R : Reals m c q k v ct)
include R

/-- What point `t` adds to the key gradient. -/
theorem Reals.addK (t : Fin cfg0.N) (j : Fin 4096) (x : Fin 128) :
    ∑ r : Fin 512, k0_pay9 (F := Ideal) (iblk m c 0 t) (iblk m c 1 t) (iblk m c 3 t)
        (View.ld (iblk m c 4 t) (Rect.unit ![0, 0] ![512, 1] inb_S512x128_S512x1_0_0)) (iblk m c 2 t)
        (View.ld (iblk m c 5 t) (Rect.unit ![0, 0] ![512, 1] inb_S512x128_S512x1_0_0)) (ix2 r j) * k0_pay5 (F := Ideal) (iblk m c 0 t) (ix2 r x)
      = ((∑ r : Fin 512, dscore scaleH (X q k (hd t) (gr t) (qrow t r)) (Y v ct (hd t) (gr t) (qrow t r)) j * q (qrow t r) (hd t) (gr t) x : ℝ) : EReal) := by
  rw [← coe_sum]
  refine Finset.sum_congr rfl fun r _ => ?_
  rw [EReal.coe_mul]
  exact congrArg₂ (· * ·) ((R.blocks t).pay9 r j) ((pay5_at _ r x).trans (R.iblk0 t r x))

/-- What point `t` adds to the value gradient. -/
theorem Reals.addV (t : Fin cfg0.N) (j : Fin 4096) (x : Fin 128) :
    ∑ r : Fin 512, k0_pay8 (F := Ideal) (iblk m c 0 t) (iblk m c 1 t)
        (View.ld (iblk m c 4 t) (Rect.unit ![0, 0] ![512, 1] inb_S512x128_S512x1_0_0)) (ix2 r j) * k0_pay7 (F := Ideal) (iblk m c 3 t) (ix2 r x)
      = ((∑ r : Fin 512, prob (X q k (hd t) (gr t) (qrow t r)) j * ct (qrow t r) (hd t) (gr t) x : ℝ) : EReal) := by
  rw [← coe_sum]
  refine Finset.sum_congr rfl fun r _ => ?_
  rw [EReal.coe_mul]
  exact congrArg₂ (· * ·) ((R.blocks t).pay8 r j) ((pay7_at _ r x).trans (R.iblk3 t r x))

/-- The query gradient. -/
theorem Reals.final6 : ((dats m 0 c).arrAt 6 cfg0.N : FVec Ideal S4096x768 .f32) = arrQ q k v ct := by
  refine (dats m 0 c).arrAt_eq_of_covers 6 _ (by decide +kernel) fun t hf y => ?_
  have key : k0_pay10 (F := Ideal) (iblk m c 0 t) (iblk m c 1 t) (iblk m c 3 t)
        (View.ld (iblk m c 4 t) (Rect.unit ![0, 0] ![512, 1] inb_S512x128_S512x1_0_0)) (iblk m c 2 t)
        (View.ld (iblk m c 5 t) (Rect.unit ![0, 0] ![512, 1] inb_S512x128_S512x1_0_0)) y
      = arrQ q k v ct ((win0_6.blk t).view.emb y) := by
    have ey : y = ix2 (y 0) (y 1) := by blk_ext
    have e : (win0_6.blk t).view.emb y = (ix2 (qrow t (y 0)) ⟨(hd t * 3 + gr t) * 128 + (y 1).val, by idx_bounds y; omega⟩ : S4096x768.Idx) := by
      blk_ext [idxDq, qrow, hd, gr]
    rw [e, arrQ_at (h := hd t) (g := gr t) (x := y 1) (hl := rfl), ey]
    exact (R.blocks t).pay10 (y 0) (y 1)
  blk_simp
  rw [after0_6]
  by_cases h0 : t.val % 24 = 0
  · rw [outsAt0_A m c t h0]
    dsimp only
    frame_out
    exact key
  · rw [outsAt0_B m c t h0]
    dsimp only
    frame_out
    exact key

/-- The key gradient. -/
theorem Reals.final7 : ((dats m 0 c).arrAt 7 cfg0.N : FVec Ideal S4096x256 .f32) = arrK q k v ct := by
  refine (dats m 0 c).arrAt_eq_of_covers 7 _ (by decide +kernel) fun t hf y => ?_
  have ey : ∀ y : S4096x128.Idx, y = ix2 (y 0) (y 1) := fun y => by blk_ext
  have hpay : ∀ v6 v31 (acc : Vec Ideal S4096x128 .f32) y,
      k0_pay1 (F := Ideal) v6 v31 acc y = acc y + ∑ r : Fin 512, v31 (ix2 r (y 0)) * v6 (ix2 r (y 1)) := fun v6 v31 acc y => by
    rw [ey y]; exact pay1_at ..
  have key : ∑ s : Fin 24, ∑ r : Fin 512, k0_pay9 (F := Ideal) (iblk m c 0 ⟨24 * (t.val / 24) + s.val, Pipeline.run_point_lt_of_flush t ((flush0_7 t).mp hf) s⟩) (iblk m c 1 ⟨24 * (t.val / 24) + s.val, Pipeline.run_point_lt_of_flush t ((flush0_7 t).mp hf) s⟩) (iblk m c 3 ⟨24 * (t.val / 24) + s.val, Pipeline.run_point_lt_of_flush t ((flush0_7 t).mp hf) s⟩)
        (View.ld (iblk m c 4 ⟨24 * (t.val / 24) + s.val, Pipeline.run_point_lt_of_flush t ((flush0_7 t).mp hf) s⟩) (Rect.unit ![0, 0] ![512, 1] inb_S512x128_S512x1_0_0)) (iblk m c 2 ⟨24 * (t.val / 24) + s.val, Pipeline.run_point_lt_of_flush t ((flush0_7 t).mp hf) s⟩)
        (View.ld (iblk m c 5 ⟨24 * (t.val / 24) + s.val, Pipeline.run_point_lt_of_flush t ((flush0_7 t).mp hf) s⟩) (Rect.unit ![0, 0] ![512, 1] inb_S512x128_S512x1_0_0)) (ix2 r (y 0))
          * k0_pay5 (F := Ideal) (iblk m c 0 ⟨24 * (t.val / 24) + s.val, Pipeline.run_point_lt_of_flush t ((flush0_7 t).mp hf) s⟩) (ix2 r (y 1))
      = arrK q k v ct ((win0_7.blk t).view.emb y) := by
    have e : (win0_7.blk t).view.emb y = (ix2 (y 0) ⟨hd t * 128 + (y 1).val, by idx_bounds y; omega⟩ : S4096x256.Idx) := by
      blk_ext [idxDk, hd]
    rw [e]
    refine Eq.trans ?_ (arrK_at q k v ct (y 0) ⟨hd t * 128 + (y 1).val, by idx_bounds y; omega⟩ (hd t) (y 1) rfl).symm
    refine (Finset.sum_congr rfl fun s _ => R.addK _ (y 0) (y 1)).trans ?_
    rw [coe_sum]
    refine congrArg _ (Eq.trans ?_ (sum_points _))
    refine Finset.sum_congr rfl fun s _ => Finset.sum_congr rfl fun r _ => ?_
    have h1 : hd ⟨24 * (t.val / 24) + s.val, Pipeline.run_point_lt_of_flush t ((flush0_7 t).mp hf) s⟩ = hd t :=
      Fin.ext (by show (24 * (t.val / 24) + s.val) / 24 = t.val / 24; omega)
    have h2 : gr ⟨24 * (t.val / 24) + s.val, Pipeline.run_point_lt_of_flush t ((flush0_7 t).mp hf) s⟩ = ⟨s.val / 8 % 3, by omega⟩ :=
      Fin.ext (by show (24 * (t.val / 24) + s.val) / 8 % 3 = s.val / 8 % 3; omega)
    have h3 : qrow ⟨24 * (t.val / 24) + s.val, Pipeline.run_point_lt_of_flush t ((flush0_7 t).mp hf) s⟩ r = ⟨512 * (s.val % 8) + r, by omega⟩ :=
      Fin.ext (by show 512 * ((24 * (t.val / 24) + s.val) % 8) + r.val = 512 * (s.val % 8) + r.val; omega)
    rw [h1, h2, h3]
  blk_simp
  rw [after0_7, Pipeline.eq_sum_fin_of_reset_step_apply_of_flush (fun n h => (outsAt0 m c n h).2.1) 24 (fun _ => (0 : EReal)) _
    (fun t h j => by rw [outsAt0_A m c t h]; frame_out; rw [hpay, pay3_zero]) (fun t h j => by rw [outsAt0_B m c t h]; frame_out; rw [hpay])
    t ((flush0_7 t).mp hf) _, zero_add]
  exact key

/-- The value gradient. -/
theorem Reals.final8 : ((dats m 0 c).arrAt 8 cfg0.N : FVec Ideal S4096x256 .f32) = arrV q k ct := by
  refine (dats m 0 c).arrAt_eq_of_covers 8 _ (by decide +kernel) fun t hf y => ?_
  have ey : ∀ y : S4096x128.Idx, y = ix2 (y 0) (y 1) := fun y => by blk_ext
  have hpay : ∀ v10 v20 (acc : Vec Ideal S4096x128 .f32) y,
      k0_pay2 (F := Ideal) v10 v20 acc y = acc y + ∑ r : Fin 512, v20 (ix2 r (y 0)) * v10 (ix2 r (y 1)) := fun v10 v20 acc y => by
    rw [ey y]; exact pay2_at ..
  have key : ∑ s : Fin 24, ∑ r : Fin 512, k0_pay8 (F := Ideal) (iblk m c 0 ⟨24 * (t.val / 24) + s.val, Pipeline.run_point_lt_of_flush t ((flush0_8 t).mp hf) s⟩) (iblk m c 1 ⟨24 * (t.val / 24) + s.val, Pipeline.run_point_lt_of_flush t ((flush0_8 t).mp hf) s⟩)
        (View.ld (iblk m c 4 ⟨24 * (t.val / 24) + s.val, Pipeline.run_point_lt_of_flush t ((flush0_8 t).mp hf) s⟩) (Rect.unit ![0, 0] ![512, 1] inb_S512x128_S512x1_0_0)) (ix2 r (y 0))
          * k0_pay7 (F := Ideal) (iblk m c 3 ⟨24 * (t.val / 24) + s.val, Pipeline.run_point_lt_of_flush t ((flush0_8 t).mp hf) s⟩) (ix2 r (y 1))
      = arrV q k ct ((win0_8.blk t).view.emb y) := by
    have e : (win0_8.blk t).view.emb y = (ix2 (y 0) ⟨hd t * 128 + (y 1).val, by idx_bounds y; omega⟩ : S4096x256.Idx) := by
      blk_ext [idxDv, hd]
    rw [e]
    refine Eq.trans ?_ (arrV_at q k ct (y 0) ⟨hd t * 128 + (y 1).val, by idx_bounds y; omega⟩ (hd t) (y 1) rfl).symm
    refine (Finset.sum_congr rfl fun s _ => R.addV _ (y 0) (y 1)).trans ?_
    rw [coe_sum]
    refine congrArg _ (Eq.trans ?_ (sum_points _))
    refine Finset.sum_congr rfl fun s _ => Finset.sum_congr rfl fun r _ => ?_
    have h1 : hd ⟨24 * (t.val / 24) + s.val, Pipeline.run_point_lt_of_flush t ((flush0_8 t).mp hf) s⟩ = hd t :=
      Fin.ext (by show (24 * (t.val / 24) + s.val) / 24 = t.val / 24; omega)
    have h2 : gr ⟨24 * (t.val / 24) + s.val, Pipeline.run_point_lt_of_flush t ((flush0_8 t).mp hf) s⟩ = ⟨s.val / 8 % 3, by omega⟩ :=
      Fin.ext (by show (24 * (t.val / 24) + s.val) / 8 % 3 = s.val / 8 % 3; omega)
    have h3 : qrow ⟨24 * (t.val / 24) + s.val, Pipeline.run_point_lt_of_flush t ((flush0_8 t).mp hf) s⟩ r = ⟨512 * (s.val % 8) + r, by omega⟩ :=
      Fin.ext (by show 512 * ((24 * (t.val / 24) + s.val) % 8) + r.val = 512 * (s.val % 8) + r.val; omega)
    rw [h1, h2, h3]
  blk_simp
  rw [after0_8, Pipeline.eq_sum_fin_of_reset_step_apply_of_flush (fun n h => (outsAt0 m c n h).2.2) 24 (fun _ => (0 : EReal)) _
    (fun t h j => by rw [outsAt0_A m c t h]; frame_out; rw [hpay, pay4_zero]) (fun t h j => by rw [outsAt0_B m c t h]; frame_out; rw [hpay])
    t ((flush0_8 t).mp hf) _, zero_add]
  exact key

end Cert.KernelIdeal.AttnB

end
-- ==== Proof.Attn.RefB.lean ====
/- What the reference's three results are, of finite arguments: the same gradients that the call leaves. -/
module

public import proofs.«01_k».proof.Proof.Attn.RefStagesB
public import proofs.«01_k».proof.Proof.Attn.FinalB

@[expose] public section

set_option maxRecDepth 16384

noncomputable section

open Idealize.ShloMosaic Idealize.ShloMosaic.TcCoe Idealize.SL.Sem

namespace Cert.ReferenceIdeal.AttnB
open Cert.ReferenceIdeal Cert.ReferenceIdeal.Gen Cert.ReferenceIdeal.Read Cert.Softmax
open Cert.KernelIdeal.AttnB (X Y gradQ gradK gradV arrQ arrK arrV arrQ_at arrK_at arrV_at)

/-- Four argument arrays that are real. -/
structure Reals (x0 x3 : FVec Ideal S4096x2x3x128 .f32) (x1 x2 : FVec Ideal S4096x2x128 .f32)
    (q ct : Fin 4096 → Fin 2 → Fin 3 → Fin 128 → ℝ) (k v : Fin 4096 → Fin 2 → Fin 128 → ℝ) : Prop where
  hq : ∀ i h g x, x0 (ix4 i h g x) = ((q i h g x : ℝ) : EReal)
  hk : ∀ i h x, x1 (ix3 i h x) = ((k i h x : ℝ) : EReal)
  hv : ∀ i h x, x2 (ix3 i h x) = ((v i h x : ℝ) : EReal)
  hct : ∀ i h g x, x3 (ix4 i h g x) = ((ct i h g x : ℝ) : EReal)

variable {x0 x3 : FVec Ideal S4096x2x3x128 .f32} {x1 x2 : FVec Ideal S4096x2x128 .f32}
  {q ct : Fin 4096 → Fin 2 → Fin 3 → Fin 128 → ℝ} {k v : Fin 4096 → Fin 2 → Fin 128 → ℝ} (R : Reals x0 x3 x1 x2 q ct k v)
  (h : Fin 2) (g : Fin 3) (i j : Fin 4096)
include R

/-- The scores. -/
theorem Reals.v3 : val_main_v3 (F := Ideal) x0 x1 (ix4 h g i j) = ((X q k h g i j : ℝ) : EReal) :=
  (v3_at ..).trans (score_of_coe (fun x => R.hq i h g x) (fun j x => R.hk j h x) ofBits_scaleH j)

/-- The shift the softmax takes: the row's maximum. -/
theorem Reals.v11 : val_main_v11 (F := Ideal) x0 x1 (ix3 h g i) = ((rowMax (X q k h g i) : ℝ) : EReal) :=
  v11_at _ _ _ _ _ _ ((v4_at ..).trans (rowMax_of_coe (R.v3 h g i)))

/-- The exponentials. -/
theorem Reals.v24 : val_main_v24 (F := Ideal) x0 x1 (ix4 h g i j) = ((Real.exp (X q k h g i j - rowMax (X q k h g i)) : ℝ) : EReal) := by
  refine (v24_at ..).trans ?_
  rw [R.v3, R.v11, ← EReal.coe_sub, Ideal.exp_coe]

/-- Their sum. -/
theorem Reals.v26 : val_main_v26 (F := Ideal) x0 x1 (ix4 h g i 0) = ((∑ l, Real.exp (X q k h g i l - rowMax (X q k h g i)) : ℝ) : EReal) := by
  refine (v26_at ..).trans ?_
  rw [Finset.sum_congr rfl fun l _ => R.v24 h g i l, coe_sum]

/-- The probabilities. -/
theorem Reals.v28 : val_main_v28 (F := Ideal) x0 x1 (ix4 h g i j) = ((prob (X q k h g i) j : ℝ) : EReal) := by
  refine (v28_at ..).trans ?_
  rw [R.v24, R.v26, div_sum_exp, prob_shift]

/-- One over the square of the sum. -/
theorem Reals.v31 : val_main_v31 (F := Ideal) x0 x1 (ix4 h g i 0)
    = ((1 / ((∑ l, Real.exp (X q k h g i l - rowMax (X q k h g i))) * ∑ l, Real.exp (X q k h g i l - rowMax (X q k h g i))) : ℝ) : EReal) := by
  refine (v31_at ..).trans ?_
  rw [R.v26, ← EReal.coe_mul, ← EReal.coe_one, div_coe_coe]
  exact (mul_pos (sum_exp_pos _) (sum_exp_pos _)).ne'

/-- The gradient of the probabilities. -/
theorem Reals.v35 : val_main_v35 (F := Ideal) x2 x3 (ix4 h g i j) = ((Y v ct h g i j : ℝ) : EReal) := by
  refine (v35_at ..).trans ?_
  simp only [R.hct, R.hv, ← EReal.coe_mul, coe_sum]
  rfl

/-- The part of the gradient that goes through the sum. -/
theorem Reals.v46 : val_main_v46 (F := Ideal) x0 x1 x2 x3 (ix3 h g i)
    = ((-(∑ l, Y v ct h g i l * (1 / ((∑ l, Real.exp (X q k h g i l - rowMax (X q k h g i))) * ∑ l, Real.exp (X q k h g i l - rowMax (X q k h g i))))
        * Real.exp (X q k h g i l - rowMax (X q k h g i))) : ℝ) : EReal) := by
  refine (v46_at ..).trans ?_
  rw [Finset.sum_congr rfl fun l _ => by rw [R.v35 h g i l, R.v31 h g i, R.v24 h g i l, ← EReal.coe_mul, ← EReal.coe_mul], coe_sum, ← EReal.coe_neg]

/-- The gradient of the unscaled scores. -/
theorem Reals.v51 : val_main_v51 (F := Ideal) x0 x1 x2 x3 (ix4 h g i j) = ((dscore scaleH (X q k h g i) (Y v ct h g i) j : ℝ) : EReal) := by
  refine (v51_at ..).trans ?_
  rw [R.v35, R.v26, R.v46, R.v24, ofBits_scaleH, div_sum_exp, ← EReal.coe_add, ← EReal.coe_mul, ← EReal.coe_mul, dscore_quotient]

/-- The query gradient. -/
theorem Reals.v57 : val_main_v57 (F := Ideal) x0 x1 x2 x3 = arrQ q k v ct := by
  funext y
  obtain ⟨i, l, rfl⟩ : ∃ (i : Fin 4096) (l : Fin 768), y = ix2 i l := ⟨y 0, y 1, by idx_ext⟩
  have hl : (l : ℕ) = ((⟨l.val / 384, by omega⟩ : Fin 2) * 3 + (⟨l.val / 128 % 3, by omega⟩ : Fin 3)) * 128 + (⟨l.val % 128, by omega⟩ : Fin 128) := by
    simp only []; omega
  refine (v57_at _ _ _ _ _ _ _ l _ hl).trans (Eq.trans ?_ (arrQ_at q k v ct i l _ _ _ hl).symm)
  rw [Finset.sum_congr rfl fun j _ => by rw [R.v51, R.hk, ← EReal.coe_mul], coe_sum, gradQ]

/-- The key gradient. -/
theorem Reals.v58 : val_main_v58 (F := Ideal) x0 x1 x2 x3 = arrK q k v ct := by
  funext y
  obtain ⟨j, l, rfl⟩ : ∃ (j : Fin 4096) (l : Fin 256), y = ix2 j l := ⟨y 0, y 1, by idx_ext⟩
  have hl : (l : ℕ) = (⟨l.val / 128, by omega⟩ : Fin 2) * 128 + (⟨l.val % 128, by omega⟩ : Fin 128) := by
    simp only []; omega
  refine (v58_at _ _ _ _ _ _ l _ hl).trans (Eq.trans ?_ (arrK_at q k v ct j l _ _ hl).symm)
  rw [Finset.sum_congr rfl fun i _ => (Finset.sum_congr rfl fun g _ => by rw [R.v51, R.hq, ← EReal.coe_mul]).trans (coe_sum _ _), coe_sum, gradK, Finset.sum_comm]

/-- The value gradient. -/
theorem Reals.v59 : val_main_v59 (F := Ideal) x0 x1 x3 = arrV q k ct := by
  funext y
  obtain ⟨j, l, rfl⟩ : ∃ (j : Fin 4096) (l : Fin 256), y = ix2 j l := ⟨y 0, y 1, by idx_ext⟩
  have hl : (l : ℕ) = (⟨l.val / 128, by omega⟩ : Fin 2) * 128 + (⟨l.val % 128, by omega⟩ : Fin 128) := by
    simp only []; omega
  refine (v59_at _ _ _ _ _ l _ hl).trans (Eq.trans ?_ (arrV_at q k ct j l _ _ hl).symm)
  rw [Finset.sum_congr rfl fun g _ => (Finset.sum_congr rfl fun i _ => by rw [R.hct, R.v28, ← EReal.coe_mul, mul_comm]).trans (coe_sum _ _), coe_sum, gradV]

end Cert.ReferenceIdeal.AttnB

end
-- ==== Proof.Attn.ResultB.lean ====
/- The algebraic claim: of finite arguments, the call and the gradient of the plain attention leave the same three arrays. -/
module

public import proofs.«01_k».proof.Defs
public import proofs.«01_k».proof.Proof.Gen.ReferenceIdeal.Run
public import proofs.«01_k».proof.Proof.Attn.Finite
public import proofs.«01_k».proof.Proof.Attn.RefB

@[expose] public section

set_option maxRecDepth 16384

noncomputable section

open Idealize.ShloMosaic Idealize.ShloMosaic.TcCoe Idealize.SL.Sem

namespace Cert.Result

variable (m : (ℓ : Loc Cert.KernelIdeal.nD Cert.KernelIdeal.τ Cert.KernelIdeal.sig) → Buf (Elt Ideal) ℓ) (hm : Pre_KernelIdeal_finite m)
  (c : Dev Cert.KernelIdeal.nD)
include hm

/-- The query gradients agree. -/
theorem res0 : (Cert.ReferenceIdeal.Read.val_main_v57 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) : FVec Ideal Cert.KernelIdeal.S4096x768 .f32)
    = (Cert.KernelIdeal.Gen.dats m 0 c).arrAt 6 Cert.KernelIdeal.cfg0.N := by
  obtain ⟨q, k, v, ct, R⟩ := Cert.Finite.reals m hm c
  exact (Cert.ReferenceIdeal.AttnB.Reals.v57 ⟨R.hq, R.hk, R.hv, R.hct⟩).trans R.final6.symm

/-- The key gradients agree. -/
theorem res1 : (Cert.ReferenceIdeal.Read.val_main_v58 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) : FVec Ideal Cert.KernelIdeal.S4096x256 .f32)
    = (Cert.KernelIdeal.Gen.dats m 0 c).arrAt 7 Cert.KernelIdeal.cfg0.N := by
  obtain ⟨q, k, v, ct, R⟩ := Cert.Finite.reals m hm c
  exact (Cert.ReferenceIdeal.AttnB.Reals.v58 ⟨R.hq, R.hk, R.hv, R.hct⟩).trans R.final7.symm

/-- The value gradients agree. -/
theorem res2 : (Cert.ReferenceIdeal.Read.val_main_v59 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3)) : FVec Ideal Cert.KernelIdeal.S4096x256 .f32)
    = (Cert.KernelIdeal.Gen.dats m 0 c).arrAt 8 Cert.KernelIdeal.cfg0.N := by
  obtain ⟨q, k, v, ct, R⟩ := Cert.Finite.reals m hm c
  exact (Cert.ReferenceIdeal.AttnB.Reals.v59 (x2 := m ((c.tc : Thread Cert.KernelIdeal.nD Cert.KernelIdeal.τ).loc Cert.KernelIdeal.main_arg2)) (v := v) ⟨R.hq, R.hk, R.hv, R.hct⟩).trans R.final8.symm

omit hm in
/-- The algebraic claim. -/
theorem algebraic : algebraic_KernelIdeal_ReferenceIdeal_pre_finite := by
  intro m g m' g' hm hargs
  refine ⟨_, _, _, Cert.KernelIdeal.Value.run_blocks m g, (θ_run _ _ _).mono (fun r h c => ?_) (Cert.ReferenceIdeal.Value.run m' g')⟩
  obtain ⟨h0, h1, h2, h3, h4, h5, h6⟩ := h c
  obtain ⟨a0, a1, a2, a3⟩ := hargs c
  refine ⟨h0.trans ?_, h1.trans ?_, h2.trans ?_, h3, h4, h5, h6⟩
  · refine (Cert.ReferenceIdeal.Read.val_main_v57_eq m' c).trans ?_
    rw [a0, a1, a2, a3]
    exact res0 m hm c
  · refine (Cert.ReferenceIdeal.Read.val_main_v58_eq m' c).trans ?_
    rw [a0, a1, a2, a3]
    exact res1 m hm c
  · refine (Cert.ReferenceIdeal.Read.val_main_v59_eq _ _ _).trans ?_
    rw [a0, a1, a3]
    exact res2 m hm c

end Cert.Result

end
-- ==== Proof.AttnA.Wide.lean ====
/- A row of 192 lanes laid out over 256, with zeros after its first 128: what that does to scores, sums and arrays, and the scale of mixer
   A's scores as the host computes it. Nothing here speaks of one program. -/
module

public import proofs.«01_k».proof.Proof.Attn.Softmax
public import Idealize.ShloMosaic.Lib.KernelVsHost
public import Idealize.ShloMosaic.Lib.Pointwise

@[expose] public section

set_option maxRecDepth 16384

noncomputable section

open Idealize.ShloMosaic Idealize.ShloMosaic.TcCoe Idealize.SL.Sem

namespace Cert.Softmax

/-- The scale of mixer A's scores. -/
def scaleA : ℝ := (Real.sqrt 192)⁻¹

/-- The scale as the host computes it: one over the root of 192. -/
theorem div_sqrt : Ideal.div (Ideal.ofBits .f32 0x3F800000#32) (Ideal.sqrt (Ideal.ofBits .f32 0x43400000#32)) = ((scaleA : ℝ) : EReal) := by
  have h1 : Ideal.ofBits .f32 0x3F800000#32 = ((1 : ℝ) : EReal) := by
    simp [Ideal.ofBits, Ideal.ieee, -EReal.coe_mul]; norm_num
  have h192 : Ideal.ofBits .f32 0x43400000#32 = ((192 : ℝ) : EReal) := by
    simp [Ideal.ofBits, Ideal.ieee, -EReal.coe_mul]; norm_num
  rw [h1, h192, Ideal.sqrt_coe, if_neg (by norm_num), div_coe_coe _ (Real.sqrt_pos.mpr (by norm_num)).ne', one_div, scaleA]

/-- A row of 192 lanes over 256: 64 zeros after its first 128 lanes. -/
def wide (a : Fin 192 → ℝ) (y : Fin 256) : ℝ :=
  if h : y.val < 128 then a ⟨y.val, by omega⟩ else if y.val < 192 then 0 else a ⟨y.val - 64, by omega⟩

/-- Two wide rows multiply to what the rows multiply to. -/
theorem sum_wide_mul_wide (a b : Fin 192 → ℝ) : ∑ y, wide a y * wide b y = ∑ x, a x * b x := by
  have h := Fin.sum_univ_add (a := 128) (b := 128) (fun y : Fin (128 + 128) => wide a y * wide b y)
  have h' := Fin.sum_univ_add (a := 64) (b := 64) (fun y : Fin (64 + 64) => wide a (Fin.natAdd 128 y) * wide b (Fin.natAdd 128 y))
  have h'' := Fin.sum_univ_add (a := 128) (b := 64) (fun x : Fin (128 + 64) => a x * b x)
  refine (show (∑ y : Fin 256, wide a y * wide b y) = _ from h).trans ((congrArg _ h').trans (Eq.trans ?_ (show (∑ x : Fin 192, a x * b x) = _ from h'').symm))
  have h1 : ∀ (c : Fin 192 → ℝ) (x : Fin 128), wide c (Fin.castAdd 128 x) = c (Fin.castAdd 64 x) := fun c x => by
    have hx := x.isLt
    rw [wide, dif_pos (by simp)]
    rfl
  have h2 : ∀ (c : Fin 192 → ℝ) (x : Fin 64), wide c (Fin.natAdd 128 (Fin.castAdd 64 x)) = 0 := fun c x => by
    have hx := x.isLt
    rw [wide, dif_neg (by simp), if_pos (by simp; omega)]
  have h3 : ∀ (c : Fin 192 → ℝ) (x : Fin 64), wide c (Fin.natAdd 128 (Fin.natAdd 64 x)) = c (Fin.natAdd 128 x) := fun c x => by
    have hx := x.isLt
    rw [wide, dif_neg (by simp), if_neg (by simp)]
    exact congrArg c (Fin.ext (by simp; omega))
  simp only [h1, h2, h3, zero_mul, Finset.sum_const_zero, zero_add]

/-- The scores of wide rows are the rows' scores. -/
theorem score_wide {n : ℕ} (c : ℝ) (a : Fin 192 → ℝ) (K : Fin n → Fin 192 → ℝ) : score c (wide a) (fun j => wide (K j)) = score c a K :=
  funext fun j => congrArg (· * c) (sum_wide_mul_wide a (K j))

/-- A weighted sum of wide rows is the weighted sum of the rows, wide. -/
theorem sum_mul_wide {ι : Type*} [Fintype ι] (d : ι → ℝ) (K : ι → Fin 192 → ℝ) (y : Fin 256) :
    ∑ j, d j * wide (K j) y = wide (fun x => ∑ j, d j * K j x) y := by
  by_cases h : y.val < 128
  · simp [wide, h]
  · by_cases h' : y.val < 192 <;> simp [wide, h, h']

/-- An array of rows of 192 lanes, with 64 zeros put after the first 128. -/
theorem cat_at (A : (⟨3, ![4096, 4, 192]⟩ : Shape).Idx → EReal) (z : (⟨3, ![4096, 4, 64]⟩ : Shape).Idx → EReal)
    (h1 : (⟨3, ![4096, 4, 192]⟩ : Shape).Slices ![0, 0, 0] ⟨3, ![4096, 4, 128]⟩) (h2 : (⟨3, ![4096, 4, 192]⟩ : Shape).Slices ![0, 0, 128] ⟨3, ![4096, 4, 64]⟩)
    (hc : Shape.Concatenates [⟨3, ![4096, 4, 128]⟩, ⟨3, ![4096, 4, 64]⟩, ⟨3, ![4096, 4, 64]⟩] ⟨3, ![4096, 4, 256]⟩ 2)
    (hz : ∀ j, z j = 0) (i : Fin 4096) (h : Fin 4) (a : Fin 192 → ℝ) (ha : ∀ x, A (ix3 i h x) = ((a x : ℝ) : EReal)) (y : Fin 256) :
    concatenate ⟨3, ![4096, 4, 256]⟩ 2 [⟨⟨3, ![4096, 4, 128]⟩, extractStridedSlice ⟨3, ![4096, 4, 128]⟩ ![0, 0, 0] A h1⟩, ⟨⟨3, ![4096, 4, 64]⟩, z⟩,
      ⟨⟨3, ![4096, 4, 64]⟩, extractStridedSlice ⟨3, ![4096, 4, 64]⟩ ![0, 0, 128] A h2⟩] hc (ix3 i h y) = ((wide a y : ℝ) : EReal) := by
  pointwise
  by_cases hy : y.val < 128
  · simp only [wide, hy, dif_pos]
    exact ha _
  · by_cases hy' : y.val < 192
    · simp only [wide, hy, hy', dif_neg, not_false_eq_true, if_pos]
      rw [dif_pos (by omega), hz, EReal.coe_zero]
    · simp only [wide, hy, hy', dif_neg, not_false_eq_true, if_neg]
      rw [dif_neg (by omega)]
      refine Eq.trans ?_ (ha _)
      congr 2
      exact Fin.ext (by simp; omega)

end Cert.Softmax

end
-- ==== Proof.AttnA.HostStagesA.lean ====
/- The host code before the call of mixer A, one stage at a time: the scores, their row maxima, the exponentials, their
   sums, the log-sums, the output, the arrays widened to 256 lanes, each read at an index. -/
module

public import proofs.«01_k».proof.Proof.Gen.AttnAIdeal
public import proofs.«01_k».proof.Proof.AttnA.Wide

@[expose] public section

set_option maxRecDepth 16384

noncomputable section

open Idealize.ShloMosaic Idealize.ShloMosaic.TcCoe Idealize.SL.Sem

namespace Cert.AttnAIdeal.AttnA
open Cert.AttnAIdeal Cert.AttnAIdeal.Gen Cert.Softmax

/-- Every score, scaled. -/
def stScore (A : FVec Ideal S4096x4x1x192 .f32) (K : FVec Ideal S4096x4x192 .f32) : FVec Ideal S4x1x4096x4096 .f32 :=
  mulf (transpose S4x1x4096x4096 [0, 3, 2, 1] (Host.dotGeneral dot_S4096x4x192_S4096x4x1x192_S4x4096x4096x1_2_3_0_02_1_1 none K A) transposes_S4x4096x4096x1_S4x1x4096x4096_0_3_2_1)
    (broadcastInDim S4x1x4096x4096 ![] bcast_S_S4x1x4096x4096 (Host.divf (constant S_ .f32 0x3F800000#32) (Host.sqrt (constant S_ .f32 0x43400000#32))))

/-- Each row's greatest score. -/
def stMax (S : FVec Ideal S4x1x4096x4096 .f32) : FVec Ideal S4x1x4096x1 .f32 :=
  broadcastInDim S4x1x4096x1 ![0, 1, 2] bcast_S4x1x4096_S4x1x4096x1_0_1_2
    (Host.reduce FloatOps.maximumf S (constant S_ .f32 0xFF800000#32) reducesTo_S4x1x4096x4096_S4x1x4096_d3 h_S_)

/-- The exponentials about the maxima. -/
def stExp (S : FVec Ideal S4x1x4096x4096 .f32) (M : FVec Ideal S4x1x4096x1 .f32) : FVec Ideal S4x1x4096x4096 .f32 :=
  Host.exp (subf S (broadcastInDim S4x1x4096x4096 ![0, 1, 2, 3] bcast_S4x1x4096x1_S4x1x4096x4096_0_1_2_3 M))

/-- Each row's sum of exponentials. -/
def stSum (E : FVec Ideal S4x1x4096x4096 .f32) : FVec Ideal S4x1x4096x1 .f32 :=
  broadcastInDim S4x1x4096x1 ![0, 1, 2] bcast_S4x1x4096_S4x1x4096x1_0_1_2
    (Host.reduceAdd E (constant S_ .f32 0x00000000#32) reducesTo_S4x1x4096x4096_S4x1x4096_d3 h_S_)

/-- Each row's log-sum, the query row first. -/
def stLse (M D : FVec Ideal S4x1x4096x1 .f32) : FVec Ideal S4096x4x1 .f32 :=
  transpose S4096x4x1 [2, 0, 1] (shapeCast S4x1x4096 (addf M (Host.log D)) shapeCasts_S4x1x4096x1_S4x1x4096) transposes_S4x1x4096_S4096x4x1_2_0_1

/-- The probabilities. -/
def stProb (E : FVec Ideal S4x1x4096x4096 .f32) (D : FVec Ideal S4x1x4096x1 .f32) : FVec Ideal S4x1x4096x4096 .f32 :=
  Host.divf E (broadcastInDim S4x1x4096x4096 ![0, 1, 2, 3] bcast_S4x1x4096x1_S4x1x4096x4096_0_1_2_3 D)

/-- Each row's sum of output times cotangent. -/
def stDelta (W : FVec Ideal S4096x4x128 .f32) (P : FVec Ideal S4x1x4096x4096 .f32) (T : FVec Ideal S4096x4x1x128 .f32) : FVec Ideal S4096x4x1 .f32 :=
  Host.reduceAdd (mulf T (transpose S4096x4x1x128 [3, 0, 2, 1] (Host.dotGeneral dot_S4096x4x128_S4x1x4096x4096_S4x128x1x4096_0_3_2_12_1_0 none W P) transposes_S4x128x1x4096_S4096x4x1x128_3_0_2_1))
    (constant S_ .f32 0x00000000#32) reducesTo_S4096x4x1x128_S4096x4x1_d3 h_S_

/-- One number per row and head, repeated over 128 lanes. -/
def stLanes (r : FVec Ideal S4096x4x1 .f32) : FVec Ideal S4096x512 .f32 :=
  shapeCast S4096x512 (broadcastInDim S4096x4x128 ![0, 1, 2] bcast_S4096x4x1_S4096x4x128_0_1_2 r) shapeCasts_S4096x4x128_S4096x512

/-- The heads side by side, each with 64 zeros put after its first 128 lanes. -/
def stWide (A : FVec Ideal S4096x4x192 .f32) : FVec Ideal S4096x1024 .bf16 :=
  truncf .bf16 (shapeCast S4096x1024 (concatenate S4096x4x256 2 [⟨S4096x4x128, extractStridedSlice S4096x4x128 ![0, 0, 0] A slices_S4096x4x192_S4096x4x128_0_0_0⟩,
      ⟨S4096x4x64, broadcastInDim S4096x4x64 ![] bcast_S_S4096x4x64 (constant (F := Ideal) S_ .f32 0x00000000#32)⟩,
      ⟨S4096x4x64, extractStridedSlice S4096x4x64 ![0, 0, 128] A slices_S4096x4x192_S4096x4x64_0_0_128⟩] concatenates_S4096x4x128_S4096x4x64_S4096x4x64_S4096x4x256_d2)
    shapeCasts_S4096x4x256_S4096x1024) bitsLt_bf16_f32

section at_index
variable (A : FVec Ideal S4096x4x1x192 .f32) (T : FVec Ideal S4096x4x1x128 .f32) (K : FVec Ideal S4096x4x192 .f32) (W : FVec Ideal S4096x4x128 .f32)
  (S E P : FVec Ideal S4x1x4096x4096 .f32) (M D : FVec Ideal S4x1x4096x1 .f32) (r : FVec Ideal S4096x4x1 .f32) (h : Fin 4) (i j : Fin 4096)

theorem stScore_at : stScore A K (ix4 h 0 i j)
    = (∑ x : Fin 192, K (ix3 j h x) * A (ix4 i h 0 x)) * Ideal.div (Ideal.ofBits .f32 0x3F800000#32) (Ideal.sqrt (Ideal.ofBits .f32 0x43400000#32)) := by
  pointwise [stScore]
theorem stMax_at : stMax S (ix4 h 0 i 0) = Finset.fold max (Ideal.ofBits .f32 0xFF800000#32) (fun j : Fin 4096 => S (ix4 h 0 i j)) Finset.univ := by
  pointwise [stMax]
theorem stExp_at : stExp S M (ix4 h 0 i j) = Ideal.exp (S (ix4 h 0 i j) - M (ix4 h 0 i 0)) := by
  pointwise [stExp]
theorem stSum_at : stSum E (ix4 h 0 i 0) = ∑ j : Fin 4096, E (ix4 h 0 i j) := by
  pointwise [stSum]
theorem stLse_at : stLse M D (ix3 i h 0) = M (ix4 h 0 i 0) + Ideal.log (D (ix4 h 0 i 0)) := by
  pointwise [stLse]
theorem stProb_at : stProb E D (ix4 h 0 i j) = Ideal.div (E (ix4 h 0 i j)) (D (ix4 h 0 i 0)) := by
  pointwise [stProb]
theorem stDelta_at : stDelta W P T (ix3 i h 0) = ∑ f : Fin 128, T (ix4 i h 0 f) * ∑ j : Fin 4096, W (ix3 j h f) * P (ix4 h 0 i j) := by
  pointwise [stDelta]
theorem stLanes_at (l : Fin 512) (x : Fin 128) (hl : (l : ℕ) = h * 128 + x) : stLanes r (ix2 i l) = r (ix3 i h 0) := by
  pointwise [stLanes]
  congr 2 <;> exact Fin.ext (by simp only []; omega)

theorem stWide_at (l : Fin 1024) (y : Fin 256) (hl : (l : ℕ) = h * 256 + y) (a : Fin 192 → ℝ) (ha : ∀ x, K (ix3 i h x) = ((a x : ℝ) : EReal)) :
    stWide K (ix2 i l) = ((wide a y : ℝ) : EReal) := by
  refine Eq.trans ?_ (cat_at K (broadcastInDim S4096x4x64 ![] bcast_S_S4096x4x64 (constant (F := Ideal) S_ .f32 0x00000000#32))
    slices_S4096x4x192_S4096x4x128_0_0_0 slices_S4096x4x192_S4096x4x64_0_0_128 concatenates_S4096x4x128_S4096x4x64_S4096x4x64_S4096x4x256_d2 (fun b => ?_) i h a ha y)
  · unfold stWide
    generalize concatenate S4096x4x256 2 _ _ = Z
    pointwise
    congr 2 <;> exact Fin.ext (by simp only []; omega)
  · show Ideal.ofBits .f32 0x00000000#32 = 0
    simp [Ideal.ofBits, Ideal.ieee]
end at_index

end Cert.AttnAIdeal.AttnA

end
-- ==== Proof.AttnA.HostA.lean ====
/- What the kernel's host code of mixer A hands to the call, of finite arguments: the flattened arrays, those of 192 lanes
   widened to 256, and each row's log-sum and row sum of output times cotangent, repeated over 128 lanes. -/
module

public import Idealize.ShloMosaic.Lib.StableHlo.RunRead
public import proofs.«01_k».proof.Proof.Gen.AttnAIdeal.Value
public import proofs.«01_k».proof.Proof.AttnA.HostStagesA
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnAIdeal.AttnA
open Cert.AttnAIdeal Cert.AttnAIdeal.Gen Cert.Softmax

variable (m : (ℓ : Loc nD τ sig) → Buf (Elt Ideal) ℓ)

/-- The four arguments on device `c` are the real arrays `q`, `k`, `v`, `ct`. -/
structure Reals (c : Dev nD) (q k : Fin 4096 → Fin 4 → Fin 192 → ℝ) (v ct : Fin 4096 → Fin 4 → Fin 128 → ℝ) : Prop where
  hq : ∀ i h x, (m ((c : Thread nD τ).loc main_arg0) : FVec Ideal S4096x4x1x192 .f32) (ix4 i h 0 x) = ((q i h x : ℝ) : EReal)
  hk : ∀ i h x, (m ((c : Thread nD τ).loc main_arg1) : FVec Ideal S4096x4x192 .f32) (ix3 i h x) = ((k i h x : ℝ) : EReal)
  hv : ∀ i h x, (m ((c : Thread nD τ).loc main_arg2) : FVec Ideal S4096x4x128 .f32) (ix3 i h x) = ((v i h x : ℝ) : EReal)
  hct : ∀ i h x, (m ((c : Thread nD τ).loc main_arg3) : FVec Ideal S4096x4x1x128 .f32) (ix4 i h 0 x) = ((ct i h x : ℝ) : EReal)

/-- Query row `i` of head `h`, scored against every key. -/
def X (q k : Fin 4096 → Fin 4 → Fin 192 → ℝ) (h : Fin 4) (i : Fin 4096) : Fin 4096 → ℝ := score scaleA (q i h) (fun j => k j h)

/-- The gradient of that row's probabilities. -/
def Y (v ct : Fin 4096 → Fin 4 → Fin 128 → ℝ) (h : Fin 4) (i : Fin 4096) : Fin 4096 → ℝ := dprob (ct i h) (fun j => v j h)

variable {m} {c : Dev nD} {q k : Fin 4096 → Fin 4 → Fin 192 → ℝ} {v ct : Fin 4096 → Fin 4 → Fin 128 → ℝ} (R : Reals m c q k v ct)
include R

omit R in
/-- The query operand is the widened queries. -/
theorem v29_eq : (V m c main_v29 : FVec Ideal S4096x1024 .bf16)
    = stWide (shapeCast S4096x4x192 (m ((c : Thread nD τ).loc main_arg0) : FVec Ideal S4096x4x1x192 .f32) shapeCasts_S4096x4x1x192_S4096x4x192) := by
  unfold V hostOps0
  after_reads_simp
  rfl

omit R in
/-- The key operand is the widened keys. -/
theorem v35_eq : (V m c main_v35 : FVec Ideal S4096x1024 .bf16) = stWide (m ((c : Thread nD τ).loc main_arg1)) := by
  unfold V hostOps0
  after_reads_simp
  rfl

/-- The query array, heads side by side, each over 256 lanes. -/
theorem Reals.v29_at (i : Fin 4096) (l : Fin 1024) (h : Fin 4) (y : Fin 256) (hl : (l : ℕ) = h * 256 + y) :
    (V m c main_v29 : FVec Ideal S4096x1024 .bf16) (ix2 i l) = ((wide (q i h) y : ℝ) : EReal) := by
  rw [v29_eq]
  refine stWide_at _ h i l y hl (q i h) fun x => Eq.trans ?_ (R.hq i h x)
  pointwise

/-- The key array, heads side by side, each over 256 lanes. -/
theorem Reals.v35_at (i : Fin 4096) (l : Fin 1024) (h : Fin 4) (y : Fin 256) (hl : (l : ℕ) = h * 256 + y) :
    (V m c main_v35 : FVec Ideal S4096x1024 .bf16) (ix2 i l) = ((wide (k i h) y : ℝ) : EReal) := by
  rw [v35_eq]
  exact stWide_at _ h i l y hl (k i h) fun x => R.hk i h x

/-- The value array, heads side by side. -/
theorem Reals.v37_at (i : Fin 4096) (l : Fin 512) (h : Fin 4) (x : Fin 128) (hl : (l : ℕ) = h * 128 + x) :
    (V m c main_v37 : FVec Ideal S4096x512 .bf16) (ix2 i l) = ((v i h x : ℝ) : EReal) := by
  entry_read
  pointwise
  refine Eq.trans ?_ (R.hv i h x)
  congr 2 <;> exact Fin.ext (by simp only []; omega)

/-- The cotangent array, heads side by side. -/
theorem Reals.v39_at (i : Fin 4096) (l : Fin 512) (h : Fin 4) (x : Fin 128) (hl : (l : ℕ) = h * 128 + x) :
    (V m c main_v39 : FVec Ideal S4096x512 .bf16) (ix2 i l) = ((ct i h x : ℝ) : EReal) := by
  entry_read
  pointwise
  refine Eq.trans ?_ (R.hct i h x)
  congr 2 <;> exact Fin.ext (by simp only []; omega)

/-- The scores of finite arguments. -/
theorem Reals.stScore_coe (h : Fin 4) (i j : Fin 4096) :
    stScore (m ((c : Thread nD τ).loc main_arg0)) (m ((c : Thread nD τ).loc main_arg1)) (ix4 h 0 i j) = ((X q k h i j : ℝ) : EReal) :=
  (stScore_at ..).trans (score_of_coe (fun x => R.hq i h x) (fun j x => R.hk j h x) div_sqrt j)

/-- Their row maxima. -/
theorem Reals.stMax_coe (h : Fin 4) (i : Fin 4096) :
    stMax (stScore (m ((c : Thread nD τ).loc main_arg0)) (m ((c : Thread nD τ).loc main_arg1))) (ix4 h 0 i 0) = ((rowMax (X q k h i) : ℝ) : EReal) :=
  (stMax_at ..).trans (rowMax_of_coe (R.stScore_coe h i))

/-- The exponentials about the maxima. -/
theorem Reals.stExp_coe (h : Fin 4) (i j : Fin 4096) :
    stExp (stScore (m ((c : Thread nD τ).loc main_arg0)) (m ((c : Thread nD τ).loc main_arg1)))
        (stMax (stScore (m ((c : Thread nD τ).loc main_arg0)) (m ((c : Thread nD τ).loc main_arg1)))) (ix4 h 0 i j)
      = ((Real.exp (X q k h i j - rowMax (X q k h i)) : ℝ) : EReal) := by
  rw [stExp_at, R.stScore_coe, R.stMax_coe, ← EReal.coe_sub, Ideal.exp_coe]

/-- Their sums. -/
theorem Reals.stSum_coe (h : Fin 4) (i : Fin 4096) :
    stSum (stExp (stScore (m ((c : Thread nD τ).loc main_arg0)) (m ((c : Thread nD τ).loc main_arg1)))
        (stMax (stScore (m ((c : Thread nD τ).loc main_arg0)) (m ((c : Thread nD τ).loc main_arg1))))) (ix4 h 0 i 0)
      = ((∑ j, Real.exp (X q k h i j - rowMax (X q k h i)) : ℝ) : EReal) := by
  rw [stSum_at, Finset.sum_congr rfl fun j _ => R.stExp_coe h i j, coe_sum]

omit R in
/-- The log-sum operand is the stages' composition. -/
theorem v41_eq : (V m c main_v41 : FVec Ideal S4096x512 .f32)
    = let S := stScore (m ((c : Thread nD τ).loc main_arg0)) (m ((c : Thread nD τ).loc main_arg1))
      stLanes (stLse (stMax S) (stSum (stExp S (stMax S)))) := by
  entry_read
  rfl

omit R in
/-- The operand of the sums of output times cotangent is the stages' composition. -/
theorem v43_eq : (V m c main_v43 : FVec Ideal S4096x512 .f32)
    = let S := stScore (m ((c : Thread nD τ).loc main_arg0)) (m ((c : Thread nD τ).loc main_arg1))
      stLanes (stDelta (m ((c : Thread nD τ).loc main_arg2)) (stProb (stExp S (stMax S)) (stSum (stExp S (stMax S)))) (m ((c : Thread nD τ).loc main_arg3))) := by
  entry_read
  rfl

/-- Each row's log-sum, on every lane of its head. -/
theorem Reals.v41_at (i : Fin 4096) (l : Fin 512) (h : Fin 4) (x : Fin 128) (hl : (l : ℕ) = h * 128 + x) :
    (V m c main_v41 : FVec Ideal S4096x512 .f32) (ix2 i l) = ((lse (X q k h i) : ℝ) : EReal) := by
  rw [v41_eq]
  refine (stLanes_at _ h i l x hl).trans ((stLse_at ..).trans ?_)
  rw [R.stMax_coe, R.stSum_coe, log_sum_exp, ← EReal.coe_add, lse]

/-- Each row's sum of output times cotangent, on every lane of its head. -/
theorem Reals.v43_at (i : Fin 4096) (l : Fin 512) (h : Fin 4) (x : Fin 128) (hl : (l : ℕ) = h * 128 + x) :
    (V m c main_v43 : FVec Ideal S4096x512 .f32) (ix2 i l) = ((∑ j, prob (X q k h i) j * Y v ct h i j : ℝ) : EReal) := by
  rw [v43_eq]
  refine (stLanes_at _ h i l x hl).trans ((stDelta_at ..).trans ?_)
  refine delta_of_coe (fun f => R.hct i h f) (fun j f => R.hv j h f) fun j => ?_
  refine (stProb_at ..).trans ?_
  rw [R.stExp_coe, R.stSum_coe, div_sum_exp, prob_shift]

end Cert.AttnAIdeal.AttnA

end
-- ==== Proof.AttnA.FiniteA.lean ====
/- What the precondition `finite_a` gives: every entry of mixer A's four arguments is a real number. -/
module

public import proofs.«01_k».proof.Defs
public import proofs.«01_k».proof.Proof.Gen.Pre_finite_a
public import proofs.«01_k».proof.Proof.AttnA.HostA
public import proofs.«01_k».proof.Proof.Attn.Finite
public import Idealize.ShloMosaic.Lib.ReduceAll

@[expose] public section

set_option maxRecDepth 16384

noncomputable section

open Idealize.ShloMosaic Idealize.ShloMosaic.TcCoe Idealize.SL.Sem

namespace Cert.FiniteA
open Cert.Pre_finite_a Cert.AttnAIdeal.AttnA

/-- The precondition, of four arrays: every entry of each is a real number. -/
theorem real_of_fn (x0 : FVec Ideal S4096x4x1x192 .f32) (x1 : FVec Ideal S4096x4x192 .f32) (x2 : FVec Ideal S4096x4x128 .f32) (x3 : FVec Ideal S4096x4x1x128 .f32)
    (e : Cert.Pre_finite_a.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have e0 := congrFun e (fun x => x.elim0)
  obtain ⟨e0, e3⟩ := IntOp.andi_eq_one.1 e0
  obtain ⟨e0, e2⟩ := IntOp.andi_eq_one.1 e0
  obtain ⟨e0, e1⟩ := IntOp.andi_eq_one.1 e0
  exact ⟨Cert.Finite.real_of_all x0 Facts.bcast_S_S4096x4x1x192 Facts.reducesTo_S4096x4x1x192_S_d0_1_2_3 Facts.h_S_ (fun x => x.elim0) e0,
    Cert.Finite.real_of_all x1 Facts.bcast_S_S4096x4x192 Facts.reducesTo_S4096x4x192_S_d0_1_2 Facts.h_S_ (fun x => x.elim0) e1,
    Cert.Finite.real_of_all x2 Facts.bcast_S_S4096x4x128 Facts.reducesTo_S4096x4x128_S_d0_1_2 Facts.h_S_ (fun x => x.elim0) e2,
    Cert.Finite.real_of_all x3 Facts.bcast_S_S4096x4x1x128 Facts.reducesTo_S4096x4x1x128_S_d0_1_2_3 Facts.h_S_ (fun x => x.elim0) e3⟩

/-- Where the precondition holds, the arguments of every device are real arrays. -/
theorem reals (m : (ℓ : Loc Cert.AttnAIdeal.nD Cert.AttnAIdeal.τ Cert.AttnAIdeal.sig) → Buf (Elt Ideal) ℓ) (hm : Pre_AttnAIdeal_finite_a m) (c : Dev Cert.AttnAIdeal.nD) :
    ∃ q k v ct, Cert.AttnAIdeal.AttnA.Reals m c q k v ct := by
  obtain ⟨h0, h1, h2, h3⟩ := real_of_fn _ _ _ _ (hm c)
  exact ⟨_, _, _, _, ⟨fun i h x => h0 (ix4 i h 0 x), fun i h x => h1 (ix3 i h x), fun i h x => h2 (ix3 i h x), fun i h x => h3 (ix4 i h 0 x)⟩⟩

end Cert.FiniteA

end
-- ==== Proof.AttnA.RefStagesA.lean ====
/- The stages of mixer A's reference, each read at an index: the scores, the softmax about the row maxima, and what
   differentiating them gives. -/
module

public import proofs.«01_k».proof.Proof.Gen.AttnAReferenceIdeal.Read
public import proofs.«01_k».proof.Proof.AttnA.Wide
public import proofs.«01_k».proof.Proof.Attn.RefStagesB
public import Idealize.ShloMosaic.Lib.Pointwise

@[expose] public section

set_option maxRecDepth 16384

noncomputable section

open Idealize.ShloMosaic Idealize.ShloMosaic.TcCoe Idealize.SL.Sem

namespace Cert.AttnAReferenceIdeal.AttnA
open Cert.AttnAReferenceIdeal Cert.AttnAReferenceIdeal.Gen Cert.AttnAReferenceIdeal.Read Cert.Softmax

variable (x0 : FVec Ideal S4096x4x1x192 .f32) (x1 : FVec Ideal S4096x4x192 .f32) (x2 : FVec Ideal S4096x4x128 .f32) (x3 : FVec Ideal S4096x4x1x128 .f32)
  (h : Fin 4) (i j : Fin 4096)

theorem v5_at : val_main_v5 (F := Ideal) x0 x1 (ix4 h 0 i j)
    = (∑ x : Fin 192, x1 (ix3 j h x) * x0 (ix4 i h 0 x)) * Ideal.div (Ideal.ofBits .f32 0x3F800000#32) (Ideal.sqrt (Ideal.ofBits .f32 0x43400000#32)) := by
  pointwise [val_main_v5, val_main_v4, val_main_v3, val_main_v2, val_main_v1, val_main_v0, val_main_cst, val_main_cst_0]

theorem v6_at : val_main_v6 (F := Ideal) x0 x1 (ix3 h 0 i)
    = Finset.fold max (Ideal.ofBits .f32 0xFF800000#32) (fun j : Fin 4096 => val_main_v5 (F := Ideal) x0 x1 (ix4 h 0 i j)) Finset.univ := by
  unfold val_main_v6
  generalize val_main_v5 (F := Ideal) x0 x1 = S
  pointwise [val_main_cst_1]

theorem v12_at : val_main_v12 (F := Ideal) (ix3 h 0 i) = Ideal.ofBits .f32 0xFF800000#32 := by
  pointwise [val_main_v12, val_main_cst_3]

theorem v13_at (r : EReal) (hr : val_main_v6 (F := Ideal) x0 x1 (ix3 h 0 i) = r) : val_main_v13 (F := Ideal) x0 x1 (ix3 h 0 i) = r :=
  Cert.ReferenceIdeal.AttnB.maximumf_at _ _ _ r (v12_at h i) hr

theorem v26_at : val_main_v26 (F := Ideal) x0 x1 (ix4 h 0 i j)
    = Ideal.exp (val_main_v5 (F := Ideal) x0 x1 (ix4 h 0 i j) - val_main_v13 (F := Ideal) x0 x1 (ix3 h 0 i)) := by
  unfold val_main_v26 val_main_v25 val_main_v24 val_main_v23
  generalize val_main_v5 (F := Ideal) x0 x1 = S
  generalize val_main_v13 (F := Ideal) x0 x1 = M
  pointwise

theorem v28_at : val_main_v28 (F := Ideal) x0 x1 (ix4 h 0 i 0) = ∑ j : Fin 4096, val_main_v26 (F := Ideal) x0 x1 (ix4 h 0 i j) := by
  unfold val_main_v28 val_main_v27
  generalize val_main_v26 (F := Ideal) x0 x1 = E
  pointwise [val_main_cst_9]

theorem v30_at : val_main_v30 (F := Ideal) x0 x1 (ix4 h 0 i j)
    = Ideal.div (val_main_v26 (F := Ideal) x0 x1 (ix4 h 0 i j)) (val_main_v28 (F := Ideal) x0 x1 (ix4 h 0 i 0)) := by
  unfold val_main_v30 val_main_v29
  generalize val_main_v26 (F := Ideal) x0 x1 = E
  generalize val_main_v28 (F := Ideal) x0 x1 = D
  pointwise

theorem v33_at : val_main_v33 (F := Ideal) x0 x1 (ix4 h 0 i 0)
    = Ideal.div 1 (val_main_v28 (F := Ideal) x0 x1 (ix4 h 0 i 0) * val_main_v28 (F := Ideal) x0 x1 (ix4 h 0 i 0)) := by
  unfold val_main_v33 val_main_v31
  generalize val_main_v28 (F := Ideal) x0 x1 = D
  pointwise [val_main_v32, val_main_cst_10]

theorem v37_at : val_main_v37 (F := Ideal) x2 x3 (ix4 h 0 i j) = ∑ f : Fin 128, x3 (ix4 i h 0 f) * x2 (ix3 j h f) := by
  pointwise [val_main_v37, val_main_v36]

theorem v45_at : val_main_v45 (F := Ideal) x0 x1 x2 x3 (ix4 h 0 i 0)
    = -∑ l : Fin 4096, val_main_v37 (F := Ideal) x2 x3 (ix4 h 0 i l) * val_main_v33 (F := Ideal) x0 x1 (ix4 h 0 i 0)
        * val_main_v26 (F := Ideal) x0 x1 (ix4 h 0 i l) := by
  unfold val_main_v45 val_main_v44 val_main_v43 val_main_v42 val_main_v41 val_main_v40
  generalize val_main_v26 (F := Ideal) x0 x1 = E
  generalize val_main_v37 (F := Ideal) x2 x3 = Y
  generalize val_main_v33 (F := Ideal) x0 x1 = D
  pointwise [val_main_cst_11]

/-- A sum over two axes of one entry each is the entry. -/
theorem reduce_ones (Z : FVec Ideal S4x1x4096x1 .f32) :
    Ideal.hostReduceAdd reducesTo_S4x1x4096x1_S4x4096_d1_3 Z 0 (ix2 h i) = Z (ix4 h 0 i 0) := by
  unfold Ideal.hostReduceAdd
  rw [zero_add]
  refine Finset.sum_eq_single_of_mem (ix4 h 0 i 0 : S4x1x4096x1.Idx) (Finset.mem_filter.2 ⟨Finset.mem_univ _, ?_⟩) fun y hy hne => absurd ?_ hne
  · funext b
    fin_cases b <;> rfl
  · have e := (Finset.mem_filter.1 hy).2
    have e0 : (y 0).val = h.val := congrArg Fin.val (congrFun e 0)
    have e2 : (y 2).val = i.val := congrArg Fin.val (congrFun e 1)
    have h1 : (y 1).val < 1 := (y 1).isLt
    have h3 : (y 3).val < 1 := (y 3).isLt
    funext b
    fin_cases b
    · exact Fin.ext e0
    · exact Fin.ext (by show (y 1).val = 0; omega)
    · exact Fin.ext e2
    · exact Fin.ext (by show (y 3).val = 0; omega)

theorem v49_at : val_main_v49 (F := Ideal) x0 x1 x2 x3 (ix3 h 0 i) = val_main_v45 (F := Ideal) x0 x1 x2 x3 (ix4 h 0 i 0) := by
  unfold val_main_v49 val_main_v48
  generalize val_main_v45 (F := Ideal) x0 x1 x2 x3 = Z
  pointwise [val_main_cst_12]
  exact reduce_ones h i Z

theorem v54_at : val_main_v54 (F := Ideal) x0 x1 x2 x3 (ix4 h 0 i j)
    = (Ideal.div (val_main_v37 (F := Ideal) x2 x3 (ix4 h 0 i j)) (val_main_v28 (F := Ideal) x0 x1 (ix4 h 0 i 0))
        + val_main_v49 (F := Ideal) x0 x1 x2 x3 (ix3 h 0 i)) * val_main_v26 (F := Ideal) x0 x1 (ix4 h 0 i j)
          * Ideal.div (Ideal.ofBits .f32 0x3F800000#32) (Ideal.sqrt (Ideal.ofBits .f32 0x43400000#32)) := by
  unfold val_main_v54 val_main_v52 val_main_v51 val_main_v50 val_main_v47 val_main_v46
  generalize val_main_v26 (F := Ideal) x0 x1 = E
  generalize val_main_v37 (F := Ideal) x2 x3 = Y
  generalize val_main_v28 (F := Ideal) x0 x1 = D
  generalize val_main_v49 (F := Ideal) x0 x1 x2 x3 = Z
  pointwise [val_main_v53, val_main_v3, val_main_v2, val_main_cst, val_main_cst_0]

theorem v60_at (x : Fin 192) : val_main_v60 (F := Ideal) x0 x1 x2 x3 (ix3 i h x)
    = ∑ j : Fin 4096, val_main_v54 (F := Ideal) x0 x1 x2 x3 (ix4 h 0 i j) * x1 (ix3 j h x) := by
  unfold val_main_v60 val_main_v57 val_main_v56 val_main_v55
  generalize val_main_v54 (F := Ideal) x0 x1 x2 x3 = Z
  pointwise

theorem v59_at (x : Fin 192) : val_main_v59 (F := Ideal) x0 x1 x2 x3 (ix3 j h x)
    = ∑ i : Fin 4096, val_main_v54 (F := Ideal) x0 x1 x2 x3 (ix4 h 0 i j) * x0 (ix4 i h 0 x) := by
  unfold val_main_v59 val_main_v58 val_main_v55
  generalize val_main_v54 (F := Ideal) x0 x1 x2 x3 = Z
  pointwise
  simp only [Fin.sum_univ_one]

theorem v71_at (l : Fin 512) (x : Fin 128) (hl : (l : ℕ) = h * 128 + x) :
    val_main_v71 (F := Ideal) x0 x1 x3 (ix2 j l) = ∑ i : Fin 4096, x3 (ix4 i h 0 x) * val_main_v30 (F := Ideal) x0 x1 (ix4 h 0 i j) := by
  unfold val_main_v71 val_main_v39 val_main_v38 val_main_v36
  generalize val_main_v30 (F := Ideal) x0 x1 = Z
  have e1 : (⟨(l : ℕ) / 128, by omega⟩ : Fin 4) = h := Fin.ext (by simp only []; omega)
  have e3 : (⟨(l : ℕ) % 128, by omega⟩ : Fin 128) = x := Fin.ext (by simp only []; omega)
  pointwise
  simp only [e1, e3, Fin.sum_univ_one]

/-- The query gradient's result: its rows over 256 lanes, the heads side by side. -/
theorem v65_at (l : Fin 1024) (y : Fin 256) (hl : (l : ℕ) = h * 256 + y) (a : Fin 192 → ℝ)
    (ha : ∀ x, val_main_v60 (F := Ideal) x0 x1 x2 x3 (ix3 i h x) = ((a x : ℝ) : EReal)) :
    val_main_v65 (F := Ideal) x0 x1 x2 x3 (ix2 i l) = ((wide a y : ℝ) : EReal) := by
  refine Eq.trans ?_ (cat_at (val_main_v60 (F := Ideal) x0 x1 x2 x3) (val_main_v62 (F := Ideal)) slices_S4096x4x192_S4096x4x128_0_0_0 slices_S4096x4x192_S4096x4x64_0_0_128
    concatenates_S4096x4x128_S4096x4x64_S4096x4x64_S4096x4x256_d2 (fun b => ?_) i h a ha y)
  · unfold val_main_v65 val_main_v64 val_main_v61 val_main_v63
    generalize concatenate S4096x4x256 2 _ _ = Z
    have e1 : (⟨(l : ℕ) / 256, by omega⟩ : Fin 4) = h := Fin.ext (by simp only []; omega)
    have e3 : (⟨(l : ℕ) % 256, by omega⟩ : Fin 256) = y := Fin.ext (by simp only []; omega)
    pointwise
    simp only [e1, e3]
  · show Ideal.ofBits .f32 0x00000000#32 = 0
    simp [Ideal.ofBits, Ideal.ieee]

/-- The key gradient's result, likewise. -/
theorem v70_at (l : Fin 1024) (y : Fin 256) (hl : (l : ℕ) = h * 256 + y) (a : Fin 192 → ℝ)
    (ha : ∀ x, val_main_v59 (F := Ideal) x0 x1 x2 x3 (ix3 j h x) = ((a x : ℝ) : EReal)) :
    val_main_v70 (F := Ideal) x0 x1 x2 x3 (ix2 j l) = ((wide a y : ℝ) : EReal) := by
  refine Eq.trans ?_ (cat_at (val_main_v59 (F := Ideal) x0 x1 x2 x3) (val_main_v67 (F := Ideal)) slices_S4096x4x192_S4096x4x128_0_0_0 slices_S4096x4x192_S4096x4x64_0_0_128
    concatenates_S4096x4x128_S4096x4x64_S4096x4x64_S4096x4x256_d2 (fun b => ?_) j h a ha y)
  · unfold val_main_v70 val_main_v69 val_main_v66 val_main_v68
    generalize concatenate S4096x4x256 2 _ _ = Z
    have e1 : (⟨(l : ℕ) / 256, by omega⟩ : Fin 4) = h := Fin.ext (by simp only []; omega)
    have e3 : (⟨(l : ℕ) % 256, by omega⟩ : Fin 256) = y := Fin.ext (by simp only []; omega)
    pointwise
    simp only [e1, e3]
  · show Ideal.ofBits .f32 0x00000000#32 = 0
    simp [Ideal.ofBits, Ideal.ieee]

end Cert.AttnAReferenceIdeal.AttnA

end
-- ==== Proof.AttnA.PayA.lean ====
/- What one grid point of mixer A's call computes from its blocks: the probabilities, the gradient of the scores, and the
   three products that go to the results. -/
module

public import proofs.«01_k».proof.Proof.Gen.AttnAIdeal.Skeleton
public import proofs.«01_k».proof.Proof.AttnA.HostStagesA
public import Idealize.ShloMosaic.Lib.Pointwise

@[expose] public section

set_option maxRecDepth 16384

noncomputable section

open Idealize.ShloMosaic Idealize.ShloMosaic.TcCoe Idealize.SL.Sem

namespace Cert.AttnAIdeal.AttnA
open Cert.AttnAIdeal Cert.AttnAIdeal.Gen Cert.Softmax

/-- The scale times `1 / log 2`. -/
theorem scale2_eq : Named.named (F := Ideal) (φ := .f32) Cert.AttnAIdeal.κ "scale2" 0x3DD53B95#32 = ((scaleA * (Real.log 2)⁻¹ : ℝ) : EReal) :=
  IdealRules.named_const.ideal_named_scalar _ _ _ _ rfl

/-- `1 / log 2`. -/
theorem log2e_eq : Named.named (F := Ideal) (φ := .f32) Cert.AttnAIdeal.κ "log2e" 0x3FB8AA3B#32 = (((Real.log 2)⁻¹ : ℝ) : EReal) :=
  IdealRules.named_const.ideal_named_scalar _ _ _ _ rfl

/-- The scale. -/
theorem scale_eq : Named.named (F := Ideal) (φ := .f32) Cert.AttnAIdeal.κ "scale" 0x3D93CD3A#32 = ((scaleA : ℝ) : EReal) :=
  IdealRules.named_const.ideal_named_scalar _ _ _ _ rfl

section at_index
variable (v5 : Vec Ideal S512x256 .bf16) (v9 : Vec Ideal S512x128 .bf16) (v7 : Vec Ideal S4096x256 .bf16) (v21 : Vec Ideal S4096x128 .bf16)
  (v14 v24 : Vec Ideal S512x1 .f32) (v6 : FVec Ideal S512x256 .bf16) (v10 : FVec Ideal S512x128 .bf16) (v31 : FVec Ideal S512x4096 .bf16)
  (v20 : FVec Ideal S512x4096 .f32) (acc : Vec Ideal S4096x128 .f32) (accK : Vec Ideal S4096x256 .f32) (r : Fin 512) (j : Fin 4096) (f : Fin 128) (y : Fin 256)

theorem pay8_at : k0_pay8 (F := Ideal) v5 v7 v14 (ix2 r j)
    = Ideal.exp2 ((∑ x : Fin 256, v5 (ix2 r x) * v7 (ix2 j x)) * ((scaleA * (Real.log 2)⁻¹ : ℝ) : EReal)
        - v14 (ix2 r 0) * (((Real.log 2)⁻¹ : ℝ) : EReal)) := by
  rw [← scale2_eq, ← log2e_eq]
  pointwise [k0_pay8, k0_pay5, k0_pay6]
  rfl

theorem pay9_at : k0_pay9 (F := Ideal) v5 v7 v9 v14 v21 v24 (ix2 r j)
    = k0_pay8 (F := Ideal) v5 v7 v14 (ix2 r j) * ((∑ x : Fin 128, v9 (ix2 r x) * v21 (ix2 j x)) - v24 (ix2 r 0)) * ((scaleA : ℝ) : EReal) := by
  rw [← scale_eq]
  unfold k0_pay9
  generalize k0_pay8 (F := Ideal) v5 v7 v14 = p
  pointwise [k0_pay7]

theorem pay10_at : k0_pay10 (F := Ideal) v5 v7 v9 v14 v21 v24 (ix2 r y)
    = ∑ j : Fin 4096, k0_pay9 (F := Ideal) v5 v7 v9 v14 v21 v24 (ix2 r j) * v7 (ix2 j y) := by
  unfold k0_pay10
  generalize k0_pay9 (F := Ideal) v5 v7 v9 v14 v21 v24 = p
  pointwise [k0_pay6]

theorem pay1_at : k0_pay1 (F := Ideal) v6 v31 accK (ix2 j y) = accK (ix2 j y) + ∑ r : Fin 512, v31 (ix2 r j) * v6 (ix2 r y) := by
  pointwise [k0_pay1]

theorem pay2_at : k0_pay2 (F := Ideal) v10 v20 acc (ix2 j f) = acc (ix2 j f) + ∑ r : Fin 512, v20 (ix2 r j) * v10 (ix2 r f) := by
  pointwise [k0_pay2]
end at_index

/-! ## Of real blocks -/

section reals
variable {v5 : Vec Ideal S512x256 .bf16} {v9 : Vec Ideal S512x128 .bf16} {v7 : Vec Ideal S4096x256 .bf16} {v21 : Vec Ideal S4096x128 .bf16}
  {v14 v24 : Vec Ideal S512x1 .f32} {a : Fin 512 → Fin 192 → ℝ} {t : Fin 512 → Fin 128 → ℝ} {κ : Fin 4096 → Fin 192 → ℝ} {w : Fin 4096 → Fin 128 → ℝ}

/-- The blocks of one grid point are real: query rows `a` and keys `κ` over 256 lanes, values `w`, cotangent rows `t`, and of each row the
    log-sum and the sum of output times cotangent. -/
structure RealBlocks (v5 : Vec Ideal S512x256 .bf16) (v9 : Vec Ideal S512x128 .bf16) (v7 : Vec Ideal S4096x256 .bf16) (v21 : Vec Ideal S4096x128 .bf16)
    (v14 v24 : Vec Ideal S512x1 .f32) (a : Fin 512 → Fin 192 → ℝ) (t : Fin 512 → Fin 128 → ℝ) (κ : Fin 4096 → Fin 192 → ℝ) (w : Fin 4096 → Fin 128 → ℝ) : Prop where
  hq : ∀ r y, v5 (ix2 r y) = ((wide (a r) y : ℝ) : EReal)
  ht : ∀ r x, v9 (ix2 r x) = ((t r x : ℝ) : EReal)
  hk : ∀ j y, v7 (ix2 j y) = ((wide (κ j) y : ℝ) : EReal)
  hv : ∀ j x, v21 (ix2 j x) = ((w j x : ℝ) : EReal)
  hl : ∀ r, v14 (ix2 r 0) = ((lse (score scaleA (a r) κ) : ℝ) : EReal)
  hd : ∀ r, v24 (ix2 r 0) = ((∑ j, prob (score scaleA (a r) κ) j * dprob (t r) w j : ℝ) : EReal)

variable (B : RealBlocks v5 v9 v7 v21 v14 v24 a t κ w) (r : Fin 512) (j : Fin 4096) (y : Fin 256)
include B

/-- The probabilities. -/
theorem RealBlocks.pay8 : k0_pay8 (F := Ideal) v5 v7 v14 (ix2 r j) = ((prob (score scaleA (a r) κ) j : ℝ) : EReal) := by
  refine (pay8_at ..).trans ?_
  simp only [B.hq, B.hk, B.hl, ← EReal.coe_mul, coe_sum, ← EReal.coe_sub, Ideal.exp2_coe, sum_wide_mul_wide, rpow_sub_lse]

/-- The gradient of the scores before scaling. -/
theorem RealBlocks.pay9 : k0_pay9 (F := Ideal) v5 v7 v9 v14 v21 v24 (ix2 r j)
    = ((dscore scaleA (score scaleA (a r) κ) (dprob (t r) w) j : ℝ) : EReal) := by
  refine (pay9_at ..).trans ?_
  rw [B.pay8, B.hd]
  simp only [B.ht, B.hv, ← EReal.coe_mul, coe_sum, ← EReal.coe_sub, dscore, dprob]

/-- The gradient of the query rows, over 256 lanes. -/
theorem RealBlocks.pay10 : k0_pay10 (F := Ideal) v5 v7 v9 v14 v21 v24 (ix2 r y)
    = ((wide (fun x => ∑ j, dscore scaleA (score scaleA (a r) κ) (dprob (t r) w) j * κ j x) y : ℝ) : EReal) := by
  refine (pay10_at ..).trans ?_
  simp only [B.pay9, B.hk, ← EReal.coe_mul, coe_sum, sum_mul_wide]
end reals

end Cert.AttnAIdeal.AttnA

end
-- ==== Proof.AttnA.BlocksA.lean ====
/- What the blocks of one grid point of mixer A's call hold, of finite arguments. -/
module

public import proofs.«01_k».proof.Proof.AttnA.HostA
public import proofs.«01_k».proof.Proof.AttnA.PayA

@[expose] public section

set_option maxRecDepth 16384

noncomputable section

open Idealize.ShloMosaic Idealize.ShloMosaic.TcCoe Idealize.SL.Sem
open Idealize.ShloMosaic.Pipeline (Dat)

namespace Cert.AttnAIdeal.AttnA
open Cert.AttnAIdeal Cert.AttnAIdeal.Gen Cert.Softmax

/-! ## Which block each window holds at grid point `t` -/

theorem idxQ : ∀ t : Fin cfg0.N, win0_0.index t = ![t.val % 8, t.val / 8] := (by decide +kernel : ∀ t : Fin grid0.N, win0_0.index t = _)
theorem idxK : ∀ t : Fin cfg0.N, win0_1.index t = ![0, t.val / 8] := (by decide +kernel : ∀ t : Fin grid0.N, win0_1.index t = _)
theorem idxV : ∀ t : Fin cfg0.N, win0_2.index t = ![0, t.val / 8] := (by decide +kernel : ∀ t : Fin grid0.N, win0_2.index t = _)
theorem idxT : ∀ t : Fin cfg0.N, win0_3.index t = ![t.val % 8, t.val / 8] := (by decide +kernel : ∀ t : Fin grid0.N, win0_3.index t = _)
theorem idxL : ∀ t : Fin cfg0.N, win0_4.index t = ![t.val % 8, t.val / 8] := (by decide +kernel : ∀ t : Fin grid0.N, win0_4.index t = _)
theorem idxD : ∀ t : Fin cfg0.N, win0_5.index t = ![t.val % 8, t.val / 8] := (by decide +kernel : ∀ t : Fin grid0.N, win0_5.index t = _)
theorem idxDq : ∀ t : Fin cfg0.N, win0_6.index t = ![t.val % 8, t.val / 8] := (by decide +kernel : ∀ t : Fin grid0.N, win0_6.index t = _)
theorem idxDk : ∀ t : Fin cfg0.N, win0_7.index t = ![0, t.val / 8] := (by decide +kernel : ∀ t : Fin grid0.N, win0_7.index t = _)
theorem idxDv : ∀ t : Fin cfg0.N, win0_8.index t = ![0, t.val / 8] := (by decide +kernel : ∀ t : Fin grid0.N, win0_8.index t = _)

/-- The head of grid point `t`. -/
def hd (t : Fin cfg0.N) : Fin 4 := ⟨t.val / 8, by have := t.isLt; have : cfg0.N = 32 := rfl; omega⟩
/-- Its query row `r`. -/
def qrow (t : Fin cfg0.N) (r : Fin 512) : Fin 4096 := ⟨512 * (t.val % 8) + r, by omega⟩

/-! ## A window's block, read out of the array it is a block of -/

theorem read0 (A : (r : Ref sig .tc) → r.ty.Idx → Elt Ideal r.ty.elt) (t : Fin cfg0.N) (y : S512x256.Idx) :
    ((cfg0.win 0).blk t).view.read (Elt Ideal) (A (Pipeline.arrRef spec0 0)) y = A main_v29 ((win0_0.blk t).view.emb y) := rfl
theorem read1 (A : (r : Ref sig .tc) → r.ty.Idx → Elt Ideal r.ty.elt) (t : Fin cfg0.N) (y : S4096x256.Idx) :
    ((cfg0.win 1).blk t).view.read (Elt Ideal) (A (Pipeline.arrRef spec0 1)) y = A main_v35 ((win0_1.blk t).view.emb y) := rfl
theorem read2 (A : (r : Ref sig .tc) → r.ty.Idx → Elt Ideal r.ty.elt) (t : Fin cfg0.N) (y : S4096x128.Idx) :
    ((cfg0.win 2).blk t).view.read (Elt Ideal) (A (Pipeline.arrRef spec0 2)) y = A main_v37 ((win0_2.blk t).view.emb y) := rfl
theorem read3 (A : (r : Ref sig .tc) → r.ty.Idx → Elt Ideal r.ty.elt) (t : Fin cfg0.N) (y : S512x128.Idx) :
    ((cfg0.win 3).blk t).view.read (Elt Ideal) (A (Pipeline.arrRef spec0 3)) y = A main_v39 ((win0_3.blk t).view.emb y) := rfl
theorem read4 (A : (r : Ref sig .tc) → r.ty.Idx → Elt Ideal r.ty.elt) (t : Fin cfg0.N) (y : S512x128.Idx) :
    ((cfg0.win 4).blk t).view.read (Elt Ideal) (A (Pipeline.arrRef spec0 4)) y = A main_v41 ((win0_4.blk t).view.emb y) := rfl
theorem read5 (A : (r : Ref sig .tc) → r.ty.Idx → Elt Ideal r.ty.elt) (t : Fin cfg0.N) (y : S512x128.Idx) :
    ((cfg0.win 5).blk t).view.read (Elt Ideal) (A (Pipeline.arrRef spec0 5)) y = A main_v43 ((win0_5.blk t).view.emb y) := rfl

variable {m : (ℓ : Loc nD τ sig) → Buf (Elt Ideal) ℓ} {c : Dev nD} {q k : Fin 4096 → Fin 4 → Fin 192 → ℝ}
  {v ct : Fin 4096 → Fin 4 → Fin 128 → ℝ} (R : Reals m c q k v ct)
include R

/-- The query block. -/
theorem Reals.iblk0 (t : Fin cfg0.N) (r : Fin 512) (y : Fin 256) :
    (iblk m c 0 t : Vec Ideal S512x256 .bf16) (ix2 r y) = ((wide (q (qrow t r) (hd t)) y : ℝ) : EReal) := by
  have e : (win0_0.blk t).view.emb (ix2 r y) = (ix2 (qrow t r) ⟨hd t * 256 + y, by omega⟩ : S4096x1024.Idx) := by
    blk_ext [idxQ, qrow, hd]
  refine (read0 (V m c) t (ix2 r y)).trans ?_
  rw [e]
  exact R.v29_at (qrow t r) ⟨hd t * 256 + y, by omega⟩ (hd t) y rfl

/-- The key block. -/
theorem Reals.iblk1 (t : Fin cfg0.N) (j : Fin 4096) (y : Fin 256) :
    (iblk m c 1 t : Vec Ideal S4096x256 .bf16) (ix2 j y) = ((wide (k j (hd t)) y : ℝ) : EReal) := by
  have e : (win0_1.blk t).view.emb (ix2 j y) = (ix2 j ⟨hd t * 256 + y, by omega⟩ : S4096x1024.Idx) := by
    blk_ext [idxK, hd]
  refine (read1 (V m c) t (ix2 j y)).trans ?_
  rw [e]
  exact R.v35_at j ⟨hd t * 256 + y, by omega⟩ (hd t) y rfl

/-- The value block. -/
theorem Reals.iblk2 (t : Fin cfg0.N) (j : Fin 4096) (x : Fin 128) :
    (iblk m c 2 t : Vec Ideal S4096x128 .bf16) (ix2 j x) = ((v j (hd t) x : ℝ) : EReal) := by
  have e : (win0_2.blk t).view.emb (ix2 j x) = (ix2 j ⟨hd t * 128 + x, by omega⟩ : S4096x512.Idx) := by
    blk_ext [idxV, hd]
  refine (read2 (V m c) t (ix2 j x)).trans ?_
  rw [e]
  exact R.v37_at j ⟨hd t * 128 + x, by omega⟩ (hd t) x rfl

/-- The cotangent block. -/
theorem Reals.iblk3 (t : Fin cfg0.N) (r : Fin 512) (x : Fin 128) :
    (iblk m c 3 t : Vec Ideal S512x128 .bf16) (ix2 r x) = ((ct (qrow t r) (hd t) x : ℝ) : EReal) := by
  have e : (win0_3.blk t).view.emb (ix2 r x) = (ix2 (qrow t r) ⟨hd t * 128 + x, by omega⟩ : S4096x512.Idx) := by
    blk_ext [idxT, qrow, hd]
  refine (read3 (V m c) t (ix2 r x)).trans ?_
  rw [e]
  exact R.v39_at (qrow t r) ⟨hd t * 128 + x, by omega⟩ (hd t) x rfl

/-- The log-sums. -/
theorem Reals.iblk4 (t : Fin cfg0.N) (r : Fin 512) (x : Fin 128) :
    (iblk m c 4 t : Vec Ideal S512x128 .f32) (ix2 r x) = ((lse (X q k (hd t) (qrow t r)) : ℝ) : EReal) := by
  have e : (win0_4.blk t).view.emb (ix2 r x) = (ix2 (qrow t r) ⟨hd t * 128 + x, by omega⟩ : S4096x512.Idx) := by
    blk_ext [idxL, qrow, hd]
  refine (read4 (V m c) t (ix2 r x)).trans ?_
  rw [e]
  exact R.v41_at (qrow t r) ⟨hd t * 128 + x, by omega⟩ (hd t) x rfl

/-- The sums of output times cotangent. -/
theorem Reals.iblk5 (t : Fin cfg0.N) (r : Fin 512) (x : Fin 128) :
    (iblk m c 5 t : Vec Ideal S512x128 .f32) (ix2 r x)
      = ((∑ j, prob (X q k (hd t) (qrow t r)) j * Y v ct (hd t) (qrow t r) j : ℝ) : EReal) := by
  have e : (win0_5.blk t).view.emb (ix2 r x) = (ix2 (qrow t r) ⟨hd t * 128 + x, by omega⟩ : S4096x512.Idx) := by
    blk_ext [idxD, qrow, hd]
  refine (read5 (V m c) t (ix2 r x)).trans ?_
  rw [e]
  exact R.v43_at (qrow t r) ⟨hd t * 128 + x, by omega⟩ (hd t) x rfl

/-- The blocks of grid point `t`, as the body reads them, are real. -/
theorem Reals.blocks (t : Fin cfg0.N) :
    RealBlocks (iblk m c 0 t) (iblk m c 3 t) (iblk m c 1 t) (iblk m c 2 t)
      (View.ld (iblk m c 4 t) (Rect.unit ![0, 0] ![512, 1] inb_S512x128_S512x1_0_0))
      (View.ld (iblk m c 5 t) (Rect.unit ![0, 0] ![512, 1] inb_S512x128_S512x1_0_0))
      (fun r => q (qrow t r) (hd t)) (fun r => ct (qrow t r) (hd t)) (fun j => k j (hd t)) (fun j => v j (hd t)) where
  hq := R.iblk0 t
  ht := R.iblk3 t
  hk := R.iblk1 t
  hv := R.iblk2 t
  hl r := by
    refine Eq.trans ?_ (R.iblk4 t r 0)
    pointwise
  hd r := by
    refine Eq.trans ?_ (R.iblk5 t r 0)
    pointwise

end Cert.AttnAIdeal.AttnA

end
-- ==== Proof.AttnA.FinalA.lean ====
/- What the three result arrays of mixer A's call hold after it, of finite arguments: the gradients of the queries, keys and
   values, the first two over 256 lanes. -/
module

public import proofs.«01_k».proof.Proof.AttnA.BlocksA

@[expose] public section

set_option maxRecDepth 16384

noncomputable section

open Idealize.ShloMosaic Idealize.ShloMosaic.TcCoe Idealize.SL.Sem
open Idealize.ShloMosaic.Pipeline (Dat)

namespace Cert.AttnAIdeal.AttnA
open Cert.AttnAIdeal Cert.AttnAIdeal.Gen Cert.Softmax

/-! ## The gradients, as real numbers -/

section grads
variable (q k : Fin 4096 → Fin 4 → Fin 192 → ℝ) (v ct : Fin 4096 → Fin 4 → Fin 128 → ℝ)

/-- The gradient of query row `i` of head `h`. -/
def gradQ (i : Fin 4096) (h : Fin 4) (x : Fin 192) : ℝ :=
  ∑ j, dscore scaleA (X q k h i) (Y v ct h i) j * k j h x

/-- The gradient of key row `j` of head `h`. -/
def gradK (j : Fin 4096) (h : Fin 4) (x : Fin 192) : ℝ :=
  ∑ i, dscore scaleA (X q k h i) (Y v ct h i) j * q i h x

/-- The gradient of value row `j` of head `h`. -/
def gradV (j : Fin 4096) (h : Fin 4) (x : Fin 128) : ℝ :=
  ∑ i, prob (X q k h i) j * ct i h x

/-- A gradient of 192 lanes a head as an array, the heads side by side over 256 lanes. -/
def arrWide (g : Fin 4096 → Fin 4 → Fin 192 → ℝ) : FVec Ideal S4096x1024 .f32 := fun y =>
  ((wide (g (y 0) ⟨(y 1).val / 256, by idx_bounds y; omega⟩) ⟨(y 1).val % 256, by omega⟩ : ℝ) : EReal)

/-- The value gradient as an array. -/
def arrV : FVec Ideal S4096x512 .f32 := fun y =>
  ((gradV q k ct (y 0) ⟨(y 1).val / 128, by idx_bounds y; omega⟩ ⟨(y 1).val % 128, by omega⟩ : ℝ) : EReal)

theorem arrWide_at (g : Fin 4096 → Fin 4 → Fin 192 → ℝ) (i : Fin 4096) (l : Fin 1024) (h : Fin 4) (x : Fin 256) (hl : (l : ℕ) = h * 256 + x) :
    arrWide g (ix2 i l) = ((wide (g i h) x : ℝ) : EReal) := by
  show ((wide (g i ⟨l.val / 256, _⟩) ⟨l.val % 256, _⟩ : ℝ) : EReal) = _
  rw [show (⟨l.val / 256, by omega⟩ : Fin 4) = h from Fin.ext (by simp only []; omega),
    show (⟨l.val % 256, by omega⟩ : Fin 256) = x from Fin.ext (by simp only []; omega)]

theorem arrV_at (j : Fin 4096) (l : Fin 512) (h : Fin 4) (x : Fin 128) (hl : (l : ℕ) = h * 128 + x) :
    arrV q k ct (ix2 j l) = ((gradV q k ct j h x : ℝ) : EReal) := by
  show ((gradV q k ct j ⟨l.val / 128, _⟩ ⟨l.val % 128, _⟩ : ℝ) : EReal) = _
  congr 2 <;> exact Fin.ext (by simp only []; omega)
end grads

/-! ## The 8 grid points of one head, and their rows -/

theorem sum_points (f : Fin 4096 → ℝ) :
    ∑ s : Fin 8, ∑ r : Fin 512, f ⟨512 * (s.val % 8) + r, by omega⟩ = ∑ i, f i := by
  rw [Fin.sum_univ_tiles 8 512 rfl f]
  refine Finset.sum_congr rfl fun s _ => Finset.sum_congr rfl fun r _ => congrArg f (Fin.ext ?_)
  show 512 * (s.val % 8) + r.val = s.val * 512 + r.val
  omega

theorem pay5_at (v5 : Vec Ideal S512x256 .bf16) (r : Fin 512) (x : Fin 256) : k0_pay5 (F := Ideal) v5 (ix2 r x) = v5 (ix2 r x) := by
  pointwise [k0_pay5]

theorem pay7_at (v9 : Vec Ideal S512x128 .bf16) (r : Fin 512) (x : Fin 128) : k0_pay7 (F := Ideal) v9 (ix2 r x) = v9 (ix2 r x) := by
  pointwise [k0_pay7]

theorem pay3_zero (y : S4096x256.Idx) : k0_pay3 (F := Ideal) y = (0 : EReal) := by
  idx_vars y
  pointwise [k0_pay3]

theorem pay4_zero (y : S4096x128.Idx) : k0_pay4 (F := Ideal) y = (0 : EReal) := by
  idx_vars y
  pointwise [k0_pay4]

variable {m : (ℓ : Loc nD τ sig) → Buf (Elt Ideal) ℓ} {c : Dev nD} {q k : Fin 4096 → Fin 4 → Fin 192 → ℝ}
  {v ct : Fin 4096 → Fin 4 → Fin 128 → ℝ} (R : Reals m c q k v ct)
include R

/-- What point `t` adds to the key gradient. -/
theorem Reals.addK (t : Fin cfg0.N) (j : Fin 4096) (x : Fin 256) :
    ∑ r : Fin 512, k0_pay9 (F := Ideal) (iblk m c 0 t) (iblk m c 1 t) (iblk m c 3 t)
        (View.ld (iblk m c 4 t) (Rect.unit ![0, 0] ![512, 1] inb_S512x128_S512x1_0_0)) (iblk m c 2 t)
        (View.ld (iblk m c 5 t) (Rect.unit ![0, 0] ![512, 1] inb_S512x128_S512x1_0_0)) (ix2 r j) * k0_pay5 (F := Ideal) (iblk m c 0 t) (ix2 r x)
      = ((∑ r : Fin 512, dscore scaleA (X q k (hd t) (qrow t r)) (Y v ct (hd t) (qrow t r)) j * wide (q (qrow t r) (hd t)) x : ℝ) : EReal) := by
  rw [← coe_sum]
  refine Finset.sum_congr rfl fun r _ => ?_
  rw [EReal.coe_mul]
  exact congrArg₂ (· * ·) ((R.blocks t).pay9 r j) ((pay5_at _ r x).trans (R.iblk0 t r x))

/-- What point `t` adds to the value gradient. -/
theorem Reals.addV (t : Fin cfg0.N) (j : Fin 4096) (x : Fin 128) :
    ∑ r : Fin 512, k0_pay8 (F := Ideal) (iblk m c 0 t) (iblk m c 1 t)
        (View.ld (iblk m c 4 t) (Rect.unit ![0, 0] ![512, 1] inb_S512x128_S512x1_0_0)) (ix2 r j) * k0_pay7 (F := Ideal) (iblk m c 3 t) (ix2 r x)
      = ((∑ r : Fin 512, prob (X q k (hd t) (qrow t r)) j * ct (qrow t r) (hd t) x : ℝ) : EReal) := by
  rw [← coe_sum]
  refine Finset.sum_congr rfl fun r _ => ?_
  rw [EReal.coe_mul]
  exact congrArg₂ (· * ·) ((R.blocks t).pay8 r j) ((pay7_at _ r x).trans (R.iblk3 t r x))

/-- The query gradient. -/
theorem Reals.final6 : ((dats m 0 c).arrAt 6 cfg0.N : FVec Ideal S4096x1024 .f32) = arrWide (gradQ q k v ct) := by
  refine (dats m 0 c).arrAt_eq_of_covers 6 _ (by decide +kernel) fun t hf y => ?_
  have key : k0_pay10 (F := Ideal) (iblk m c 0 t) (iblk m c 1 t) (iblk m c 3 t)
        (View.ld (iblk m c 4 t) (Rect.unit ![0, 0] ![512, 1] inb_S512x128_S512x1_0_0)) (iblk m c 2 t)
        (View.ld (iblk m c 5 t) (Rect.unit ![0, 0] ![512, 1] inb_S512x128_S512x1_0_0)) y
      = arrWide (gradQ q k v ct) ((win0_6.blk t).view.emb y) := by
    have ey : y = ix2 (y 0) (y 1) := by blk_ext
    have e : (win0_6.blk t).view.emb y = (ix2 (qrow t (y 0)) ⟨hd t * 256 + (y 1).val, by idx_bounds y; omega⟩ : S4096x1024.Idx) := by
      blk_ext [idxDq, qrow, hd]
    rw [e, arrWide_at (h := hd t) (x := y 1) (hl := rfl), ey]
    exact (R.blocks t).pay10 (y 0) (y 1)
  blk_simp
  rw [after0_6]
  by_cases h0 : t.val % 8 = 0
  · rw [outsAt0_A m c t h0]
    dsimp only
    frame_out
    exact key
  · rw [outsAt0_B m c t h0]
    dsimp only
    frame_out
    exact key

/-- The key gradient. -/
theorem Reals.final7 : ((dats m 0 c).arrAt 7 cfg0.N : FVec Ideal S4096x1024 .f32) = arrWide (gradK q k v ct) := by
  refine (dats m 0 c).arrAt_eq_of_covers 7 _ (by decide +kernel) fun t hf y => ?_
  have ey : ∀ y : S4096x256.Idx, y = ix2 (y 0) (y 1) := fun y => by blk_ext
  have hpay : ∀ v6 v31 (acc : Vec Ideal S4096x256 .f32) y,
      k0_pay1 (F := Ideal) v6 v31 acc y = acc y + ∑ r : Fin 512, v31 (ix2 r (y 0)) * v6 (ix2 r (y 1)) := fun v6 v31 acc y => by
    rw [ey y]; exact pay1_at ..
  have key : ∑ s : Fin 8, ∑ r : Fin 512, k0_pay9 (F := Ideal) (iblk m c 0 ⟨8 * (t.val / 8) + s.val, Pipeline.run_point_lt_of_flush t ((flush0_7 t).mp hf) s⟩) (iblk m c 1 ⟨8 * (t.val / 8) + s.val, Pipeline.run_point_lt_of_flush t ((flush0_7 t).mp hf) s⟩) (iblk m c 3 ⟨8 * (t.val / 8) + s.val, Pipeline.run_point_lt_of_flush t ((flush0_7 t).mp hf) s⟩)
        (View.ld (iblk m c 4 ⟨8 * (t.val / 8) + s.val, Pipeline.run_point_lt_of_flush t ((flush0_7 t).mp hf) s⟩) (Rect.unit ![0, 0] ![512, 1] inb_S512x128_S512x1_0_0)) (iblk m c 2 ⟨8 * (t.val / 8) + s.val, Pipeline.run_point_lt_of_flush t ((flush0_7 t).mp hf) s⟩)
        (View.ld (iblk m c 5 ⟨8 * (t.val / 8) + s.val, Pipeline.run_point_lt_of_flush t ((flush0_7 t).mp hf) s⟩) (Rect.unit ![0, 0] ![512, 1] inb_S512x128_S512x1_0_0)) (ix2 r (y 0))
          * k0_pay5 (F := Ideal) (iblk m c 0 ⟨8 * (t.val / 8) + s.val, Pipeline.run_point_lt_of_flush t ((flush0_7 t).mp hf) s⟩) (ix2 r (y 1))
      = arrWide (gradK q k v ct) ((win0_7.blk t).view.emb y) := by
    have e : (win0_7.blk t).view.emb y = (ix2 (y 0) ⟨hd t * 256 + (y 1).val, by idx_bounds y; omega⟩ : S4096x1024.Idx) := by
      blk_ext [idxDk, hd]
    rw [e]
    refine Eq.trans ?_ (arrWide_at (gradK q k v ct) (y 0) ⟨hd t * 256 + (y 1).val, by idx_bounds y; omega⟩ (hd t) (y 1) rfl).symm
    refine (Finset.sum_congr rfl fun s _ => R.addK _ (y 0) (y 1)).trans ?_
    rw [coe_sum]
    refine congrArg _ (Eq.trans ?_ ((sum_points fun i => dscore scaleA (X q k (hd t) i) (Y v ct (hd t) i) (y 0) * wide (q i (hd t)) (y 1)).trans
      (sum_mul_wide (fun i => dscore scaleA (X q k (hd t) i) (Y v ct (hd t) i) (y 0)) (fun i => q i (hd t)) (y 1))))
    refine Finset.sum_congr rfl fun s _ => Finset.sum_congr rfl fun r _ => ?_
    have h1 : hd ⟨8 * (t.val / 8) + s.val, Pipeline.run_point_lt_of_flush t ((flush0_7 t).mp hf) s⟩ = hd t :=
      Fin.ext (by show (8 * (t.val / 8) + s.val) / 8 = t.val / 8; omega)
    have h3 : qrow ⟨8 * (t.val / 8) + s.val, Pipeline.run_point_lt_of_flush t ((flush0_7 t).mp hf) s⟩ r = ⟨512 * (s.val % 8) + r, by omega⟩ :=
      Fin.ext (by show 512 * ((8 * (t.val / 8) + s.val) % 8) + r.val = 512 * (s.val % 8) + r.val; omega)
    rw [h1, h3]
  blk_simp
  rw [after0_7, Pipeline.eq_sum_fin_of_reset_step_apply_of_flush (fun n h => (outsAt0 m c n h).2.1) 8 (fun _ => (0 : EReal)) _
    (fun t h j => by rw [outsAt0_A m c t h]; frame_out; rw [hpay, pay3_zero]) (fun t h j => by rw [outsAt0_B m c t h]; frame_out; rw [hpay])
    t ((flush0_7 t).mp hf) _, zero_add]
  exact key

/-- The value gradient. -/
theorem Reals.final8 : ((dats m 0 c).arrAt 8 cfg0.N : FVec Ideal S4096x512 .f32) = arrV q k ct := by
  refine (dats m 0 c).arrAt_eq_of_covers 8 _ (by decide +kernel) fun t hf y => ?_
  have ey : ∀ y : S4096x128.Idx, y = ix2 (y 0) (y 1) := fun y => by blk_ext
  have hpay : ∀ v10 v20 (acc : Vec Ideal S4096x128 .f32) y,
      k0_pay2 (F := Ideal) v10 v20 acc y = acc y + ∑ r : Fin 512, v20 (ix2 r (y 0)) * v10 (ix2 r (y 1)) := fun v10 v20 acc y => by
    rw [ey y]; exact pay2_at ..
  have key : ∑ s : Fin 8, ∑ r : Fin 512, k0_pay8 (F := Ideal) (iblk m c 0 ⟨8 * (t.val / 8) + s.val, Pipeline.run_point_lt_of_flush t ((flush0_8 t).mp hf) s⟩) (iblk m c 1 ⟨8 * (t.val / 8) + s.val, Pipeline.run_point_lt_of_flush t ((flush0_8 t).mp hf) s⟩)
        (View.ld (iblk m c 4 ⟨8 * (t.val / 8) + s.val, Pipeline.run_point_lt_of_flush t ((flush0_8 t).mp hf) s⟩) (Rect.unit ![0, 0] ![512, 1] inb_S512x128_S512x1_0_0)) (ix2 r (y 0))
          * k0_pay7 (F := Ideal) (iblk m c 3 ⟨8 * (t.val / 8) + s.val, Pipeline.run_point_lt_of_flush t ((flush0_8 t).mp hf) s⟩) (ix2 r (y 1))
      = arrV q k ct ((win0_8.blk t).view.emb y) := by
    have e : (win0_8.blk t).view.emb y = (ix2 (y 0) ⟨hd t * 128 + (y 1).val, by idx_bounds y; omega⟩ : S4096x512.Idx) := by
      blk_ext [idxDv, hd]
    rw [e]
    refine Eq.trans ?_ (arrV_at q k ct (y 0) ⟨hd t * 128 + (y 1).val, by idx_bounds y; omega⟩ (hd t) (y 1) rfl).symm
    refine (Finset.sum_congr rfl fun s _ => R.addV _ (y 0) (y 1)).trans ?_
    rw [coe_sum]
    refine congrArg _ (Eq.trans ?_ (sum_points fun i => prob (X q k (hd t) i) (y 0) * ct i (hd t) (y 1)))
    refine Finset.sum_congr rfl fun s _ => Finset.sum_congr rfl fun r _ => ?_
    have h1 : hd ⟨8 * (t.val / 8) + s.val, Pipeline.run_point_lt_of_flush t ((flush0_8 t).mp hf) s⟩ = hd t :=
      Fin.ext (by show (8 * (t.val / 8) + s.val) / 8 = t.val / 8; omega)
    have h3 : qrow ⟨8 * (t.val / 8) + s.val, Pipeline.run_point_lt_of_flush t ((flush0_8 t).mp hf) s⟩ r = ⟨512 * (s.val % 8) + r, by omega⟩ :=
      Fin.ext (by show 512 * ((8 * (t.val / 8) + s.val) % 8) + r.val = 512 * (s.val % 8) + r.val; omega)
    rw [h1, h3]
  blk_simp
  rw [after0_8, Pipeline.eq_sum_fin_of_reset_step_apply_of_flush (fun n h => (outsAt0 m c n h).2.2) 8 (fun _ => (0 : EReal)) _
    (fun t h j => by rw [outsAt0_A m c t h]; frame_out; rw [hpay, pay4_zero]) (fun t h j => by rw [outsAt0_B m c t h]; frame_out; rw [hpay])
    t ((flush0_8 t).mp hf) _, zero_add]
  exact key

end Cert.AttnAIdeal.AttnA

end
-- ==== Proof.AttnA.RefA.lean ====
/- What the three results of mixer A's reference are, of finite arguments: the same gradients that the call leaves. -/
module

public import proofs.«01_k».proof.Proof.AttnA.RefStagesA
public import proofs.«01_k».proof.Proof.AttnA.FinalA

@[expose] public section

set_option maxRecDepth 16384

noncomputable section

open Idealize.ShloMosaic Idealize.ShloMosaic.TcCoe Idealize.SL.Sem

namespace Cert.AttnAReferenceIdeal.AttnA
open Cert.AttnAReferenceIdeal Cert.AttnAReferenceIdeal.Gen Cert.AttnAReferenceIdeal.Read Cert.Softmax
open Cert.AttnAIdeal.AttnA (X Y gradQ gradK gradV arrWide arrV arrWide_at arrV_at)

/-- Four argument arrays that are real. -/
structure Reals (x0 : FVec Ideal S4096x4x1x192 .f32) (x1 : FVec Ideal S4096x4x192 .f32) (x2 : FVec Ideal S4096x4x128 .f32) (x3 : FVec Ideal S4096x4x1x128 .f32)
    (q k : Fin 4096 → Fin 4 → Fin 192 → ℝ) (v ct : Fin 4096 → Fin 4 → Fin 128 → ℝ) : Prop where
  hq : ∀ i h x, x0 (ix4 i h 0 x) = ((q i h x : ℝ) : EReal)
  hk : ∀ i h x, x1 (ix3 i h x) = ((k i h x : ℝ) : EReal)
  hv : ∀ i h x, x2 (ix3 i h x) = ((v i h x : ℝ) : EReal)
  hct : ∀ i h x, x3 (ix4 i h 0 x) = ((ct i h x : ℝ) : EReal)

variable {x0 : FVec Ideal S4096x4x1x192 .f32} {x1 : FVec Ideal S4096x4x192 .f32} {x2 : FVec Ideal S4096x4x128 .f32} {x3 : FVec Ideal S4096x4x1x128 .f32}
  {q k : Fin 4096 → Fin 4 → Fin 192 → ℝ} {v ct : Fin 4096 → Fin 4 → Fin 128 → ℝ} (R : Reals x0 x1 x2 x3 q k v ct)
  (h : Fin 4) (i j : Fin 4096)
include R

/-- The scores. -/
theorem Reals.v5 : val_main_v5 (F := Ideal) x0 x1 (ix4 h 0 i j) = ((X q k h i j : ℝ) : EReal) :=
  (v5_at ..).trans (score_of_coe (fun x => R.hq i h x) (fun j x => R.hk j h x) div_sqrt j)

/-- The shift the softmax takes: the row's maximum. -/
theorem Reals.v13 : val_main_v13 (F := Ideal) x0 x1 (ix3 h 0 i) = ((rowMax (X q k h i) : ℝ) : EReal) :=
  v13_at _ _ _ _ _ ((v6_at ..).trans (rowMax_of_coe (R.v5 h i)))

/-- The exponentials. -/
theorem Reals.v26 : val_main_v26 (F := Ideal) x0 x1 (ix4 h 0 i j) = ((Real.exp (X q k h i j - rowMax (X q k h i)) : ℝ) : EReal) := by
  refine (v26_at ..).trans ?_
  rw [R.v5, R.v13, ← EReal.coe_sub, Ideal.exp_coe]

/-- Their sum. -/
theorem Reals.v28 : val_main_v28 (F := Ideal) x0 x1 (ix4 h 0 i 0) = ((∑ l, Real.exp (X q k h i l - rowMax (X q k h i)) : ℝ) : EReal) := by
  refine (v28_at ..).trans ?_
  rw [Finset.sum_congr rfl fun l _ => R.v26 h i l, coe_sum]

/-- The probabilities. -/
theorem Reals.v30 : val_main_v30 (F := Ideal) x0 x1 (ix4 h 0 i j) = ((prob (X q k h i) j : ℝ) : EReal) := by
  refine (v30_at ..).trans ?_
  rw [R.v26, R.v28, div_sum_exp, prob_shift]

/-- One over the square of the sum. -/
theorem Reals.v33 : val_main_v33 (F := Ideal) x0 x1 (ix4 h 0 i 0)
    = ((1 / ((∑ l, Real.exp (X q k h i l - rowMax (X q k h i))) * ∑ l, Real.exp (X q k h i l - rowMax (X q k h i))) : ℝ) : EReal) := by
  refine (v33_at ..).trans ?_
  rw [R.v28, ← EReal.coe_mul, ← EReal.coe_one, div_coe_coe]
  exact (mul_pos (sum_exp_pos _) (sum_exp_pos _)).ne'

/-- The gradient of the probabilities. -/
theorem Reals.v37 : val_main_v37 (F := Ideal) x2 x3 (ix4 h 0 i j) = ((Y v ct h i j : ℝ) : EReal) := by
  refine (v37_at ..).trans ?_
  simp only [R.hct, R.hv, ← EReal.coe_mul, coe_sum]
  rfl

/-- The part of the gradient that goes through the sum. -/
theorem Reals.v49 : val_main_v49 (F := Ideal) x0 x1 x2 x3 (ix3 h 0 i)
    = ((-(∑ l, Y v ct h i l * (1 / ((∑ l, Real.exp (X q k h i l - rowMax (X q k h i))) * ∑ l, Real.exp (X q k h i l - rowMax (X q k h i))))
        * Real.exp (X q k h i l - rowMax (X q k h i))) : ℝ) : EReal) := by
  refine ((v49_at ..).trans (v45_at ..)).trans ?_
  rw [Finset.sum_congr rfl fun l _ => by rw [R.v37 h i l, R.v33 h i, R.v26 h i l, ← EReal.coe_mul, ← EReal.coe_mul], coe_sum, ← EReal.coe_neg]

/-- The gradient of the unscaled scores. -/
theorem Reals.v54 : val_main_v54 (F := Ideal) x0 x1 x2 x3 (ix4 h 0 i j) = ((dscore scaleA (X q k h i) (Y v ct h i) j : ℝ) : EReal) := by
  refine (v54_at ..).trans ?_
  rw [R.v37, R.v28, R.v49, R.v26, div_sqrt, div_sum_exp, ← EReal.coe_add, ← EReal.coe_mul, ← EReal.coe_mul, dscore_quotient]

/-- The query gradient. -/
theorem Reals.v65 : val_main_v65 (F := Ideal) x0 x1 x2 x3 = arrWide (gradQ q k v ct) := by
  funext y
  obtain ⟨i, l, rfl⟩ : ∃ (i : Fin 4096) (l : Fin 1024), y = ix2 i l := ⟨y 0, y 1, by idx_ext⟩
  have hl : (l : ℕ) = (⟨l.val / 256, by omega⟩ : Fin 4) * 256 + (⟨l.val % 256, by omega⟩ : Fin 256) := by
    simp only []; omega
  refine (v65_at _ _ _ _ _ _ l _ hl (gradQ q k v ct i _) fun x => ?_).trans (arrWide_at _ i l _ _ hl).symm
  rw [v60_at, Finset.sum_congr rfl fun j _ => by rw [R.v54, R.hk, ← EReal.coe_mul], coe_sum, gradQ]

/-- The key gradient. -/
theorem Reals.v70 : val_main_v70 (F := Ideal) x0 x1 x2 x3 = arrWide (gradK q k v ct) := by
  funext y
  obtain ⟨j, l, rfl⟩ : ∃ (j : Fin 4096) (l : Fin 1024), y = ix2 j l := ⟨y 0, y 1, by idx_ext⟩
  have hl : (l : ℕ) = (⟨l.val / 256, by omega⟩ : Fin 4) * 256 + (⟨l.val % 256, by omega⟩ : Fin 256) := by
    simp only []; omega
  refine (v70_at _ _ _ _ _ _ l _ hl (gradK q k v ct j _) fun x => ?_).trans (arrWide_at _ j l _ _ hl).symm
  rw [v59_at, Finset.sum_congr rfl fun i _ => by rw [R.v54, R.hq, ← EReal.coe_mul], coe_sum, gradK]

/-- The value gradient. -/
theorem Reals.v71 : val_main_v71 (F := Ideal) x0 x1 x3 = arrV q k ct := by
  funext y
  obtain ⟨j, l, rfl⟩ : ∃ (j : Fin 4096) (l : Fin 512), y = ix2 j l := ⟨y 0, y 1, by idx_ext⟩
  have hl : (l : ℕ) = (⟨l.val / 128, by omega⟩ : Fin 4) * 128 + (⟨l.val % 128, by omega⟩ : Fin 128) := by
    simp only []; omega
  refine (v71_at _ _ _ _ _ l _ hl).trans (Eq.trans ?_ (arrV_at q k ct j l _ _ hl).symm)
  rw [Finset.sum_congr rfl fun i _ => by rw [R.hct, R.v30, ← EReal.coe_mul, mul_comm], coe_sum, gradV]

end Cert.AttnAReferenceIdeal.AttnA

end
-- ==== Proof.AttnA.ResultA.lean ====
/- The algebraic claim of mixer A: of finite arguments, the call and the gradient of the plain attention leave the same three arrays. -/
module

public import proofs.«01_k».proof.Defs
public import proofs.«01_k».proof.Proof.Gen.AttnAReferenceIdeal.Run
public import proofs.«01_k».proof.Proof.AttnA.FiniteA
public import proofs.«01_k».proof.Proof.AttnA.RefA

@[expose] public section

set_option maxRecDepth 16384

noncomputable section

open Idealize.ShloMosaic Idealize.ShloMosaic.TcCoe Idealize.SL.Sem

namespace Cert.ResultA

variable (m : (ℓ : Loc Cert.AttnAIdeal.nD Cert.AttnAIdeal.τ Cert.AttnAIdeal.sig) → Buf (Elt Ideal) ℓ) (hm : Pre_AttnAIdeal_finite_a m)
  (c : Dev Cert.AttnAIdeal.nD)
include hm

/-- The query gradients agree. -/
theorem res0 : (Cert.AttnAReferenceIdeal.Read.val_main_v65 (F := Ideal) (m ((c.tc : Thread Cert.AttnAIdeal.nD Cert.AttnAIdeal.τ).loc Cert.AttnAIdeal.main_arg0))
    (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))
    (m ((c.tc : Thread Cert.AttnAIdeal.nD Cert.AttnAIdeal.τ).loc Cert.AttnAIdeal.main_arg3)) : FVec Ideal Cert.AttnAIdeal.S4096x1024 .f32)
    = (Cert.AttnAIdeal.Gen.dats m 0 c).arrAt 6 Cert.AttnAIdeal.cfg0.N := by
  obtain ⟨q, k, v, ct, R⟩ := Cert.FiniteA.reals m hm c
  exact (Cert.AttnAReferenceIdeal.AttnA.Reals.v65 ⟨R.hq, R.hk, R.hv, R.hct⟩).trans R.final6.symm

/-- The key gradients agree. -/
theorem res1 : (Cert.AttnAReferenceIdeal.Read.val_main_v70 (F := Ideal) (m ((c.tc : Thread Cert.AttnAIdeal.nD Cert.AttnAIdeal.τ).loc Cert.AttnAIdeal.main_arg0))
    (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2))
    (m ((c.tc : Thread Cert.AttnAIdeal.nD Cert.AttnAIdeal.τ).loc Cert.AttnAIdeal.main_arg3)) : FVec Ideal Cert.AttnAIdeal.S4096x1024 .f32)
    = (Cert.AttnAIdeal.Gen.dats m 0 c).arrAt 7 Cert.AttnAIdeal.cfg0.N := by
  obtain ⟨q, k, v, ct, R⟩ := Cert.FiniteA.reals m hm c
  exact (Cert.AttnAReferenceIdeal.AttnA.Reals.v70 ⟨R.hq, R.hk, R.hv, R.hct⟩).trans R.final7.symm

/-- The value gradients agree. -/
theorem res2 : (Cert.AttnAReferenceIdeal.Read.val_main_v71 (F := Ideal) (m ((c.tc : Thread Cert.AttnAIdeal.nD Cert.AttnAIdeal.τ).loc Cert.AttnAIdeal.main_arg0))
    (m ((c.tc : Thread Cert.AttnAIdeal.nD Cert.AttnAIdeal.τ).loc Cert.AttnAIdeal.main_arg1))
    (m ((c.tc : Thread Cert.AttnAIdeal.nD Cert.AttnAIdeal.τ).loc Cert.AttnAIdeal.main_arg3)) : FVec Ideal Cert.AttnAIdeal.S4096x512 .f32)
    = (Cert.AttnAIdeal.Gen.dats m 0 c).arrAt 8 Cert.AttnAIdeal.cfg0.N := by
  obtain ⟨q, k, v, ct, R⟩ := Cert.FiniteA.reals m hm c
  exact (Cert.AttnAReferenceIdeal.AttnA.Reals.v71 (x2 := m ((c.tc : Thread Cert.AttnAIdeal.nD Cert.AttnAIdeal.τ).loc Cert.AttnAIdeal.main_arg2)) (v := v) ⟨R.hq, R.hk, R.hv, R.hct⟩).trans R.final8.symm

omit hm in
/-- The algebraic claim. -/
theorem algebraic : algebraic_AttnAIdeal_AttnAReferenceIdeal_pre_finite_a := by
  intro m g m' g' hm hargs
  refine ⟨_, _, _, Cert.AttnAIdeal.Value.run_blocks m g, (θ_run _ _ _).mono (fun r h c => ?_) (Cert.AttnAReferenceIdeal.Value.run m' g')⟩
  obtain ⟨h0, h1, h2, h3, h4, h5, h6⟩ := h c
  obtain ⟨a0, a1, a2, a3⟩ := hargs c
  refine ⟨h0.trans ?_, h1.trans ?_, h2.trans ?_, h3, h4, h5, h6⟩
  · refine (Cert.AttnAReferenceIdeal.Read.val_main_v65_eq m' c).trans ?_
    rw [a0, a1, a2, a3]
    exact res0 m hm c
  · refine (Cert.AttnAReferenceIdeal.Read.val_main_v70_eq m' c).trans ?_
    rw [a0, a1, a2, a3]
    exact res1 m hm c
  · refine (Cert.AttnAReferenceIdeal.Read.val_main_v71_eq _ _ _).trans ?_
    rw [a0, a1, a3]
    exact res2 m hm c

end Cert.ResultA

end
-- ==== Proof.Mlp.Dot.lean ====
/- Sums of products over the extended reals, and how the tiles of one add up to the whole. -/
module

public import Idealize.ShloMosaic.PureOps.Ideal
public import Idealize.ShloMosaic.PureOps.Ideal.Laws
public import Idealize.ShloMosaic.Lib.IdealHost
public import Idealize.ShloMosaic.Lib.Pipeline.ValueKit

@[expose] public section

noncomputable section

open Idealize.ShloMosaic

namespace Cert.Mlp

/-- The sum of the products of two rows. -/
def dot {n : ℕ} (a b : Fin n → EReal) : EReal := ∑ k, a k * b k

theorem dot_congr {n : ℕ} {a a' b b' : Fin n → EReal} (ha : ∀ k, a k = a' k) (hb : ∀ k, b k = b' k) : dot a b = dot a' b' :=
  Finset.sum_congr rfl fun k _ => congrArg₂ (· * ·) (ha k) (hb k)

theorem dot_comm {n : ℕ} (a b : Fin n → EReal) : dot a b = dot b a :=
  Finset.sum_congr rfl fun k _ => mul_comm _ _

/-- The sums over `J` tiles of `T` add up to the sum over all. -/
theorem dot_tiles (J T : ℕ) {N : ℕ} (hN : J * T = N) (a b : Fin N → EReal) (a' b' : Fin J → Fin T → EReal)
    (ha : ∀ (j : Fin J) (x : Fin T) (h : T * j.val + x.val < N), a' j x = a ⟨T * j.val + x.val, h⟩)
    (hb : ∀ (j : Fin J) (x : Fin T) (h : T * j.val + x.val < N), b' j x = b ⟨T * j.val + x.val, h⟩) :
    ∑ j, dot (a' j) (b' j) = dot a b := by
  unfold dot
  rw [Fin.sum_univ_tiles J T hN fun k => a k * b k]
  refine Finset.sum_congr rfl fun j _ => Finset.sum_congr rfl fun x _ => ?_
  have e : T * j.val + x.val = j.val * T + x.val := by rw [Nat.mul_comm]
  have h : T * j.val + x.val < N := by
    rw [← hN, e]
    calc j.val * T + x.val < j.val * T + T := Nat.add_lt_add_left x.isLt _
      _ = (j.val + 1) * T := (Nat.succ_mul _ _).symm
      _ ≤ J * T := Nat.mul_le_mul_right _ j.isLt
  rw [ha j x h, hb j x h]
  simp only [e]

/-- A running sum that is restarted every `J` points, each point adding the sum over one tile: at the last of `J` points
    it is the sum over all `J` tiles. -/
theorem acc_tiles {N J T K : ℕ} {ι : Type} [NeZero J] (hK : J * T = K) (f : (n : ℕ) → n < N → ι → EReal) (a b : Fin N → ι → Fin T → EReal)
    (h0 : ∀ t : Fin N, t.val % J = 0 → ∀ i, f t.val t.isLt i = dot (a t i) (b t i))
    (hs : ∀ t : Fin N, ¬t.val % J = 0 → ∀ i,
      f t.val t.isLt i = f (t.val - 1) (Nat.lt_of_le_of_lt (Nat.sub_le _ _) t.isLt) i + dot (a t i) (b t i))
    (t : Fin N) (hr : t.val % J = J - 1) (i : ι) (A B : Fin K → EReal)
    (ha : ∀ s : Fin N, s.val / J = t.val / J → ∀ (x : Fin T) (h : T * (s.val % J) + x.val < K), a s i x = A ⟨T * (s.val % J) + x.val, h⟩)
    (hb : ∀ s : Fin N, s.val / J = t.val / J → ∀ (x : Fin T) (h : T * (s.val % J) + x.val < K), b s i x = B ⟨T * (s.val % J) + x.val, h⟩) :
    f t.val t.isLt i = dot A B := by
  have e := Pipeline.eq_sum_fin_of_reset_step_apply_of_flush f J (fun _ => (0 : EReal)) (fun t i => dot (a t i) (b t i))
    (fun t h i => by rw [h0 t h i, zero_add]) hs t hr i
  rw [e, zero_add]
  have hJ : 0 < J := Nat.pos_of_ne_zero (NeZero.ne J)
  have hd : ∀ s : Fin J, (J * (t.val / J) + s.val) / J = t.val / J := fun s => by
    rw [Nat.mul_add_div hJ, Nat.div_eq_of_lt s.isLt, Nat.add_zero]
  have hm : ∀ s : Fin J, (J * (t.val / J) + s.val) % J = s.val := fun s => by
    rw [Nat.mul_add_mod, Nat.mod_eq_of_lt s.isLt]
  refine dot_tiles J T hK A B _ _ (fun s x h => ?_) (fun s x h => ?_)
  · refine (ha ⟨J * (t.val / J) + s.val, Pipeline.run_point_lt_of_flush t hr s⟩ (hd s) x (by simpa only [hm] using h)).trans ?_
    simp only [hm]
  · refine (hb ⟨J * (t.val / J) + s.val, Pipeline.run_point_lt_of_flush t hr s⟩ (hd s) x (by simpa only [hm] using h)).trans ?_
    simp only [hm]

/-- The derivative of the squared positive part, as a factor and as a choice: where the argument is not positive both
    give zero. -/
theorem mul_two_relu (g z two : EReal) : g * (two * max z 0) = if 0 < z then g * (two * max z 0) else 0 := by
  split
  · rfl
  · rename_i h
    rw [max_eq_right (not_lt.mp h), mul_zero, mul_zero]

end Cert.Mlp

end
-- ==== Proof.Mlp.Up.lean ====
/- The first product of the feed-forward layer: the call and the plain product leave the same two arrays, the product
   and the square of its positive part. -/
module

public import proofs.«01_k».proof.Defs
public import proofs.«01_k».proof.Proof.Gen.UpIdeal.Value
public import proofs.«01_k».proof.Proof.Gen.UpReferenceIdeal.Run
public import proofs.«01_k».proof.Proof.Gen.UpReferenceIdeal.Read
public import proofs.«01_k».proof.Proof.Mlp.Dot
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpIdeal.Mlp
open Cert.UpIdeal Cert.UpIdeal.Gen Cert.Mlp

/-! ## Which block each window holds at grid point `t` -/

theorem idxX : ∀ t : Fin cfg0.N, win0_0.index t = ![t.val / 8, 0] := (by decide +kernel : ∀ t : Fin grid0.N, win0_0.index t = _)
theorem idxW : ∀ t : Fin cfg0.N, win0_1.index t = ![t.val % 8, 0] := (by decide +kernel : ∀ t : Fin grid0.N, win0_1.index t = _)
theorem idxZ : ∀ t : Fin cfg0.N, win0_2.index t = ![t.val / 8, t.val % 8] := (by decide +kernel : ∀ t : Fin grid0.N, win0_2.index t = _)
theorem idxU : ∀ t : Fin cfg0.N, win0_3.index t = ![t.val / 8, t.val % 8] := (by decide +kernel : ∀ t : Fin grid0.N, win0_3.index t = _)

/-- Row `r` of the point's row tile. -/
def row (t : Fin cfg0.N) (r : Fin 1024) : Fin 4096 := ⟨1024 * (t.val / 8) + r, by have := t.isLt; have : cfg0.N = 32 := rfl; omega⟩
/-- Column `s` of the point's column tile. -/
def col (t : Fin cfg0.N) (s : Fin 1024) : Fin 8192 := ⟨1024 * (t.val % 8) + s, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S1024x2048.Idx) :
    ((cfg0.win 1).blk t).view.read (Elt Ideal) (A (Pipeline.arrRef spec0 1)) y = A main_v2 ((win0_1.blk t).view.emb y) := rfl

section blocks
variable (m : (ℓ : Loc nD τ sig) → Buf (Elt Ideal) ℓ) (c : Dev nD)

/-- The first operand is the first argument. -/
theorem v0_at (i : Fin 4096) (k : Fin 2048) : (V m c main_v0 : FVec Ideal S4096x2048 .bf16) (ix2 i k) = m ((c : Thread nD τ).loc main_arg0) (ix2 i k) := by
  entry_read
  pointwise

/-- The second operand is the second argument transposed. -/
theorem v2_at (j : Fin 8192) (k : Fin 2048) : (V m c main_v2 : FVec Ideal S8192x2048 .bf16) (ix2 j k) = m ((c : Thread nD τ).loc main_arg1) (ix2 k j) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) k) := by
  have e : (win0_0.blk t).view.emb (ix2 r k) = (ix2 (row t r) k : S4096x2048.Idx) := by blk_ext [idxX, row]
  refine (read0 (V m c) t (ix2 r k)).trans ?_
  rw [e]
  exact v0_at m c _ _

theorem iblk1 (t : Fin cfg0.N) (s : Fin 1024) (k : Fin 2048) :
    (iblk m c 1 t : Vec Ideal S1024x2048 .bf16) (ix2 s k) = m ((c : Thread nD τ).loc main_arg1) (ix2 k (col t s)) := by
  have e : (win0_1.blk t).view.emb (ix2 s k) = (ix2 (col t s) k : S8192x2048.Idx) := by blk_ext [idxW, col]
  refine (read1 (V m c) t (ix2 s k)).trans ?_
  rw [e]
  exact v2_at m c _ _
end blocks

/-! ## What one grid point computes -/

section at_index
variable (x w : Vec Ideal S1024x2048 .bf16) (r s : Fin 1024)

theorem pay1_at : k0_pay1 (F := Ideal) x w (ix2 r s) = dot (fun k => x (ix2 r k)) fun k => w (ix2 s k) := by
  unfold dot
  pointwise [k0_pay1]

theorem pay2_at : k0_pay2 (F := Ideal) x w (ix2 r s) = dot (fun k => x (ix2 r k)) fun k => w (ix2 s k) := by
  refine Eq.trans ?_ (pay1_at x w r s)
  pointwise [k0_pay2]

theorem pay3_at : k0_pay3 (F := Ideal) x w (ix2 r s)
    = max (dot (fun k => x (ix2 r k)) fun k => w (ix2 s k)) 0 * max (dot (fun k => x (ix2 r k)) fun k => w (ix2 s k)) 0 := by
  rw [← pay1_at]
  unfold k0_pay3
  generalize k0_pay1 (F := Ideal) x w = p
  pointwise
end at_index

/-! ## The reference, index by index -/

section reference
variable (h : (⟨S4096x2048, .f32⟩ : BufTy).Contents (Elt Ideal)) (w : (⟨S2048x8192, .f32⟩ : BufTy).Contents (Elt Ideal)) (i : Fin 4096) (j : Fin 8192)

theorem ref_prod : Cert.UpReferenceIdeal.Read.val_main_v0 (F := Ideal) h w (ix2 i j) = dot (fun k => h (ix2 i k)) fun k => w (ix2 k j) := by
  refine (Cert.UpReferenceIdeal.Read.val_main_v0_apply h w (ix2 i j)).trans (Finset.sum_congr rfl fun k _ => ?_)
  congr 2 <;> idx_ext

theorem ref_z : Cert.UpReferenceIdeal.Read.val_main_v1 (F := Ideal) h w (ix2 i j) = dot (fun k => h (ix2 i k)) fun k => w (ix2 k j) := by
  rw [← ref_prod]
  rfl

theorem ref_u : Cert.UpReferenceIdeal.Read.val_main_v4 (F := Ideal) h w (ix2 i j)
    = max (dot (fun k => h (ix2 i k)) fun k => w (ix2 k j)) 0 * max (dot (fun k => h (ix2 i k)) fun k => w (ix2 k j)) 0 := by
  rw [← ref_prod]
  unfold Cert.UpReferenceIdeal.Read.val_main_v4 Cert.UpReferenceIdeal.Read.val_main_v3 Cert.UpReferenceIdeal.Read.val_main_v2
  generalize Cert.UpReferenceIdeal.Read.val_main_v0 (F := Ideal) h w = p
  pointwise [Cert.UpReferenceIdeal.Read.val_main_call0_v0, Cert.UpReferenceIdeal.Read.val_main_call0_cst]
end reference

/-! ## The two result arrays -/

section final
variable (m : (ℓ : Loc nD τ sig) → Buf (Elt Ideal) ℓ) (c : Dev nD)

theorem dot_blocks (t : Fin cfg0.N) (r s : Fin 1024) :
    dot (fun k => (iblk m c 0 t : Vec Ideal S1024x2048 .bf16) (ix2 r k)) (fun k => (iblk m c 1 t : Vec Ideal S1024x2048 .bf16) (ix2 s k))
      = dot (fun k => m ((c : Thread nD τ).loc main_arg0) (ix2 (row t r) k)) fun k => m ((c : Thread nD τ).loc main_arg1) (ix2 k (col t s)) :=
  dot_congr (iblk0 m c t r) (iblk1 m c t s)

/-- The product. -/
theorem final2 : ((dats m 0 c).arrAt 2 cfg0.N : FVec Ideal S4096x8192 .bf16)
    = Cert.UpReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  have key : k0_pay2 (F := Ideal) (iblk m c 0 t) (iblk m c 1 t) y
      = Cert.UpReferenceIdeal.Read.val_main_v1 (F := Ideal) (m ((c : Thread nD τ).loc main_arg0)) (m ((c : Thread nD τ).loc main_arg1)) ((win0_2.blk t).view.emb y) := by
    have ey : y = ix2 (y 0) (y 1) := by blk_ext
    have e : (win0_2.blk t).view.emb y = (ix2 (row t (y 0)) (col t (y 1)) : S4096x8192.Idx) := by blk_ext [idxZ, row, col]
    rw [e, ref_z, ey]
    exact (pay2_at ..).trans (dot_blocks m c t _ _)
  blk_simp
  rw [after0_2]
  frame_out
  exact key

/-- The square of its positive part. -/
theorem final3 : ((dats m 0 c).arrAt 3 cfg0.N : FVec Ideal S4096x8192 .bf16)
    = Cert.UpReferenceIdeal.Read.val_main_v4 (F := Ideal) (m ((c : Thread nD τ).loc main_arg0)) (m ((c : Thread nD τ).loc main_arg1)) := by
  refine (dats m 0 c).arrAt_eq_of_covers 3 _ (by decide +kernel) fun t hf y => ?_
  have key : k0_pay3 (F := Ideal) (iblk m c 0 t) (iblk m c 1 t) y
      = Cert.UpReferenceIdeal.Read.val_main_v4 (F := Ideal) (m ((c : Thread nD τ).loc main_arg0)) (m ((c : Thread nD τ).loc main_arg1)) ((win0_3.blk t).view.emb y) := by
    have ey : y = ix2 (y 0) (y 1) := by blk_ext
    have e : (win0_3.blk t).view.emb y = (ix2 (row t (y 0)) (col t (y 1)) : S4096x8192.Idx) := by blk_ext [idxU, row, col]
    rw [e, ref_u, ey]
    exact (pay3_at ..).trans (congrArg (fun d : EReal => max d 0 * max d 0) (dot_blocks m c t _ _))
  blk_simp
  rw [after0_3]
  frame_out
  exact key
end final

/-- The algebraic claim. -/
theorem algebraic : algebraic_UpIdeal_UpReferenceIdeal := by
  intro m g m' g' hm hargs
  refine ⟨_, _, Cert.UpIdeal.Value.run_blocks m g, (θ_run _ _ _).mono (fun r h c => ?_) (Cert.UpReferenceIdeal.Value.run m' g')⟩
  obtain ⟨h0, h1, h2, h3⟩ := h c
  obtain ⟨a0, a1⟩ := hargs c
  refine ⟨h0.trans ?_, h1.trans ?_, h2, h3⟩
  · refine (Cert.UpReferenceIdeal.Read.val_main_v1_eq _ _).trans ?_
    rw [a0, a1]
    exact (final2 m c).symm
  · refine (Cert.UpReferenceIdeal.Read.val_main_v4_eq _ _).trans ?_
    rw [a0, a1]
    exact (final3 m c).symm

end Cert.UpIdeal.Mlp

end
-- ==== Proof.Mlp.Dz.lean ====
/- The gradient of the first product of the feed-forward layer, through the second product and the squared positive part:
   the call and the gradient of the plain function leave the same array. -/
module

public import proofs.«01_k».proof.Defs
public import proofs.«01_k».proof.Proof.Gen.DzIdeal.Value
public import proofs.«01_k».proof.Proof.Gen.DzReferenceIdeal.Run
public import proofs.«01_k».proof.Proof.Gen.DzReferenceIdeal.Read
public import proofs.«01_k».proof.Proof.Mlp.Dot
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DzIdeal.Mlp
open Cert.DzIdeal Cert.DzIdeal.Gen Cert.Mlp

/-! ## Which block each window holds at grid point `t` -/

theorem idxC : ∀ t : Fin cfg0.N, win0_0.index t = ![t.val / 8, 0] := (by decide +kernel : ∀ t : Fin grid0.N, win0_0.index t = _)
theorem idxW : ∀ t : Fin cfg0.N, win0_1.index t = ![t.val % 8, 0] := (by decide +kernel : ∀ t : Fin grid0.N, win0_1.index t = _)
theorem idxZ : ∀ t : Fin cfg0.N, win0_2.index t = ![t.val / 8, t.val % 8] := (by decide +kernel : ∀ t : Fin grid0.N, win0_2.index t = _)
theorem idxDz : ∀ t : Fin cfg0.N, win0_3.index t = ![t.val / 8, t.val % 8] := (by decide +kernel : ∀ t : Fin grid0.N, win0_3.index t = _)

/-- Row `r` of the point's row tile. -/
def row (t : Fin cfg0.N) (r : Fin 1024) : Fin 4096 := ⟨1024 * (t.val / 8) + r, by have := t.isLt; have : cfg0.N = 32 := rfl; omega⟩
/-- Column `s` of the point's column tile. -/
def col (t : Fin cfg0.N) (s : Fin 1024) : Fin 8192 := ⟨1024 * (t.val % 8) + s, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S1024x2048.Idx) :
    ((cfg0.win 1).blk t).view.read (Elt Ideal) (A (Pipeline.arrRef spec0 1)) y = A main_v1 ((win0_1.blk t).view.emb y) := rfl
theorem read2 (A : (r : Ref sig .tc) → r.ty.Idx → Elt Ideal r.ty.elt) (t : Fin cfg0.N) (y : S1024x1024.Idx) :
    ((cfg0.win 2).blk t).view.read (Elt Ideal) (A (Pipeline.arrRef spec0 2)) y = A main_v2 ((win0_2.blk t).view.emb y) := rfl

section blocks
variable (m : (ℓ : Loc nD τ sig) → Buf (Elt Ideal) ℓ) (c : Dev nD)

theorem v0_at (i : Fin 4096) (k : Fin 2048) : (V m c main_v0 : FVec Ideal S4096x2048 .bf16) (ix2 i k) = m ((c : Thread nD τ).loc main_arg0) (ix2 i k) := by
  entry_read
  pointwise

theorem v1_at (j : Fin 8192) (k : Fin 2048) : (V m c main_v1 : FVec Ideal S8192x2048 .bf16) (ix2 j k) = m ((c : Thread nD τ).loc main_arg1) (ix2 j k) := by
  entry_read
  pointwise

theorem v2_at (i : Fin 4096) (j : Fin 8192) : (V m c main_v2 : FVec Ideal S4096x8192 .bf16) (ix2 i j) = m ((c : Thread nD τ).loc main_arg2) (ix2 i j) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) k) := by
  have e : (win0_0.blk t).view.emb (ix2 r k) = (ix2 (row t r) k : S4096x2048.Idx) := by blk_ext [idxC, row]
  refine (read0 (V m c) t (ix2 r k)).trans ?_
  rw [e]
  exact v0_at m c _ _

theorem iblk1 (t : Fin cfg0.N) (s : Fin 1024) (k : Fin 2048) :
    (iblk m c 1 t : Vec Ideal S1024x2048 .bf16) (ix2 s k) = m ((c : Thread nD τ).loc main_arg1) (ix2 (col t s) k) := by
  have e : (win0_1.blk t).view.emb (ix2 s k) = (ix2 (col t s) k : S8192x2048.Idx) := by blk_ext [idxW, col]
  refine (read1 (V m c) t (ix2 s k)).trans ?_
  rw [e]
  exact v1_at m c _ _

theorem iblk2 (t : Fin cfg0.N) (r s : Fin 1024) :
    (iblk m c 2 t : Vec Ideal S1024x1024 .bf16) (ix2 r s) = m ((c : Thread nD τ).loc main_arg2) (ix2 (row t r) (col t s)) := by
  have e : (win0_2.blk t).view.emb (ix2 r s) = (ix2 (row t r) (col t s) : S4096x8192.Idx) := by blk_ext [idxZ, row, col]
  refine (read2 (V m c) t (ix2 r s)).trans ?_
  rw [e]
  exact v2_at m c _ _
end blocks

/-- The two in the derivative of the square. -/
def two : EReal := Ideal.ofBits .f32 0x40000000#32

/-! ## What one grid point computes -/

theorem pay1_at (x w : Vec Ideal S1024x2048 .bf16) (z : Vec Ideal S1024x1024 .bf16) (r s : Fin 1024) :
    k0_pay1 (F := Ideal) x w z (ix2 r s) = dot (fun k => x (ix2 r k)) (fun k => w (ix2 s k)) * (two * max (z (ix2 r s)) 0) := by
  unfold dot two
  pointwise [k0_pay1]

/-! ## The reference, index by index -/

section reference
variable (g : (⟨S4096x2048, .f32⟩ : BufTy).Contents (Elt Ideal)) (w : (⟨S8192x2048, .f32⟩ : BufTy).Contents (Elt Ideal))
  (z : (⟨S4096x8192, .f32⟩ : BufTy).Contents (Elt Ideal)) (i : Fin 4096) (j : Fin 8192)

theorem ref_prod : Cert.DzReferenceIdeal.Read.val_main_v8 (F := Ideal) g w (ix2 i j) = dot (fun k => g (ix2 i k)) fun k => w (ix2 j k) := by
  refine (Cert.DzReferenceIdeal.Read.val_main_v8_apply g w (ix2 i j)).trans (Finset.sum_congr rfl fun k _ => ?_)
  congr 2 <;> idx_ext

theorem ref_dz : Cert.DzReferenceIdeal.Read.val_main_v12 (F := Ideal) g w z (ix2 i j)
    = dot (fun k => g (ix2 i k)) (fun k => w (ix2 j k)) * (two * max (z (ix2 i j)) 0) := by
  rw [mul_two_relu, ← ref_prod]
  unfold Cert.DzReferenceIdeal.Read.val_main_v12 Cert.DzReferenceIdeal.Read.val_main_v11 Cert.DzReferenceIdeal.Read.val_main_v9 two
  generalize Cert.DzReferenceIdeal.Read.val_main_v8 (F := Ideal) g w = p
  pointwise [Cert.DzReferenceIdeal.Read.val_main_v0, Cert.DzReferenceIdeal.Read.val_main_v1, Cert.DzReferenceIdeal.Read.val_main_v2,
    Cert.DzReferenceIdeal.Read.val_main_v5, Cert.DzReferenceIdeal.Read.val_main_v6, Cert.DzReferenceIdeal.Read.val_main_v10,
    Cert.DzReferenceIdeal.Read.val_main_cst, Cert.DzReferenceIdeal.Read.val_main_cst_1, Cert.DzReferenceIdeal.Read.val_main_cst_2,
    Cert.DzReferenceIdeal.Read.val_main_call0_v0, Cert.DzReferenceIdeal.Read.val_main_call0_cst]
end reference

/-! ## The result array -/

theorem final3 (m : (ℓ : Loc nD τ sig) → Buf (Elt Ideal) ℓ) (c : Dev nD) : ((dats m 0 c).arrAt 3 cfg0.N : FVec Ideal S4096x8192 .bf16)
    = Cert.DzReferenceIdeal.Read.val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have key : k0_pay1 (F := Ideal) (iblk m c 0 t) (iblk m c 1 t) (iblk m c 2 t) y
      = Cert.DzReferenceIdeal.Read.val_main_v12 (F := Ideal) (m ((c : Thread nD τ).loc main_arg0)) (m ((c : Thread nD τ).loc main_arg1))
          (m ((c : Thread nD τ).loc main_arg2)) ((win0_3.blk t).view.emb y) := by
    have ey : y = ix2 (y 0) (y 1) := by blk_ext
    have e : (win0_3.blk t).view.emb y = (ix2 (row t (y 0)) (col t (y 1)) : S4096x8192.Idx) := by blk_ext [idxDz, row, col]
    rw [e, ref_dz, ey]
    exact (pay1_at ..).trans (congrArg₂ (fun d z : EReal => d * (two * max z 0))
      (dot_congr (iblk0 m c t _) (iblk1 m c t _)) (iblk2 m c t _ _))
  blk_simp
  rw [after0_3]
  frame_out
  exact key

/-- The algebraic claim. -/
theorem algebraic : algebraic_DzIdeal_DzReferenceIdeal := by
  intro m g m' g' hm hargs
  refine ⟨_, Cert.DzIdeal.Value.run_blocks m g, (θ_run _ _ _).mono (fun r h c => ?_) (Cert.DzReferenceIdeal.Value.run m' g')⟩
  obtain ⟨h0, h1, h2, h3⟩ := h c
  obtain ⟨a0, a1, a2⟩ := hargs c
  refine ⟨h0.trans ?_, h1, h2, h3⟩
  refine (Cert.DzReferenceIdeal.Read.val_main_v12_eq _ _ _).trans ?_
  rw [a0, a1, a2]
  exact (final3 m c).symm

end Cert.DzIdeal.Mlp

end
-- ==== Proof.Mlp.Dh.lean ====
/- The gradient of the feed-forward layer's input, through the first product: the call, which adds up four tiles of the
   inner axis, and the gradient of the plain product leave the same array. -/
module

public import proofs.«01_k».proof.Defs
public import proofs.«01_k».proof.Proof.Gen.DhIdeal.Value
public import proofs.«01_k».proof.Proof.Gen.DhReferenceIdeal.Run
public import proofs.«01_k».proof.Proof.Gen.DhReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhIdeal.Mlp
open Cert.DhIdeal Cert.DhIdeal.Gen Cert.Mlp

/-! ## Which block each window holds at grid point `t` -/

theorem idxA : ∀ t : Fin cfg0.N, win0_0.index t = ![t.val / 8, t.val % 4] := (by decide +kernel : ∀ t : Fin grid0.N, win0_0.index t = _)
theorem idxW : ∀ t : Fin cfg0.N, win0_1.index t = ![t.val % 4, t.val / 4 % 2] := (by decide +kernel : ∀ t : Fin grid0.N, win0_1.index t = _)
theorem idxDh : ∀ t : Fin cfg0.N, win0_2.index t = ![t.val / 8, t.val / 4 % 2] := (by decide +kernel : ∀ t : Fin grid0.N, win0_2.index t = _)

/-- Row `r` of the point's row tile. -/
def row (t : Fin cfg0.N) (r : Fin 1024) : Fin 4096 := ⟨1024 * (t.val / 8) + r, by have := t.isLt; have : cfg0.N = 32 := rfl; omega⟩
/-- Column `s` of the point's column tile. -/
def col (t : Fin cfg0.N) (s : Fin 1024) : Fin 2048 := ⟨1024 * (t.val / 4 % 2) + s, by omega⟩
/-- Place `k` of the point's tile of the inner axis. -/
def inn (t : Fin cfg0.N) (k : Fin 2048) : Fin 8192 := ⟨2048 * (t.val % 4) + k, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v2 ((win0_1.blk t).view.emb y) := rfl

section blocks
variable (m : (ℓ : Loc nD τ sig) → Buf (Elt Ideal) ℓ) (c : Dev nD)

theorem v0_at (i : Fin 4096) (k : Fin 8192) : (V m c main_v0 : FVec Ideal S4096x8192 .bf16) (ix2 i k) = m ((c : Thread nD τ).loc main_arg0) (ix2 i k) := by
  entry_read
  pointwise

/-- The second operand is the second argument transposed. -/
theorem v2_at (k : Fin 8192) (j : Fin 2048) : (V m c main_v2 : FVec Ideal S8192x2048 .bf16) (ix2 k j) = m ((c : Thread nD τ).loc main_arg1) (ix2 j k) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) (inn t k)) := by
  have e : (win0_0.blk t).view.emb (ix2 r k) = (ix2 (row t r) (inn t k) : S4096x8192.Idx) := by blk_ext [idxA, row, inn]
  refine (read0 (V m c) t (ix2 r k)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 (col t s) (inn t k)) := by
  have e : (win0_1.blk t).view.emb (ix2 k s) = (ix2 (inn t k) (col t s) : S8192x2048.Idx) := by blk_ext [idxW, col, inn]
  refine (read1 (V m c) t (ix2 k s)).trans ?_
  rw [e]
  exact v2_at m c _ _
end blocks

/-! ## What one grid point computes -/

section at_index
variable (x : Vec Ideal S1024x2048 .bf16) (w : Vec Ideal S2048x1024 .bf16) (acc : Vec Ideal S1024x1024 .f32) (y : S1024x1024.Idx)

theorem pay1_at : k0_pay1 (F := Ideal) x w y = dot (fun k => x (ix2 (y 0) k)) fun k => w (ix2 k (y 1)) := by
  idx_vars y
  unfold dot
  pointwise [k0_pay1]

theorem pay2_at : k0_pay2 (F := Ideal) x w y = dot (fun k => x (ix2 (y 0) k)) fun k => w (ix2 k (y 1)) := by
  rw [← pay1_at]
  idx_vars y
  unfold k0_pay2
  generalize k0_pay1 (F := Ideal) x w = p
  pointwise

theorem pay3_at : k0_pay3 (F := Ideal) x w acc y = acc y + dot (fun k => x (ix2 (y 0) k)) fun k => w (ix2 k (y 1)) := by
  rw [← pay1_at]
  idx_vars y
  unfold k0_pay3
  generalize k0_pay1 (F := Ideal) x w = p
  pointwise
end at_index

/-! ## The reference, index by index -/

theorem ref_dh (a : (⟨S4096x8192, .f32⟩ : BufTy).Contents (Elt Ideal)) (w : (⟨S2048x8192, .f32⟩ : BufTy).Contents (Elt Ideal)) (i : Fin 4096) (j : Fin 2048) :
    Cert.DhReferenceIdeal.Read.val_main_v2 (F := Ideal) a w (ix2 i j) = dot (fun k => a (ix2 i k)) fun k => w (ix2 j k) := by
  refine (Cert.DhReferenceIdeal.Read.val_main_v2_apply a w (ix2 i j)).trans (Finset.sum_congr rfl fun k _ => ?_)
  congr 2 <;> idx_ext

/-! ## The accumulator, and the result array -/

section final
variable (m : (ℓ : Loc nD τ sig) → Buf (Elt Ideal) ℓ) (c : Dev nD)

/-- What the accumulator holds at the last of a block's four points. -/
theorem acc_at (t : Fin cfg0.N) (ht : t.val % 4 = 3) (y : S1024x1024.Idx) : (outsAt0 m c t.val t.isLt).2 y
    = dot (fun k => m ((c : Thread nD τ).loc main_arg0) (ix2 (row t (y 0)) k)) fun k => m ((c : Thread nD τ).loc main_arg1) (ix2 (col t (y 1)) k) := by
  refine acc_tiles (J := 4) (T := 2048) (by rfl) (fun n h => (outsAt0 m c n h).2)
    (fun t y k => (iblk m c 0 t : Vec Ideal S1024x2048 .bf16) (ix2 (y 0) k)) (fun t y k => (iblk m c 1 t : Vec Ideal S2048x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · by_cases h3 : t.val % 4 = 3
    · rw [outsAt0_C m c t h (by omega) h3]
      dsimp only
      frame_out
      rw [read_unread_whole]
      exact pay3_at ..
    · rw [outsAt0_B m c t h (by omega) h3]
      dsimp only
      frame_out
      rw [read_unread_whole]
      exact pay3_at ..
  · have e : row s (y 0) = row t (y 0) := Fin.ext (by show 1024 * (s.val / 8) + _ = 1024 * (t.val / 8) + _; omega)
    exact (iblk0 m c s (y 0) x).trans (by rw [e]; rfl)
  · have e : col s (y 1) = col t (y 1) := Fin.ext (by show 1024 * (s.val / 4 % 2) + _ = 1024 * (t.val / 4 % 2) + _; omega)
    exact (iblk1 m c s x (y 1)).trans (by rw [e]; rfl)

theorem final2 : ((dats m 0 c).arrAt 2 cfg0.N : FVec Ideal S4096x2048 .f32)
    = Cert.DhReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  have ht : t.val % 4 = 3 := (flush0_2 t).mp hf
  have key : (outsAt0 m c t.val t.isLt).2 y
      = Cert.DhReferenceIdeal.Read.val_main_v2 (F := Ideal) (m ((c : Thread nD τ).loc main_arg0)) (m ((c : Thread nD τ).loc main_arg1)) ((win0_2.blk t).view.emb y) := by
    have e : (win0_2.blk t).view.emb y = (ix2 (row t (y 0)) (col t (y 1)) : S4096x2048.Idx) := by blk_ext [idxDh, row, col]
    rw [e, ref_dh]
    exact acc_at m c t ht y
  blk_simp
  rw [after0_2]
  rw [outsAt0_C m c t (by omega) (by omega) ht] at key ⊢
  dsimp only at key ⊢
  refine Eq.trans ?_ key
  frame_out
end final

/-- The algebraic claim. -/
theorem algebraic : algebraic_DhIdeal_DhReferenceIdeal := by
  intro m g m' g' hm hargs
  refine ⟨_, Cert.DhIdeal.Value.run_blocks m g, (θ_run _ _ _).mono (fun r h c => ?_) (Cert.DhReferenceIdeal.Value.run m' g')⟩
  obtain ⟨h0, h1, h2⟩ := h c
  obtain ⟨a0, a1⟩ := hargs c
  refine ⟨h0.trans ?_, h1, h2⟩
  refine (Cert.DhReferenceIdeal.Read.val_main_v2_eq _ _).trans ?_
  rw [a0, a1]
  exact (final2 m c).symm

end Cert.DhIdeal.Mlp

end
-- ==== Proof.Mlp.Dw.lean ====
/- The gradients of the two weight matrices of the feed-forward layer. One call, at two pairs of operands: it adds up two
   tiles of the token axis, and leaves the array that the gradient of each plain product leaves. -/
module

public import proofs.«01_k».proof.Defs
public import proofs.«01_k».proof.Proof.Gen.DwIdeal.Value
public import proofs.«01_k».proof.Proof.Gen.DwTwoReferenceIdeal.Run
public import proofs.«01_k».proof.Proof.Gen.DwTwoReferenceIdeal.Read
public import proofs.«01_k».proof.Proof.Gen.DwOneReferenceIdeal.Run
public import proofs.«01_k».proof.Proof.Gen.DwOneReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwIdeal.Mlp
open Cert.DwIdeal Cert.DwIdeal.Gen Cert.Mlp

/-! ## Which block each window holds at grid point `t` -/

theorem idxA : ∀ t : Fin cfg0.N, win0_0.index t = ![t.val % 2, t.val / 4] := (by decide +kernel : ∀ t : Fin grid0.N, win0_0.index t = _)
theorem idxB : ∀ t : Fin cfg0.N, win0_1.index t = ![t.val % 2, t.val / 2 % 2] := (by decide +kernel : ∀ t : Fin grid0.N, win0_1.index t = _)
theorem idxDw : ∀ t : Fin cfg0.N, win0_2.index t = ![t.val / 4, t.val / 2 % 2] := (by decide +kernel : ∀ t : Fin grid0.N, win0_2.index t = _)

/-- Row `r` of the point's row tile. -/
def row (t : Fin cfg0.N) (r : Fin 2048) : Fin 8192 := ⟨2048 * (t.val / 4) + r, by have := t.isLt; have : cfg0.N = 16 := rfl; omega⟩
/-- Column `s` of the point's column tile. -/
def col (t : Fin cfg0.N) (s : Fin 1024) : Fin 2048 := ⟨1024 * (t.val / 2 % 2) + s, by omega⟩
/-- Token `k` of the point's tile of the token axis. -/
def inn (t : Fin cfg0.N) (k : Fin 2048) : Fin 4096 := ⟨2048 * (t.val % 2) + k, by omega⟩

/-! ## A window's block, read out of the array it is a block of -/

theorem read0 (A : (r : Ref sig .tc) → r.ty.Idx → Elt Ideal r.ty.elt) (t : Fin cfg0.N) (y : S2048x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v1 ((win0_1.blk t).view.emb y) := rfl

section blocks
variable (m : (ℓ : Loc nD τ sig) → Buf (Elt Ideal) ℓ) (c : Dev nD)

theorem v0_at (k : Fin 4096) (i : Fin 8192) : (V m c main_v0 : FVec Ideal S4096x8192 .bf16) (ix2 k i) = m ((c : Thread nD τ).loc main_arg0) (ix2 k i) := by
  entry_read
  pointwise

theorem v1_at (k : Fin 4096) (j : Fin 2048) : (V m c main_v1 : FVec Ideal S4096x2048 .bf16) (ix2 k j) = m ((c : Thread nD τ).loc main_arg1) (ix2 k j) := by
  entry_read
  pointwise

theorem iblk0 (t : Fin cfg0.N) (k r : Fin 2048) :
    (iblk m c 0 t : Vec Ideal S2048x2048 .bf16) (ix2 k r) = m ((c : Thread nD τ).loc main_arg0) (ix2 (inn t k) (row t r)) := by
  have e : (win0_0.blk t).view.emb (ix2 k r) = (ix2 (inn t k) (row t r) : S4096x8192.Idx) := by blk_ext [idxA, row, inn]
  refine (read0 (V m c) t (ix2 k r)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 (inn t k) (col t s)) := by
  have e : (win0_1.blk t).view.emb (ix2 k s) = (ix2 (inn t k) (col t s) : S4096x2048.Idx) := by blk_ext [idxB, col, inn]
  refine (read1 (V m c) t (ix2 k s)).trans ?_
  rw [e]
  exact v1_at m c _ _
end blocks

/-! ## What one grid point computes -/

section at_index
variable (a : Vec Ideal S2048x2048 .bf16) (b : Vec Ideal S2048x1024 .bf16) (acc : Vec Ideal S2048x1024 .f32) (y : S2048x1024.Idx)

theorem pay1_at : k0_pay1 (F := Ideal) a b y = dot (fun k => a (ix2 k (y 0))) fun k => b (ix2 k (y 1)) := by
  idx_vars y
  unfold dot
  pointwise [k0_pay1]

theorem pay2_at : k0_pay2 (F := Ideal) a b y = dot (fun k => a (ix2 k (y 0))) fun k => b (ix2 k (y 1)) := by
  rw [← pay1_at]
  idx_vars y
  unfold k0_pay2
  generalize k0_pay1 (F := Ideal) a b = p
  pointwise

theorem pay3_at : k0_pay3 (F := Ideal) a b acc y = acc y + dot (fun k => a (ix2 k (y 0))) fun k => b (ix2 k (y 1)) := by
  rw [← pay1_at]
  idx_vars y
  unfold k0_pay3
  generalize k0_pay1 (F := Ideal) a b = p
  pointwise

theorem pay4_at : k0_pay4 (F := Ideal) acc y = acc y := by
  pointwise [k0_pay4]
end at_index

/-! ## The accumulator, and the result array -/

/-- The products summed over the tokens, for every pair of a column of `a` and a column of `b`. -/
def outer (a : (⟨S4096x8192, .f32⟩ : BufTy).Contents (Elt Ideal)) (b : (⟨S4096x2048, .f32⟩ : BufTy).Contents (Elt Ideal)) : FVec Ideal S8192x2048 .bf16 :=
  fun y => dot (fun k => a (ix2 k (y 0))) fun k => b (ix2 k (y 1))

section final
variable (m : (ℓ : Loc nD τ sig) → Buf (Elt Ideal) ℓ) (c : Dev nD)

/-- What the accumulator holds at the last of a block's two points. -/
theorem acc_at (t : Fin cfg0.N) (ht : t.val % 2 = 1) (y : S2048x1024.Idx) : (outsAt0 m c t.val t.isLt).2 y
    = dot (fun k => m ((c : Thread nD τ).loc main_arg0) (ix2 k (row t (y 0)))) fun k => m ((c : Thread nD τ).loc main_arg1) (ix2 k (col t (y 1))) := by
  refine acc_tiles (J := 2) (T := 2048) (by rfl) (fun n h => (outsAt0 m c n h).2)
    (fun t y k => (iblk m c 0 t : Vec Ideal S2048x2048 .bf16) (ix2 k (y 0))) (fun t y k => (iblk m c 1 t : Vec Ideal S2048x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · rw [outsAt0_B m c t h (by omega) (by omega)]
    dsimp only
    frame_out
    rw [read_unread_whole]
    exact pay3_at ..
  · have e : row s (y 0) = row t (y 0) := Fin.ext (by show 2048 * (s.val / 4) + _ = 2048 * (t.val / 4) + _; omega)
    exact (iblk0 m c s x (y 0)).trans (by rw [e]; rfl)
  · have e : col s (y 1) = col t (y 1) := Fin.ext (by show 1024 * (s.val / 2 % 2) + _ = 1024 * (t.val / 2 % 2) + _; omega)
    exact (iblk1 m c s x (y 1)).trans (by rw [e]; rfl)

theorem final2 : ((dats m 0 c).arrAt 2 cfg0.N : FVec Ideal S8192x2048 .bf16)
    = outer (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have key : k0_pay4 (F := Ideal) (outsAt0 m c t.val t.isLt).2 y
      = outer (m ((c : Thread nD τ).loc main_arg0)) (m ((c : Thread nD τ).loc main_arg1)) ((win0_2.blk t).view.emb y) := by
    have e : (win0_2.blk t).view.emb y = (ix2 (row t (y 0)) (col t (y 1)) : S8192x2048.Idx) := by blk_ext [idxDw, row, col]
    rw [e]
    exact (pay4_at ..).trans (acc_at m c t ht y)
  blk_simp
  rw [after0_2]
  rw [outsAt0_B m c t (by omega) ht ht] at key ⊢
  dsimp only at key ⊢
  refine Eq.trans ?_ key
  frame_out
end final

/-! ## The two references -/

section reference
variable (a : (⟨S4096x8192, .f32⟩ : BufTy).Contents (Elt Ideal)) (b : (⟨S4096x2048, .f32⟩ : BufTy).Contents (Elt Ideal))

/-- The gradient of the second weight matrix. -/
theorem ref_dw2 : Cert.DwTwoReferenceIdeal.Read.val_main_v4 (F := Ideal) a b = outer a b := by
  funext y
  refine (congrFun (Cert.DwTwoReferenceIdeal.Read.val_main_v4_eq (F := Ideal) a b).symm y).trans ?_
  refine (Cert.DwTwoReferenceIdeal.Read.val_main_v3_apply (F := Ideal) a b y).trans ?_
  refine (Cert.DwTwoReferenceIdeal.Read.val_main_v2_apply a b _).trans ?_
  refine Eq.trans (Finset.sum_congr rfl fun k _ => ?_) (dot_comm _ _)
  congr 2 <;> idx_ext

/-- The gradient of the first weight matrix, transposed. -/
theorem ref_dw1 : Cert.DwOneReferenceIdeal.Read.val_main_v5 (F := Ideal) a b = outer a b := by
  funext y
  unfold outer dot
  refine (congrFun (Cert.DwOneReferenceIdeal.Read.val_main_v5_eq (F := Ideal) a b).symm y).trans ?_
  refine (Cert.DwOneReferenceIdeal.Read.val_main_v4_apply (F := Ideal) a b y).trans ?_
  refine (Cert.DwOneReferenceIdeal.Read.val_main_v3_apply (F := Ideal) a b _).trans ?_
  refine (Cert.DwOneReferenceIdeal.Read.val_main_v2_apply a b _).trans (Finset.sum_congr rfl fun k _ => ?_)
  congr 2 <;> idx_ext
end reference

/-! ## The algebraic claims -/

/-- Of the second weight matrix. -/
theorem algebraic_two : algebraic_DwIdeal_DwTwoReferenceIdeal := by
  intro m g m' g' hm hargs
  refine ⟨_, Cert.DwIdeal.Value.run_blocks m g, (θ_run _ _ _).mono (fun r h c => ?_) (Cert.DwTwoReferenceIdeal.Value.run m' g')⟩
  obtain ⟨h0, h1, h2⟩ := h c
  obtain ⟨a0, a1⟩ := hargs c
  refine ⟨h0.trans ?_, h1, h2⟩
  refine (Cert.DwTwoReferenceIdeal.Read.val_main_v4_eq _ _).trans ?_
  rw [a0, a1]
  exact (ref_dw2 _ _).trans (final2 m c).symm

/-- Of the first weight matrix. -/
theorem algebraic_one : algebraic_DwIdeal_DwOneReferenceIdeal := by
  intro m g m' g' hm hargs
  refine ⟨_, Cert.DwIdeal.Value.run_blocks m g, (θ_run _ _ _).mono (fun r h c => ?_) (Cert.DwOneReferenceIdeal.Value.run m' g')⟩
  obtain ⟨h0, h1, h2⟩ := h c
  obtain ⟨a0, a1⟩ := hargs c
  refine ⟨h0.trans ?_, h1, h2⟩
  refine (Cert.DwOneReferenceIdeal.Read.val_main_v5_eq _ _).trans ?_
  rw [a0, a1]
  exact (ref_dw1 _ _).trans (final2 m c).symm

end Cert.DwIdeal.Mlp

end
-- ==== Proof.Mlp.Xout.lean ====
/- The second product of the feed-forward layer and the residual added to it: the call, which adds up four tiles of the
   inner axis, and the plain sum leave the same array. -/
module

public import proofs.«01_k».proof.Defs
public import proofs.«01_k».proof.Proof.Gen.XoutIdeal.Value
public import proofs.«01_k».proof.Proof.Gen.XoutReferenceIdeal.Run
public import proofs.«01_k».proof.Proof.Gen.XoutReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.XoutIdeal.Mlp
open Cert.XoutIdeal Cert.XoutIdeal.Gen Cert.Mlp

/-! ## Which block each window holds at grid point `t` -/

theorem idxA : ∀ t : Fin cfg0.N, win0_0.index t = ![t.val / 8, t.val % 4] := (by decide +kernel : ∀ t : Fin grid0.N, win0_0.index t = _)
theorem idxW : ∀ t : Fin cfg0.N, win0_1.index t = ![t.val % 4, t.val / 4 % 2] := (by decide +kernel : ∀ t : Fin grid0.N, win0_1.index t = _)
theorem idxR : ∀ t : Fin cfg0.N, win0_2.index t = ![t.val / 8, t.val / 4 % 2] := (by decide +kernel : ∀ t : Fin grid0.N, win0_2.index t = _)
theorem idxX : ∀ t : Fin cfg0.N, win0_3.index t = ![t.val / 8, t.val / 4 % 2] := (by decide +kernel : ∀ t : Fin grid0.N, win0_3.index t = _)

/-- Row `r` of the point's row tile. -/
def row (t : Fin cfg0.N) (r : Fin 1024) : Fin 4096 := ⟨1024 * (t.val / 8) + r, by have := t.isLt; have : cfg0.N = 32 := rfl; omega⟩
/-- Column `s` of the point's column tile. -/
def col (t : Fin cfg0.N) (s : Fin 1024) : Fin 2048 := ⟨1024 * (t.val / 4 % 2) + s, by omega⟩
/-- Place `k` of the point's tile of the inner axis. -/
def inn (t : Fin cfg0.N) (k : Fin 2048) : Fin 8192 := ⟨2048 * (t.val % 4) + k, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v1 ((win0_1.blk t).view.emb y) := rfl
theorem read2 (A : (r : Ref sig .tc) → r.ty.Idx → Elt Ideal r.ty.elt) (t : Fin cfg0.N) (y : S1024x1024.Idx) :
    ((cfg0.win 2).blk t).view.read (Elt Ideal) (A (Pipeline.arrRef spec0 2)) y = A main_arg2 ((win0_2.blk t).view.emb y) := rfl

section blocks
variable (m : (ℓ : Loc nD τ sig) → Buf (Elt Ideal) ℓ) (c : Dev nD)

theorem v0_at (i : Fin 4096) (k : Fin 8192) : (V m c main_v0 : FVec Ideal S4096x8192 .bf16) (ix2 i k) = m ((c : Thread nD τ).loc main_arg0) (ix2 i k) := by
  entry_read
  pointwise

theorem v1_at (k : Fin 8192) (j : Fin 2048) : (V m c main_v1 : FVec Ideal S8192x2048 .bf16) (ix2 k j) = m ((c : Thread nD τ).loc main_arg1) (ix2 k j) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) (inn t k)) := by
  have e : (win0_0.blk t).view.emb (ix2 r k) = (ix2 (row t r) (inn t k) : S4096x8192.Idx) := by blk_ext [idxA, row, inn]
  refine (read0 (V m c) t (ix2 r k)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 (inn t k) (col t s)) := by
  have e : (win0_1.blk t).view.emb (ix2 k s) = (ix2 (inn t k) (col t s) : S8192x2048.Idx) := by blk_ext [idxW, col, inn]
  refine (read1 (V m c) t (ix2 k s)).trans ?_
  rw [e]
  exact v1_at m c _ _

theorem iblk2 (t : Fin cfg0.N) (y : S1024x1024.Idx) :
    (iblk m c 2 t : Vec Ideal S1024x1024 .f32) y = m ((c : Thread nD τ).loc main_arg2) (ix2 (row t (y 0)) (col t (y 1))) := by
  have e : (win0_2.blk t).view.emb y = (ix2 (row t (y 0)) (col t (y 1)) : S4096x2048.Idx) := by blk_ext [idxR, row, col]
  refine (read2 (V m c) t y).trans ?_
  rw [e, V_main_arg2]
end blocks

/-! ## What one grid point computes -/

section at_index
variable (x : Vec Ideal S1024x2048 .bf16) (w : Vec Ideal S2048x1024 .bf16) (acc : Vec Ideal S1024x1024 .f32) (y : S1024x1024.Idx)

theorem pay1_at : k0_pay1 (F := Ideal) x w y = dot (fun k => x (ix2 (y 0) k)) fun k => w (ix2 k (y 1)) := by
  idx_vars y
  unfold dot
  pointwise [k0_pay1]

theorem pay2_at : k0_pay2 (F := Ideal) x w y = dot (fun k => x (ix2 (y 0) k)) fun k => w (ix2 k (y 1)) := by
  rw [← pay1_at]
  idx_vars y
  unfold k0_pay2
  generalize k0_pay1 (F := Ideal) x w = p
  pointwise

theorem pay3_at : k0_pay3 (F := Ideal) x w acc y = acc y + dot (fun k => x (ix2 (y 0) k)) fun k => w (ix2 k (y 1)) := by
  rw [← pay1_at]
  idx_vars y
  unfold k0_pay3
  generalize k0_pay1 (F := Ideal) x w = p
  pointwise

theorem pay4_at (x : Vec Ideal S1024x1024 .f32) : k0_pay4 (F := Ideal) acc x y = x y + acc y := by
  pointwise [k0_pay4]
end at_index

/-! ## The reference, index by index -/

section reference
variable (u : (⟨S4096x8192, .f32⟩ : BufTy).Contents (Elt Ideal)) (w : (⟨S8192x2048, .f32⟩ : BufTy).Contents (Elt Ideal))
  (x : (⟨S4096x2048, .f32⟩ : BufTy).Contents (Elt Ideal)) (i : Fin 4096) (j : Fin 2048)

theorem ref_prod : Cert.XoutReferenceIdeal.Read.val_main_v0 (F := Ideal) u w (ix2 i j) = dot (fun k => u (ix2 i k)) fun k => w (ix2 k j) := by
  refine (Cert.XoutReferenceIdeal.Read.val_main_v0_apply u w (ix2 i j)).trans (Finset.sum_congr rfl fun k _ => ?_)
  congr 2 <;> idx_ext

theorem ref_x : Cert.XoutReferenceIdeal.Read.val_main_v1 (F := Ideal) u w x (ix2 i j) = x (ix2 i j) + dot (fun k => u (ix2 i k)) fun k => w (ix2 k j) := by
  rw [← ref_prod]
  rfl
end reference

/-! ## The accumulator, and the result array -/

section final
variable (m : (ℓ : Loc nD τ sig) → Buf (Elt Ideal) ℓ) (c : Dev nD)

/-- What the accumulator holds at the last of a block's four points. -/
theorem acc_at (t : Fin cfg0.N) (ht : t.val % 4 = 3) (y : S1024x1024.Idx) : (outsAt0 m c t.val t.isLt).2 y
    = dot (fun k => m ((c : Thread nD τ).loc main_arg0) (ix2 (row t (y 0)) k)) fun k => m ((c : Thread nD τ).loc main_arg1) (ix2 k (col t (y 1))) := by
  refine acc_tiles (J := 4) (T := 2048) (by rfl) (fun n h => (outsAt0 m c n h).2)
    (fun t y k => (iblk m c 0 t : Vec Ideal S1024x2048 .bf16) (ix2 (y 0) k)) (fun t y k => (iblk m c 1 t : Vec Ideal S2048x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · by_cases h3 : t.val % 4 = 3
    · rw [outsAt0_C m c t h (by omega) h3]
      dsimp only
      frame_out
      rw [read_unread_whole]
      exact pay3_at ..
    · rw [outsAt0_B m c t h (by omega) h3]
      dsimp only
      frame_out
      rw [read_unread_whole]
      exact pay3_at ..
  · have e : row s (y 0) = row t (y 0) := Fin.ext (by show 1024 * (s.val / 8) + _ = 1024 * (t.val / 8) + _; omega)
    exact (iblk0 m c s (y 0) x).trans (by rw [e]; rfl)
  · have e : col s (y 1) = col t (y 1) := Fin.ext (by show 1024 * (s.val / 4 % 2) + _ = 1024 * (t.val / 4 % 2) + _; omega)
    exact (iblk1 m c s x (y 1)).trans (by rw [e]; rfl)

theorem final3 : ((dats m 0 c).arrAt 3 cfg0.N : FVec Ideal S4096x2048 .f32)
    = Cert.XoutReferenceIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val % 4 = 3 := (flush0_3 t).mp hf
  have key : k0_pay4 (F := Ideal) (outsAt0 m c t.val t.isLt).2 (iblk m c 2 t) y
      = Cert.XoutReferenceIdeal.Read.val_main_v1 (F := Ideal) (m ((c : Thread nD τ).loc main_arg0)) (m ((c : Thread nD τ).loc main_arg1))
          (m ((c : Thread nD τ).loc main_arg2)) ((win0_3.blk t).view.emb y) := by
    have e : (win0_3.blk t).view.emb y = (ix2 (row t (y 0)) (col t (y 1)) : S4096x2048.Idx) := by blk_ext [idxX, row, col]
    rw [e, ref_x]
    exact (pay4_at ..).trans (congrArg₂ (· + ·) (iblk2 m c t y) (acc_at m c t ht y))
  blk_simp
  rw [after0_3]
  rw [outsAt0_C m c t (by omega) (by omega) ht] at key ⊢
  dsimp only at key ⊢
  refine Eq.trans ?_ key
  frame_out
end final

/-- The algebraic claim. -/
theorem algebraic : algebraic_XoutIdeal_XoutReferenceIdeal := by
  intro m g m' g' hm hargs
  refine ⟨_, Cert.XoutIdeal.Value.run_blocks m g, (θ_run _ _ _).mono (fun r h c => ?_) (Cert.XoutReferenceIdeal.Value.run m' g')⟩
  obtain ⟨h0, h1, h2, h3⟩ := h c
  obtain ⟨a0, a1, a2⟩ := hargs c
  refine ⟨h0.trans ?_, h1, h2, h3⟩
  refine (Cert.XoutReferenceIdeal.Read.val_main_v1_eq _ _ _).trans ?_
  rw [a0, a1, a2]
  exact (final3 m c).symm

end Cert.XoutIdeal.Mlp

end
-- ==== Proof.Proj.In.lean ====
/- The combined input projection: the call and the plain product leave the same array. -/
module

public import proofs.«01_k».proof.Defs
public import proofs.«01_k».proof.Proof.Gen.InIdeal.Value
public import proofs.«01_k».proof.Proof.Gen.InReferenceIdeal.Run
public import proofs.«01_k».proof.Proof.Gen.InReferenceIdeal.Read
public import proofs.«01_k».proof.Proof.Mlp.Dot
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InIdeal.Proj
open Cert.InIdeal Cert.InIdeal.Gen Cert.Mlp

/-! ## Which block each window holds at grid point `t` -/

theorem idxX : ∀ t : Fin cfg0.N, win0_0.index t = ![t.val / 6, 0] := (by decide +kernel : ∀ t : Fin grid0.N, win0_0.index t = _)
theorem idxW : ∀ t : Fin cfg0.N, win0_1.index t = ![t.val % 6, 0] := (by decide +kernel : ∀ t : Fin grid0.N, win0_1.index t = _)
theorem idxZ : ∀ t : Fin cfg0.N, win0_2.index t = ![t.val / 6, t.val % 6] := (by decide +kernel : ∀ t : Fin grid0.N, win0_2.index t = _)

/-- Row `r` of the point's row tile. -/
def row (t : Fin cfg0.N) (r : Fin 1024) : Fin 4096 := ⟨1024 * (t.val / 6) + r, by have := t.isLt; have : cfg0.N = 24 := rfl; omega⟩
/-- Column `s` of the point's column tile. -/
def col (t : Fin cfg0.N) (s : Fin 768) : Fin 4608 := ⟨768 * (t.val % 6) + s, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S768x2048.Idx) :
    ((cfg0.win 1).blk t).view.read (Elt Ideal) (A (Pipeline.arrRef spec0 1)) y = A main_v2 ((win0_1.blk t).view.emb y) := rfl

section blocks
variable (m : (ℓ : Loc nD τ sig) → Buf (Elt Ideal) ℓ) (c : Dev nD)

/-- The first operand is the first argument. -/
theorem v0_at (i : Fin 4096) (k : Fin 2048) : (V m c main_v0 : FVec Ideal S4096x2048 .bf16) (ix2 i k) = m ((c : Thread nD τ).loc main_arg0) (ix2 i k) := by
  entry_read
  pointwise

/-- The second operand is the second argument transposed. -/
theorem v2_at (j : Fin 4608) (k : Fin 2048) : (V m c main_v2 : FVec Ideal S4608x2048 .bf16) (ix2 j k) = m ((c : Thread nD τ).loc main_arg1) (ix2 k j) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) k) := by
  have e : (win0_0.blk t).view.emb (ix2 r k) = (ix2 (row t r) k : S4096x2048.Idx) := by blk_ext [idxX, row]
  refine (read0 (V m c) t (ix2 r k)).trans ?_
  rw [e]
  exact v0_at m c _ _

theorem iblk1 (t : Fin cfg0.N) (s : Fin 768) (k : Fin 2048) :
    (iblk m c 1 t : Vec Ideal S768x2048 .bf16) (ix2 s k) = m ((c : Thread nD τ).loc main_arg1) (ix2 k (col t s)) := by
  have e : (win0_1.blk t).view.emb (ix2 s k) = (ix2 (col t s) k : S4608x2048.Idx) := by blk_ext [idxW, col]
  refine (read1 (V m c) t (ix2 s k)).trans ?_
  rw [e]
  exact v2_at m c _ _
end blocks

/-! ## What one grid point computes -/

section at_index
variable (x : Vec Ideal S1024x2048 .bf16) (w : Vec Ideal S768x2048 .bf16) (r : Fin 1024) (s : Fin 768)

theorem pay1_at : k0_pay1 (F := Ideal) x w (ix2 r s) = dot (fun k => x (ix2 r k)) fun k => w (ix2 s k) := by
  unfold dot
  pointwise [k0_pay1]
end at_index

/-! ## The reference, index by index -/

section reference
variable (h : (⟨S4096x2048, .f32⟩ : BufTy).Contents (Elt Ideal)) (w : (⟨S2048x4608, .f32⟩ : BufTy).Contents (Elt Ideal)) (i : Fin 4096) (j : Fin 4608)

theorem ref_prod : Cert.InReferenceIdeal.Read.val_main_v0 (F := Ideal) h w (ix2 i j) = dot (fun k => h (ix2 i k)) fun k => w (ix2 k j) := by
  refine (Cert.InReferenceIdeal.Read.val_main_v0_apply h w (ix2 i j)).trans (Finset.sum_congr rfl fun k _ => ?_)
  congr 2 <;> idx_ext

theorem ref_z : Cert.InReferenceIdeal.Read.val_main_v1 (F := Ideal) h w (ix2 i j) = dot (fun k => h (ix2 i k)) fun k => w (ix2 k j) := by
  rw [← ref_prod]
  rfl
end reference

/-! ## The result array -/

section final
variable (m : (ℓ : Loc nD τ sig) → Buf (Elt Ideal) ℓ) (c : Dev nD)

theorem dot_blocks (t : Fin cfg0.N) (r : Fin 1024) (s : Fin 768) :
    dot (fun k => (iblk m c 0 t : Vec Ideal S1024x2048 .bf16) (ix2 r k)) (fun k => (iblk m c 1 t : Vec Ideal S768x2048 .bf16) (ix2 s k))
      = dot (fun k => m ((c : Thread nD τ).loc main_arg0) (ix2 (row t r) k)) fun k => m ((c : Thread nD τ).loc main_arg1) (ix2 k (col t s)) :=
  dot_congr (iblk0 m c t r) (iblk1 m c t s)

theorem final2 : ((dats m 0 c).arrAt 2 cfg0.N : FVec Ideal S4096x4608 .bf16)
    = Cert.InReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  have key : k0_pay1 (F := Ideal) (iblk m c 0 t) (iblk m c 1 t) y
      = Cert.InReferenceIdeal.Read.val_main_v1 (F := Ideal) (m ((c : Thread nD τ).loc main_arg0)) (m ((c : Thread nD τ).loc main_arg1)) ((win0_2.blk t).view.emb y) := by
    have ey : y = ix2 (y 0) (y 1) := by blk_ext
    have e : (win0_2.blk t).view.emb y = (ix2 (row t (y 0)) (col t (y 1)) : S4096x4608.Idx) := by blk_ext [idxZ, row, col]
    rw [e, ref_z, ey]
    exact (pay1_at ..).trans (dot_blocks m c t _ _)
  blk_simp
  rw [after0_2]
  frame_out
  exact key
end final

/-- The algebraic claim. -/
theorem algebraic : algebraic_InIdeal_InReferenceIdeal := by
  intro m g m' g' hm hargs
  refine ⟨_, Cert.InIdeal.Value.run_blocks m g, (θ_run _ _ _).mono (fun r h c => ?_) (Cert.InReferenceIdeal.Value.run m' g')⟩
  obtain ⟨h0, h1, h2⟩ := h c
  obtain ⟨a0, a1⟩ := hargs c
  refine ⟨h0.trans ?_, h1, h2⟩
  refine (Cert.InReferenceIdeal.Read.val_main_v1_eq _ _).trans ?_
  rw [a0, a1]
  exact (final2 m c).symm

end Cert.InIdeal.Proj

end
-- ==== Proof.Proj.InDx.lean ====
/- The gradient of the input of the combined input projection: the call, which adds up two tiles of the inner axis, and the
   gradient of the plain product leave the same array. -/
module

public import proofs.«01_k».proof.Defs
public import proofs.«01_k».proof.Proof.Gen.InDxIdeal.Value
public import proofs.«01_k».proof.Proof.Gen.InDxReferenceIdeal.Run
public import proofs.«01_k».proof.Proof.Gen.InDxReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDxIdeal.Proj
open Cert.InDxIdeal Cert.InDxIdeal.Gen Cert.Mlp

/-! ## Which block each window holds at grid point `t` -/

theorem idxA : ∀ t : Fin cfg0.N, win0_0.index t = ![t.val / 4, t.val % 2] := (by decide +kernel : ∀ t : Fin grid0.N, win0_0.index t = _)
theorem idxW : ∀ t : Fin cfg0.N, win0_1.index t = ![t.val % 2, t.val / 2 % 2] := (by decide +kernel : ∀ t : Fin grid0.N, win0_1.index t = _)
theorem idxDx : ∀ t : Fin cfg0.N, win0_2.index t = ![t.val / 4, t.val / 2 % 2] := (by decide +kernel : ∀ t : Fin grid0.N, win0_2.index t = _)

/-- Row `r` of the point's row tile. -/
def row (t : Fin cfg0.N) (r : Fin 1024) : Fin 4096 := ⟨1024 * (t.val / 4) + r, by have := t.isLt; have : cfg0.N = 16 := rfl; omega⟩
/-- Column `s` of the point's column tile. -/
def col (t : Fin cfg0.N) (s : Fin 1024) : Fin 2048 := ⟨1024 * (t.val / 2 % 2) + s, by omega⟩
/-- Place `k` of the point's tile of the inner axis. -/
def inn (t : Fin cfg0.N) (k : Fin 2304) : Fin 4608 := ⟨2304 * (t.val % 2) + k, by omega⟩

/-! ## A window's block, read out of the array it is a block of -/

theorem read0 (A : (r : Ref sig .tc) → r.ty.Idx → Elt Ideal r.ty.elt) (t : Fin cfg0.N) (y : S1024x2304.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2304x1024.Idx) :
    ((cfg0.win 1).blk t).view.read (Elt Ideal) (A (Pipeline.arrRef spec0 1)) y = A main_v2 ((win0_1.blk t).view.emb y) := rfl

section blocks
variable (m : (ℓ : Loc nD τ sig) → Buf (Elt Ideal) ℓ) (c : Dev nD)

theorem v0_at (i : Fin 4096) (k : Fin 4608) : (V m c main_v0 : FVec Ideal S4096x4608 .bf16) (ix2 i k) = m ((c : Thread nD τ).loc main_arg0) (ix2 i k) := by
  entry_read
  pointwise

/-- The second operand is the second argument transposed. -/
theorem v2_at (k : Fin 4608) (j : Fin 2048) : (V m c main_v2 : FVec Ideal S4608x2048 .bf16) (ix2 k j) = m ((c : Thread nD τ).loc main_arg1) (ix2 j k) := by
  entry_read
  pointwise

theorem iblk0 (t : Fin cfg0.N) (r : Fin 1024) (k : Fin 2304) :
    (iblk m c 0 t : Vec Ideal S1024x2304 .bf16) (ix2 r k) = m ((c : Thread nD τ).loc main_arg0) (ix2 (row t r) (inn t k)) := by
  have e : (win0_0.blk t).view.emb (ix2 r k) = (ix2 (row t r) (inn t k) : S4096x4608.Idx) := by blk_ext [idxA, row, inn]
  refine (read0 (V m c) t (ix2 r k)).trans ?_
  rw [e]
  exact v0_at m c _ _

theorem iblk1 (t : Fin cfg0.N) (k : Fin 2304) (s : Fin 1024) :
    (iblk m c 1 t : Vec Ideal S2304x1024 .bf16) (ix2 k s) = m ((c : Thread nD τ).loc main_arg1) (ix2 (col t s) (inn t k)) := by
  have e : (win0_1.blk t).view.emb (ix2 k s) = (ix2 (inn t k) (col t s) : S4608x2048.Idx) := by blk_ext [idxW, col, inn]
  refine (read1 (V m c) t (ix2 k s)).trans ?_
  rw [e]
  exact v2_at m c _ _
end blocks

/-! ## What one grid point computes -/

section at_index
variable (x : Vec Ideal S1024x2304 .bf16) (w : Vec Ideal S2304x1024 .bf16) (acc : Vec Ideal S1024x1024 .f32) (y : S1024x1024.Idx)

theorem pay1_at : k0_pay1 (F := Ideal) x w y = dot (fun k => x (ix2 (y 0) k)) fun k => w (ix2 k (y 1)) := by
  idx_vars y
  unfold dot
  pointwise [k0_pay1]

theorem pay2_at : k0_pay2 (F := Ideal) x w y = dot (fun k => x (ix2 (y 0) k)) fun k => w (ix2 k (y 1)) := by
  rw [← pay1_at]
  idx_vars y
  unfold k0_pay2
  generalize k0_pay1 (F := Ideal) x w = p
  pointwise

theorem pay3_at : k0_pay3 (F := Ideal) x w acc y = acc y + dot (fun k => x (ix2 (y 0) k)) fun k => w (ix2 k (y 1)) := by
  rw [← pay1_at]
  idx_vars y
  unfold k0_pay3
  generalize k0_pay1 (F := Ideal) x w = p
  pointwise
end at_index

/-! ## The reference, index by index -/

theorem ref_dx (a : (⟨S4096x4608, .f32⟩ : BufTy).Contents (Elt Ideal)) (w : (⟨S2048x4608, .f32⟩ : BufTy).Contents (Elt Ideal)) (i : Fin 4096) (j : Fin 2048) :
    Cert.InDxReferenceIdeal.Read.val_main_v2 (F := Ideal) a w (ix2 i j) = dot (fun k => a (ix2 i k)) fun k => w (ix2 j k) := by
  refine (Cert.InDxReferenceIdeal.Read.val_main_v2_apply a w (ix2 i j)).trans (Finset.sum_congr rfl fun k _ => ?_)
  congr 2 <;> idx_ext

/-! ## The accumulator, and the result array -/

section final
variable (m : (ℓ : Loc nD τ sig) → Buf (Elt Ideal) ℓ) (c : Dev nD)

/-- What the accumulator holds at the last of a block's two points. -/
theorem acc_at (t : Fin cfg0.N) (ht : t.val % 2 = 1) (y : S1024x1024.Idx) : (outsAt0 m c t.val t.isLt).2 y
    = dot (fun k => m ((c : Thread nD τ).loc main_arg0) (ix2 (row t (y 0)) k)) fun k => m ((c : Thread nD τ).loc main_arg1) (ix2 (col t (y 1)) k) := by
  refine acc_tiles (J := 2) (T := 2304) (by rfl) (fun n h => (outsAt0 m c n h).2)
    (fun t y k => (iblk m c 0 t : Vec Ideal S1024x2304 .bf16) (ix2 (y 0) k)) (fun t y k => (iblk m c 1 t : Vec Ideal S2304x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · rw [outsAt0_B m c t h (by omega) (by omega)]
    dsimp only
    frame_out
    rw [read_unread_whole]
    exact pay3_at ..
  · have e : row s (y 0) = row t (y 0) := Fin.ext (by show 1024 * (s.val / 4) + _ = 1024 * (t.val / 4) + _; omega)
    exact (iblk0 m c s (y 0) x).trans (by rw [e]; rfl)
  · have e : col s (y 1) = col t (y 1) := Fin.ext (by show 1024 * (s.val / 2 % 2) + _ = 1024 * (t.val / 2 % 2) + _; omega)
    exact (iblk1 m c s x (y 1)).trans (by rw [e]; rfl)

theorem final2 : ((dats m 0 c).arrAt 2 cfg0.N : FVec Ideal S4096x2048 .f32)
    = Cert.InDxReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have key : (outsAt0 m c t.val t.isLt).2 y
      = Cert.InDxReferenceIdeal.Read.val_main_v2 (F := Ideal) (m ((c : Thread nD τ).loc main_arg0)) (m ((c : Thread nD τ).loc main_arg1)) ((win0_2.blk t).view.emb y) := by
    have e : (win0_2.blk t).view.emb y = (ix2 (row t (y 0)) (col t (y 1)) : S4096x2048.Idx) := by blk_ext [idxDx, row, col]
    rw [e, ref_dx]
    exact acc_at m c t ht y
  blk_simp
  rw [after0_2]
  rw [outsAt0_B m c t (by omega) ht ht] at key ⊢
  dsimp only at key ⊢
  refine Eq.trans ?_ key
  frame_out
end final

/-- The algebraic claim. -/
theorem algebraic : algebraic_InDxIdeal_InDxReferenceIdeal := by
  intro m g m' g' hm hargs
  refine ⟨_, Cert.InDxIdeal.Value.run_blocks m g, (θ_run _ _ _).mono (fun r h c => ?_) (Cert.InDxReferenceIdeal.Value.run m' g')⟩
  obtain ⟨h0, h1, h2⟩ := h c
  obtain ⟨a0, a1⟩ := hargs c
  refine ⟨h0.trans ?_, h1, h2⟩
  refine (Cert.InDxReferenceIdeal.Read.val_main_v2_eq _ _).trans ?_
  rw [a0, a1]
  exact (final2 m c).symm

end Cert.InDxIdeal.Proj

end
-- ==== Proof.Proj.InDw.lean ====
/- The gradient of the combined input projection's weight, transposed: the call, which adds up two tiles of the token axis, and
   the gradient of the plain product leave the same array. -/
module

public import proofs.«01_k».proof.Defs
public import proofs.«01_k».proof.Proof.Gen.InDwIdeal.Value
public import proofs.«01_k».proof.Proof.Gen.InDwReferenceIdeal.Run
public import proofs.«01_k».proof.Proof.Gen.InDwReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDwIdeal.Proj
open Cert.InDwIdeal Cert.InDwIdeal.Gen Cert.Mlp

/-! ## Which block each window holds at grid point `t` -/

theorem idxA : ∀ t : Fin cfg0.N, win0_0.index t = ![t.val % 2, t.val / 4] := (by decide +kernel : ∀ t : Fin grid0.N, win0_0.index t = _)
theorem idxB : ∀ t : Fin cfg0.N, win0_1.index t = ![t.val % 2, t.val / 2 % 2] := (by decide +kernel : ∀ t : Fin grid0.N, win0_1.index t = _)
theorem idxDw : ∀ t : Fin cfg0.N, win0_2.index t = ![t.val / 4, t.val / 2 % 2] := (by decide +kernel : ∀ t : Fin grid0.N, win0_2.index t = _)

/-- Row `r` of the point's row tile. -/
def row (t : Fin cfg0.N) (r : Fin 1536) : Fin 4608 := ⟨1536 * (t.val / 4) + r, by have := t.isLt; have : cfg0.N = 12 := rfl; omega⟩
/-- Column `s` of the point's column tile. -/
def col (t : Fin cfg0.N) (s : Fin 1024) : Fin 2048 := ⟨1024 * (t.val / 2 % 2) + s, by omega⟩
/-- Token `k` of the point's tile of the token axis. -/
def inn (t : Fin cfg0.N) (k : Fin 2048) : Fin 4096 := ⟨2048 * (t.val % 2) + k, by omega⟩

/-! ## A window's block, read out of the array it is a block of -/

theorem read0 (A : (r : Ref sig .tc) → r.ty.Idx → Elt Ideal r.ty.elt) (t : Fin cfg0.N) (y : S2048x1536.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v1 ((win0_1.blk t).view.emb y) := rfl

section blocks
variable (m : (ℓ : Loc nD τ sig) → Buf (Elt Ideal) ℓ) (c : Dev nD)

theorem v0_at (k : Fin 4096) (i : Fin 4608) : (V m c main_v0 : FVec Ideal S4096x4608 .bf16) (ix2 k i) = m ((c : Thread nD τ).loc main_arg0) (ix2 k i) := by
  entry_read
  pointwise

theorem v1_at (k : Fin 4096) (j : Fin 2048) : (V m c main_v1 : FVec Ideal S4096x2048 .bf16) (ix2 k j) = m ((c : Thread nD τ).loc main_arg1) (ix2 k j) := by
  entry_read
  pointwise

theorem iblk0 (t : Fin cfg0.N) (k : Fin 2048) (r : Fin 1536) :
    (iblk m c 0 t : Vec Ideal S2048x1536 .bf16) (ix2 k r) = m ((c : Thread nD τ).loc main_arg0) (ix2 (inn t k) (row t r)) := by
  have e : (win0_0.blk t).view.emb (ix2 k r) = (ix2 (inn t k) (row t r) : S4096x4608.Idx) := by blk_ext [idxA, row, inn]
  refine (read0 (V m c) t (ix2 k r)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 (inn t k) (col t s)) := by
  have e : (win0_1.blk t).view.emb (ix2 k s) = (ix2 (inn t k) (col t s) : S4096x2048.Idx) := by blk_ext [idxB, col, inn]
  refine (read1 (V m c) t (ix2 k s)).trans ?_
  rw [e]
  exact v1_at m c _ _
end blocks

/-! ## What one grid point computes -/

section at_index
variable (a : Vec Ideal S2048x1536 .bf16) (b : Vec Ideal S2048x1024 .bf16) (acc : Vec Ideal S1536x1024 .f32) (y : S1536x1024.Idx)

theorem pay1_at : k0_pay1 (F := Ideal) a b y = dot (fun k => a (ix2 k (y 0))) fun k => b (ix2 k (y 1)) := by
  idx_vars y
  unfold dot
  pointwise [k0_pay1]

theorem pay2_at : k0_pay2 (F := Ideal) a b y = dot (fun k => a (ix2 k (y 0))) fun k => b (ix2 k (y 1)) := by
  rw [← pay1_at]
  idx_vars y
  unfold k0_pay2
  generalize k0_pay1 (F := Ideal) a b = p
  pointwise

theorem pay3_at : k0_pay3 (F := Ideal) a b acc y = acc y + dot (fun k => a (ix2 k (y 0))) fun k => b (ix2 k (y 1)) := by
  rw [← pay1_at]
  idx_vars y
  unfold k0_pay3
  generalize k0_pay1 (F := Ideal) a b = p
  pointwise

theorem pay4_at : k0_pay4 (F := Ideal) acc y = acc y := by
  pointwise [k0_pay4]
end at_index

/-! ## The accumulator, and the result array -/

/-- The products summed over the tokens, for every pair of a column of `a` and a column of `b`. -/
def outer (a : (⟨S4096x4608, .f32⟩ : BufTy).Contents (Elt Ideal)) (b : (⟨S4096x2048, .f32⟩ : BufTy).Contents (Elt Ideal)) : FVec Ideal S4608x2048 .bf16 :=
  fun y => dot (fun k => a (ix2 k (y 0))) fun k => b (ix2 k (y 1))

section final
variable (m : (ℓ : Loc nD τ sig) → Buf (Elt Ideal) ℓ) (c : Dev nD)

/-- What the accumulator holds at the last of a block's two points. -/
theorem acc_at (t : Fin cfg0.N) (ht : t.val % 2 = 1) (y : S1536x1024.Idx) : (outsAt0 m c t.val t.isLt).2 y
    = dot (fun k => m ((c : Thread nD τ).loc main_arg0) (ix2 k (row t (y 0)))) fun k => m ((c : Thread nD τ).loc main_arg1) (ix2 k (col t (y 1))) := by
  refine acc_tiles (J := 2) (T := 2048) (by rfl) (fun n h => (outsAt0 m c n h).2)
    (fun t y k => (iblk m c 0 t : Vec Ideal S2048x1536 .bf16) (ix2 k (y 0))) (fun t y k => (iblk m c 1 t : Vec Ideal S2048x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · rw [outsAt0_B m c t h (by omega) (by omega)]
    dsimp only
    frame_out
    rw [read_unread_whole]
    exact pay3_at ..
  · have e : row s (y 0) = row t (y 0) := Fin.ext (by show 1536 * (s.val / 4) + _ = 1536 * (t.val / 4) + _; omega)
    exact (iblk0 m c s x (y 0)).trans (by rw [e]; rfl)
  · have e : col s (y 1) = col t (y 1) := Fin.ext (by show 1024 * (s.val / 2 % 2) + _ = 1024 * (t.val / 2 % 2) + _; omega)
    exact (iblk1 m c s x (y 1)).trans (by rw [e]; rfl)

theorem final2 : ((dats m 0 c).arrAt 2 cfg0.N : FVec Ideal S4608x2048 .bf16)
    = outer (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have key : k0_pay4 (F := Ideal) (outsAt0 m c t.val t.isLt).2 y
      = outer (m ((c : Thread nD τ).loc main_arg0)) (m ((c : Thread nD τ).loc main_arg1)) ((win0_2.blk t).view.emb y) := by
    have e : (win0_2.blk t).view.emb y = (ix2 (row t (y 0)) (col t (y 1)) : S4608x2048.Idx) := by blk_ext [idxDw, row, col]
    rw [e]
    exact (pay4_at ..).trans (acc_at m c t ht y)
  blk_simp
  rw [after0_2]
  rw [outsAt0_B m c t (by omega) ht ht] at key ⊢
  dsimp only at key ⊢
  refine Eq.trans ?_ key
  frame_out
end final

/-! ## The reference -/

section reference
variable (a : (⟨S4096x4608, .f32⟩ : BufTy).Contents (Elt Ideal)) (b : (⟨S4096x2048, .f32⟩ : BufTy).Contents (Elt Ideal))

/-- The gradient of the projection's weight, transposed. -/
theorem ref_dw : Cert.InDwReferenceIdeal.Read.val_main_v5 (F := Ideal) a b = outer a b := by
  funext y
  unfold outer dot
  refine (congrFun (Cert.InDwReferenceIdeal.Read.val_main_v5_eq (F := Ideal) a b).symm y).trans ?_
  refine (Cert.InDwReferenceIdeal.Read.val_main_v4_apply (F := Ideal) a b y).trans ?_
  refine (Cert.InDwReferenceIdeal.Read.val_main_v3_apply (F := Ideal) a b _).trans ?_
  refine (Cert.InDwReferenceIdeal.Read.val_main_v2_apply a b _).trans (Finset.sum_congr rfl fun k _ => ?_)
  congr 2 <;> idx_ext
end reference

/-- The algebraic claim. -/
theorem algebraic : algebraic_InDwIdeal_InDwReferenceIdeal := by
  intro m g m' g' hm hargs
  refine ⟨_, Cert.InDwIdeal.Value.run_blocks m g, (θ_run _ _ _).mono (fun r h c => ?_) (Cert.InDwReferenceIdeal.Value.run m' g')⟩
  obtain ⟨h0, h1, h2⟩ := h c
  obtain ⟨a0, a1⟩ := hargs c
  refine ⟨h0.trans ?_, h1, h2⟩
  refine (Cert.InDwReferenceIdeal.Read.val_main_v5_eq _ _).trans ?_
  rw [a0, a1]
  exact (ref_dw _ _).trans (final2 m c).symm

end Cert.InDwIdeal.Proj

end
-- ==== Proof.Proj.Out.lean ====
/- The output projection and the residual added to it: the call and the plain sum leave the same array. -/
module

public import proofs.«01_k».proof.Defs
public import proofs.«01_k».proof.Proof.Gen.OutIdeal.Value
public import proofs.«01_k».proof.Proof.Gen.OutReferenceIdeal.Run
public import proofs.«01_k».proof.Proof.Gen.OutReferenceIdeal.Read
public import proofs.«01_k».proof.Proof.Mlp.Dot
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Proj
open Cert.OutIdeal Cert.OutIdeal.Gen Cert.Mlp

/-! ## Which block each window holds at grid point `t` -/

theorem idxA : ∀ t : Fin cfg0.N, win0_0.index t = ![t.val / 2, 0] := (by decide +kernel : ∀ t : Fin grid0.N, win0_0.index t = _)
theorem idxW : ∀ t : Fin cfg0.N, win0_1.index t = ![0, t.val % 2] := (by decide +kernel : ∀ t : Fin grid0.N, win0_1.index t = _)
theorem idxR : ∀ t : Fin cfg0.N, win0_2.index t = ![t.val / 2, t.val % 2] := (by decide +kernel : ∀ t : Fin grid0.N, win0_2.index t = _)
theorem idxX : ∀ t : Fin cfg0.N, win0_3.index t = ![t.val / 2, t.val % 2] := (by decide +kernel : ∀ t : Fin grid0.N, win0_3.index t = _)

/-- Row `r` of the point's row tile. -/
def row (t : Fin cfg0.N) (r : Fin 1024) : Fin 4096 := ⟨1024 * (t.val / 2) + r, by have := t.isLt; have : cfg0.N = 8 := rfl; omega⟩
/-- Column `s` of the point's column tile. -/
def col (t : Fin cfg0.N) (s : Fin 1024) : Fin 2048 := ⟨1024 * (t.val % 2) + s, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v1 ((win0_1.blk t).view.emb y) := rfl
theorem read2 (A : (r : Ref sig .tc) → r.ty.Idx → Elt Ideal r.ty.elt) (t : Fin cfg0.N) (y : S1024x1024.Idx) :
    ((cfg0.win 2).blk t).view.read (Elt Ideal) (A (Pipeline.arrRef spec0 2)) y = A main_arg2 ((win0_2.blk t).view.emb y) := rfl

section blocks
variable (m : (ℓ : Loc nD τ sig) → Buf (Elt Ideal) ℓ) (c : Dev nD)

theorem v0_at (i : Fin 4096) (k : Fin 2048) : (V m c main_v0 : FVec Ideal S4096x2048 .bf16) (ix2 i k) = m ((c : Thread nD τ).loc main_arg0) (ix2 i k) := by
  entry_read
  pointwise

theorem v1_at (k : Fin 2048) (j : Fin 2048) : (V m c main_v1 : FVec Ideal S2048x2048 .bf16) (ix2 k j) = m ((c : Thread nD τ).loc main_arg1) (ix2 k j) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) k) := by
  have e : (win0_0.blk t).view.emb (ix2 r k) = (ix2 (row t r) k : S4096x2048.Idx) := by blk_ext [idxA, row]
  refine (read0 (V m c) t (ix2 r k)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 k (col t s)) := by
  have e : (win0_1.blk t).view.emb (ix2 k s) = (ix2 k (col t s) : S2048x2048.Idx) := by blk_ext [idxW, col]
  refine (read1 (V m c) t (ix2 k s)).trans ?_
  rw [e]
  exact v1_at m c _ _

theorem iblk2 (t : Fin cfg0.N) (y : S1024x1024.Idx) :
    (iblk m c 2 t : Vec Ideal S1024x1024 .f32) y = m ((c : Thread nD τ).loc main_arg2) (ix2 (row t (y 0)) (col t (y 1))) := by
  have e : (win0_2.blk t).view.emb y = (ix2 (row t (y 0)) (col t (y 1)) : S4096x2048.Idx) := by blk_ext [idxR, row, col]
  refine (read2 (V m c) t y).trans ?_
  rw [e, V_main_arg2]
end blocks

/-! ## What one grid point computes -/

theorem pay1_at (x : Vec Ideal S1024x2048 .bf16) (w : Vec Ideal S2048x1024 .bf16) (res : Vec Ideal S1024x1024 .f32) (r s : Fin 1024) :
    k0_pay1 (F := Ideal) x w res (ix2 r s) = res (ix2 r s) + dot (fun k => x (ix2 r k)) fun k => w (ix2 k s) := by
  unfold dot
  pointwise [k0_pay1]

/-! ## The reference, index by index -/

section reference
variable (u : (⟨S4096x2048, .f32⟩ : BufTy).Contents (Elt Ideal)) (w : (⟨S2048x2048, .f32⟩ : BufTy).Contents (Elt Ideal))
  (x : (⟨S4096x2048, .f32⟩ : BufTy).Contents (Elt Ideal)) (i : Fin 4096) (j : Fin 2048)

theorem ref_prod : Cert.OutReferenceIdeal.Read.val_main_v0 (F := Ideal) u w (ix2 i j) = dot (fun k => u (ix2 i k)) fun k => w (ix2 k j) := by
  refine (Cert.OutReferenceIdeal.Read.val_main_v0_apply u w (ix2 i j)).trans (Finset.sum_congr rfl fun k _ => ?_)
  congr 2 <;> idx_ext

theorem ref_x : Cert.OutReferenceIdeal.Read.val_main_v1 (F := Ideal) u w x (ix2 i j) = x (ix2 i j) + dot (fun k => u (ix2 i k)) fun k => w (ix2 k j) := by
  rw [← ref_prod]
  rfl
end reference

/-! ## The result array -/

theorem final3 (m : (ℓ : Loc nD τ sig) → Buf (Elt Ideal) ℓ) (c : Dev nD) : ((dats m 0 c).arrAt 3 cfg0.N : FVec Ideal S4096x2048 .f32)
    = Cert.OutReferenceIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have key : k0_pay1 (F := Ideal) (iblk m c 0 t) (iblk m c 1 t) (iblk m c 2 t) y
      = Cert.OutReferenceIdeal.Read.val_main_v1 (F := Ideal) (m ((c : Thread nD τ).loc main_arg0)) (m ((c : Thread nD τ).loc main_arg1))
          (m ((c : Thread nD τ).loc main_arg2)) ((win0_3.blk t).view.emb y) := by
    have ey : y = ix2 (y 0) (y 1) := by blk_ext
    have e : (win0_3.blk t).view.emb y = (ix2 (row t (y 0)) (col t (y 1)) : S4096x2048.Idx) := by blk_ext [idxX, row, col]
    rw [e, ref_x, ey]
    exact (pay1_at ..).trans (congrArg₂ (· + ·) (iblk2 m c t _) (dot_congr (iblk0 m c t _) fun k => iblk1 m c t k _))
  blk_simp
  rw [after0_3]
  frame_out
  exact key

/-- The algebraic claim. -/
theorem algebraic : algebraic_OutIdeal_OutReferenceIdeal := by
  intro m g m' g' hm hargs
  refine ⟨_, Cert.OutIdeal.Value.run_blocks m g, (θ_run _ _ _).mono (fun r h c => ?_) (Cert.OutReferenceIdeal.Value.run m' g')⟩
  obtain ⟨h0, h1, h2, h3⟩ := h c
  obtain ⟨a0, a1, a2⟩ := hargs c
  refine ⟨h0.trans ?_, h1, h2, h3⟩
  refine (Cert.OutReferenceIdeal.Read.val_main_v1_eq _ _ _).trans ?_
  rw [a0, a1, a2]
  exact (final3 m c).symm

end Cert.OutIdeal.Proj

end
-- ==== Proof.Proj.OutDx.lean ====
/- The gradient of the mixers' joined output through the output projection: the call and the gradient of the plain product leave
   the same array. -/
module

public import proofs.«01_k».proof.Defs
public import proofs.«01_k».proof.Proof.Gen.OutDxIdeal.Value
public import proofs.«01_k».proof.Proof.Gen.OutDxReferenceIdeal.Run
public import proofs.«01_k».proof.Proof.Gen.OutDxReferenceIdeal.Read
public import proofs.«01_k».proof.Proof.Mlp.Dot
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutDxIdeal.Proj
open Cert.OutDxIdeal Cert.OutDxIdeal.Gen Cert.Mlp

/-! ## Which block each window holds at grid point `t` -/

theorem idxX : ∀ t : Fin cfg0.N, win0_0.index t = ![t.val / 2, 0] := (by decide +kernel : ∀ t : Fin grid0.N, win0_0.index t = _)
theorem idxW : ∀ t : Fin cfg0.N, win0_1.index t = ![t.val % 2, 0] := (by decide +kernel : ∀ t : Fin grid0.N, win0_1.index t = _)
theorem idxDx : ∀ t : Fin cfg0.N, win0_2.index t = ![t.val / 2, t.val % 2] := (by decide +kernel : ∀ t : Fin grid0.N, win0_2.index t = _)

/-- Row `r` of the point's row tile. -/
def row (t : Fin cfg0.N) (r : Fin 1024) : Fin 4096 := ⟨1024 * (t.val / 2) + r, by have := t.isLt; have : cfg0.N = 8 := rfl; omega⟩
/-- Column `s` of the point's column tile. -/
def col (t : Fin cfg0.N) (s : Fin 1024) : Fin 2048 := ⟨1024 * (t.val % 2) + s, by omega⟩

/-! ## A window's block, read out of the array it is a block of -/

theorem read0 (A : (r : Ref sig .tc) → r.ty.Idx → Elt Ideal r.ty.elt) (t : Fin cfg0.N) (y : S1024x2048.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S1024x2048.Idx) :
    ((cfg0.win 1).blk t).view.read (Elt Ideal) (A (Pipeline.arrRef spec0 1)) y = A main_v1 ((win0_1.blk t).view.emb y) := rfl

section blocks
variable (m : (ℓ : Loc nD τ sig) → Buf (Elt Ideal) ℓ) (c : Dev nD)

/-- The first operand is the first argument. -/
theorem v0_at (i : Fin 4096) (k : Fin 2048) : (V m c main_v0 : FVec Ideal S4096x2048 .bf16) (ix2 i k) = m ((c : Thread nD τ).loc main_arg0) (ix2 i k) := by
  entry_read
  pointwise

/-- The second operand is the second argument. -/
theorem v1_at (j : Fin 2048) (k : Fin 2048) : (V m c main_v1 : FVec Ideal S2048x2048 .bf16) (ix2 j k) = m ((c : Thread nD τ).loc main_arg1) (ix2 j k) := by
  entry_read
  pointwise

theorem iblk0 (t : Fin cfg0.N) (r : Fin 1024) (k : Fin 2048) :
    (iblk m c 0 t : Vec Ideal S1024x2048 .bf16) (ix2 r k) = m ((c : Thread nD τ).loc main_arg0) (ix2 (row t r) k) := by
  have e : (win0_0.blk t).view.emb (ix2 r k) = (ix2 (row t r) k : S4096x2048.Idx) := by blk_ext [idxX, row]
  refine (read0 (V m c) t (ix2 r k)).trans ?_
  rw [e]
  exact v0_at m c _ _

theorem iblk1 (t : Fin cfg0.N) (s : Fin 1024) (k : Fin 2048) :
    (iblk m c 1 t : Vec Ideal S1024x2048 .bf16) (ix2 s k) = m ((c : Thread nD τ).loc main_arg1) (ix2 (col t s) k) := by
  have e : (win0_1.blk t).view.emb (ix2 s k) = (ix2 (col t s) k : S2048x2048.Idx) := by blk_ext [idxW, col]
  refine (read1 (V m c) t (ix2 s k)).trans ?_
  rw [e]
  exact v1_at m c _ _
end blocks

/-! ## What one grid point computes -/

section at_index
variable (x w : Vec Ideal S1024x2048 .bf16) (r s : Fin 1024)

theorem pay1_at : k0_pay1 (F := Ideal) x w (ix2 r s) = dot (fun k => x (ix2 r k)) fun k => w (ix2 s k) := by
  unfold dot
  pointwise [k0_pay1]
end at_index

/-! ## The reference, index by index -/

theorem ref_dx (g : (⟨S4096x2048, .f32⟩ : BufTy).Contents (Elt Ideal)) (w : (⟨S2048x2048, .f32⟩ : BufTy).Contents (Elt Ideal)) (i : Fin 4096) (j : Fin 2048) :
    Cert.OutDxReferenceIdeal.Read.val_main_v2 (F := Ideal) g w (ix2 i j) = dot (fun k => g (ix2 i k)) fun k => w (ix2 j k) := by
  refine (Cert.OutDxReferenceIdeal.Read.val_main_v2_apply g w (ix2 i j)).trans (Finset.sum_congr rfl fun k _ => ?_)
  congr 2 <;> idx_ext

/-! ## The result array -/

section final
variable (m : (ℓ : Loc nD τ sig) → Buf (Elt Ideal) ℓ) (c : Dev nD)

theorem dot_blocks (t : Fin cfg0.N) (r s : Fin 1024) :
    dot (fun k => (iblk m c 0 t : Vec Ideal S1024x2048 .bf16) (ix2 r k)) (fun k => (iblk m c 1 t : Vec Ideal S1024x2048 .bf16) (ix2 s k))
      = dot (fun k => m ((c : Thread nD τ).loc main_arg0) (ix2 (row t r) k)) fun k => m ((c : Thread nD τ).loc main_arg1) (ix2 (col t s) k) :=
  dot_congr (iblk0 m c t r) (iblk1 m c t s)

theorem final2 : ((dats m 0 c).arrAt 2 cfg0.N : FVec Ideal S4096x2048 .f32)
    = Cert.OutDxReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  have key : k0_pay1 (F := Ideal) (iblk m c 0 t) (iblk m c 1 t) y
      = Cert.OutDxReferenceIdeal.Read.val_main_v2 (F := Ideal) (m ((c : Thread nD τ).loc main_arg0)) (m ((c : Thread nD τ).loc main_arg1)) ((win0_2.blk t).view.emb y) := by
    have ey : y = ix2 (y 0) (y 1) := by blk_ext
    have e : (win0_2.blk t).view.emb y = (ix2 (row t (y 0)) (col t (y 1)) : S4096x2048.Idx) := by blk_ext [idxDx, row, col]
    rw [e, ref_dx, ey]
    exact (pay1_at ..).trans (dot_blocks m c t _ _)
  blk_simp
  rw [after0_2]
  frame_out
  exact key
end final

/-- The algebraic claim. -/
theorem algebraic : algebraic_OutDxIdeal_OutDxReferenceIdeal := by
  intro m g m' g' hm hargs
  refine ⟨_, Cert.OutDxIdeal.Value.run_blocks m g, (θ_run _ _ _).mono (fun r h c => ?_) (Cert.OutDxReferenceIdeal.Value.run m' g')⟩
  obtain ⟨h0, h1, h2⟩ := h c
  obtain ⟨a0, a1⟩ := hargs c
  refine ⟨h0.trans ?_, h1, h2⟩
  refine (Cert.OutDxReferenceIdeal.Read.val_main_v2_eq _ _).trans ?_
  rw [a0, a1]
  exact (final2 m c).symm

end Cert.OutDxIdeal.Proj

end
-- ==== Proof.Proj.OutDw.lean ====
/- The gradient of the output projection's weight: the call, which adds up two tiles of the token axis, and the gradient of
   the plain product leave the same array. -/
module

public import proofs.«01_k».proof.Defs
public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Proof.Mlp.Dot
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutDwIdeal.Proj
open Cert.OutDwIdeal Cert.OutDwIdeal.Gen Cert.Mlp

/-! ## Which block each window holds at grid point `t` -/

theorem idxA : ∀ t : Fin cfg0.N, win0_0.index t = ![t.val % 2, t.val / 4] := (by decide +kernel : ∀ t : Fin grid0.N, win0_0.index t = _)
theorem idxB : ∀ t : Fin cfg0.N, win0_1.index t = ![t.val % 2, t.val / 2 % 2] := (by decide +kernel : ∀ t : Fin grid0.N, win0_1.index t = _)
theorem idxDw : ∀ t : Fin cfg0.N, win0_2.index t = ![t.val / 4, t.val / 2 % 2] := (by decide +kernel : ∀ t : Fin grid0.N, win0_2.index t = _)

/-- Row `r` of the point's row tile. -/
def row (t : Fin cfg0.N) (r : Fin 1024) : Fin 2048 := ⟨1024 * (t.val / 4) + r, by have := t.isLt; have : cfg0.N = 8 := rfl; omega⟩
/-- Column `s` of the point's column tile. -/
def col (t : Fin cfg0.N) (s : Fin 1024) : Fin 2048 := ⟨1024 * (t.val / 2 % 2) + s, by omega⟩
/-- Token `k` of the point's tile of the token axis. -/
def inn (t : Fin cfg0.N) (k : Fin 2048) : Fin 4096 := ⟨2048 * (t.val % 2) + k, by omega⟩

/-! ## A window's block, read out of the array it is a block of -/

theorem read0 (A : (r : Ref sig .tc) → r.ty.Idx → Elt Ideal r.ty.elt) (t : Fin cfg0.N) (y : S2048x1024.Idx) :
    ((cfg0.win 0).blk t).view.read (Elt Ideal) (A (Pipeline.arrRef spec0 0)) y = A main_v0 ((win0_0.blk t).view.emb y) := rfl
theorem read1 (A : (r : Ref sig .tc) → r.ty.Idx → Elt Ideal r.ty.elt) (t : Fin cfg0.N) (y : S2048x1024.Idx) :
    ((cfg0.win 1).blk t).view.read (Elt Ideal) (A (Pipeline.arrRef spec0 1)) y = A main_v1 ((win0_1.blk t).view.emb y) := rfl

section blocks
variable (m : (ℓ : Loc nD τ sig) → Buf (Elt Ideal) ℓ) (c : Dev nD)

theorem v0_at (k : Fin 4096) (i : Fin 2048) : (V m c main_v0 : FVec Ideal S4096x2048 .bf16) (ix2 k i) = m ((c : Thread nD τ).loc main_arg0) (ix2 k i) := by
  entry_read
  pointwise

theorem v1_at (k : Fin 4096) (j : Fin 2048) : (V m c main_v1 : FVec Ideal S4096x2048 .bf16) (ix2 k j) = m ((c : Thread nD τ).loc main_arg1) (ix2 k j) := by
  entry_read
  pointwise

theorem iblk0 (t : Fin cfg0.N) (k : Fin 2048) (r : Fin 1024) :
    (iblk m c 0 t : Vec Ideal S2048x1024 .bf16) (ix2 k r) = m ((c : Thread nD τ).loc main_arg0) (ix2 (inn t k) (row t r)) := by
  have e : (win0_0.blk t).view.emb (ix2 k r) = (ix2 (inn t k) (row t r) : S4096x2048.Idx) := by blk_ext [idxA, row, inn]
  refine (read0 (V m c) t (ix2 k r)).trans ?_
  rw [e]
  exact v0_at m c _ _

theorem iblk1 (t : Fin cfg0.N) (k : Fin 2048) (s : Fin 1024) :
    (iblk m c 1 t : Vec Ideal S2048x1024 .bf16) (ix2 k s) = m ((c : Thread nD τ).loc main_arg1) (ix2 (inn t k) (col t s)) := by
  have e : (win0_1.blk t).view.emb (ix2 k s) = (ix2 (inn t k) (col t s) : S4096x2048.Idx) := by blk_ext [idxB, col, inn]
  refine (read1 (V m c) t (ix2 k s)).trans ?_
  rw [e]
  exact v1_at m c _ _
end blocks

/-! ## What one grid point computes -/

section at_index
variable (a : Vec Ideal S2048x1024 .bf16) (b : Vec Ideal S2048x1024 .bf16) (acc : Vec Ideal S1024x1024 .f32) (y : S1024x1024.Idx)

theorem pay1_at : k0_pay1 (F := Ideal) a b y = dot (fun k => a (ix2 k (y 0))) fun k => b (ix2 k (y 1)) := by
  idx_vars y
  unfold dot
  pointwise [k0_pay1]

theorem pay2_at : k0_pay2 (F := Ideal) a b y = dot (fun k => a (ix2 k (y 0))) fun k => b (ix2 k (y 1)) := by
  rw [← pay1_at]
  idx_vars y
  unfold k0_pay2
  generalize k0_pay1 (F := Ideal) a b = p
  pointwise

theorem pay3_at : k0_pay3 (F := Ideal) a b acc y = acc y + dot (fun k => a (ix2 k (y 0))) fun k => b (ix2 k (y 1)) := by
  rw [← pay1_at]
  idx_vars y
  unfold k0_pay3
  generalize k0_pay1 (F := Ideal) a b = p
  pointwise

theorem pay4_at : k0_pay4 (F := Ideal) acc y = acc y := by
  pointwise [k0_pay4]
end at_index

/-! ## The accumulator, and the result array -/

/-- The products summed over the tokens, for every pair of a column of `a` and a column of `b`. -/
def outer (a : (⟨S4096x2048, .f32⟩ : BufTy).Contents (Elt Ideal)) (b : (⟨S4096x2048, .f32⟩ : BufTy).Contents (Elt Ideal)) : FVec Ideal S2048x2048 .bf16 :=
  fun y => dot (fun k => a (ix2 k (y 0))) fun k => b (ix2 k (y 1))

section final
variable (m : (ℓ : Loc nD τ sig) → Buf (Elt Ideal) ℓ) (c : Dev nD)

/-- What the accumulator holds at the last of a block's two points. -/
theorem acc_at (t : Fin cfg0.N) (ht : t.val % 2 = 1) (y : S1024x1024.Idx) : (outsAt0 m c t.val t.isLt).2 y
    = dot (fun k => m ((c : Thread nD τ).loc main_arg0) (ix2 k (row t (y 0)))) fun k => m ((c : Thread nD τ).loc main_arg1) (ix2 k (col t (y 1))) := by
  refine acc_tiles (J := 2) (T := 2048) (by rfl) (fun n h => (outsAt0 m c n h).2)
    (fun t y k => (iblk m c 0 t : Vec Ideal S2048x1024 .bf16) (ix2 k (y 0))) (fun t y k => (iblk m c 1 t : Vec Ideal S2048x1024 .bf16) (ix2 k (y 1)))
    (fun t h y => ?_) (fun t h y => ?_) t ht y _ _ (fun s hs x hx => ?_) (fun s hs x hx => ?_)
  · rw [outsAt0_A m c t h (by omega) (by omega)]
    dsimp only
    frame_out
    exact pay2_at ..
  · rw [outsAt0_B m c t h (by omega) (by omega)]
    dsimp only
    frame_out
    rw [read_unread_whole]
    exact pay3_at ..
  · have e : row s (y 0) = row t (y 0) := Fin.ext (by show 1024 * (s.val / 4) + _ = 1024 * (t.val / 4) + _; omega)
    exact (iblk0 m c s x (y 0)).trans (by rw [e]; rfl)
  · have e : col s (y 1) = col t (y 1) := Fin.ext (by show 1024 * (s.val / 2 % 2) + _ = 1024 * (t.val / 2 % 2) + _; omega)
    exact (iblk1 m c s x (y 1)).trans (by rw [e]; rfl)

theorem final2 : ((dats m 0 c).arrAt 2 cfg0.N : FVec Ideal S2048x2048 .bf16)
    = outer (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have key : k0_pay4 (F := Ideal) (outsAt0 m c t.val t.isLt).2 y
      = outer (m ((c : Thread nD τ).loc main_arg0)) (m ((c : Thread nD τ).loc main_arg1)) ((win0_2.blk t).view.emb y) := by
    have e : (win0_2.blk t).view.emb y = (ix2 (row t (y 0)) (col t (y 1)) : S2048x2048.Idx) := by blk_ext [idxDw, row, col]
    rw [e]
    exact (pay4_at ..).trans (acc_at m c t ht y)
  blk_simp
  rw [after0_2]
  rw [outsAt0_B m c t (by omega) ht ht] at key ⊢
  dsimp only at key ⊢
  refine Eq.trans ?_ key
  frame_out
end final

/-! ## The reference -/

section reference
variable (a : (⟨S4096x2048, .f32⟩ : BufTy).Contents (Elt Ideal)) (b : (⟨S4096x2048, .f32⟩ : BufTy).Contents (Elt Ideal))

/-- The gradient of the projection's weight. -/
theorem ref_dw : Cert.OutDwReferenceIdeal.Read.val_main_v4 (F := Ideal) a b = outer a b := by
  funext y
  refine (congrFun (Cert.OutDwReferenceIdeal.Read.val_main_v4_eq (F := Ideal) a b).symm y).trans ?_
  refine (Cert.OutDwReferenceIdeal.Read.val_main_v3_apply (F := Ideal) a b y).trans ?_
  refine (Cert.OutDwReferenceIdeal.Read.val_main_v2_apply a b _).trans ?_
  refine Eq.trans (Finset.sum_congr rfl fun k _ => ?_) (dot_comm _ _)
  congr 2 <;> idx_ext
end reference

/-- The algebraic claim. -/
theorem algebraic : algebraic_OutDwIdeal_OutDwReferenceIdeal := by
  intro m g m' g' hm hargs
  refine ⟨_, Cert.OutDwIdeal.Value.run_blocks m g, (θ_run _ _ _).mono (fun r h c => ?_) (Cert.OutDwReferenceIdeal.Value.run m' g')⟩
  obtain ⟨h0, h1, h2⟩ := h c
  obtain ⟨a0, a1⟩ := hargs c
  refine ⟨h0.trans ?_, h1, h2⟩
  refine (Cert.OutDwReferenceIdeal.Read.val_main_v4_eq _ _).trans ?_
  rw [a0, a1]
  exact (ref_dw _ _).trans (final2 m c).symm

end Cert.OutDwIdeal.Proj

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Dz
public import proofs.«01_k».proof.Proof.Gen.Dz.Frame
public import proofs.«01_k».proof.Proof.Gen.DzIdeal
public import proofs.«01_k».proof.Proof.Gen.DzIdeal.Frame
public import proofs.«01_k».proof.Proof.Gen.DzIdeal.Value
public import proofs.«01_k».proof.Proof.Gen.DzReferenceIdeal
public import proofs.«01_k».proof.Proof.Gen.DzReferenceIdeal.Run
public import proofs.«01_k».proof.Proof.Gen.DzReferenceIdeal.Read
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhReferenceIdeal
public import proofs.«01_k».proof.Proof.Gen.DhReferenceIdeal.Run
public import proofs.«01_k».proof.Proof.Gen.DhReferenceIdeal.Read
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwTwoReferenceIdeal
public import proofs.«01_k».proof.Proof.Gen.DwTwoReferenceIdeal.Run
public import proofs.«01_k».proof.Proof.Gen.DwTwoReferenceIdeal.Read
public import proofs.«01_k».proof.Proof.Gen.DwOneReferenceIdeal
public import proofs.«01_k».proof.Proof.Gen.DwOneReferenceIdeal.Run
public import proofs.«01_k».proof.Proof.Gen.DwOneReferenceIdeal.Read
public import proofs.«01_k».proof.Proof.Gen.Xout
public import proofs.«01_k».proof.Proof.Gen.Xout.Frame
public import proofs.«01_k».proof.Proof.Gen.XoutIdeal
public import proofs.«01_k».proof.Proof.Gen.XoutIdeal.Frame
public import proofs.«01_k».proof.Proof.Gen.XoutIdeal.Value
public import proofs.«01_k».proof.Proof.Gen.XoutReferenceIdeal
public import proofs.«01_k».proof.Proof.Gen.XoutReferenceIdeal.Run
public import proofs.«01_k».proof.Proof.Gen.XoutReferenceIdeal.Read
public import proofs.«01_k».proof.Proof.Gen.AttnA
public import proofs.«01_k».proof.Proof.Gen.AttnA.Frame
public import proofs.«01_k».proof.Proof.Gen.AttnAIdeal
public import proofs.«01_k».proof.Proof.Gen.AttnAIdeal.Frame
public import proofs.«01_k».proof.Proof.Gen.AttnAIdeal.Value
public import proofs.«01_k».proof.Proof.Gen.AttnAReferenceIdeal
public import proofs.«01_k».proof.Proof.Gen.AttnAReferenceIdeal.Run
public import proofs.«01_k».proof.Proof.Gen.AttnAReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxReferenceIdeal
public import proofs.«01_k».proof.Proof.Gen.InDxReferenceIdeal.Run
public import proofs.«01_k».proof.Proof.Gen.InDxReferenceIdeal.Read
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.OutDx
public import proofs.«01_k».proof.Proof.Gen.OutDx.Frame
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxReferenceIdeal
public import proofs.«01_k».proof.Proof.Gen.OutDxReferenceIdeal.Run
public import proofs.«01_k».proof.Proof.Gen.OutDxReferenceIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.Pre_finite
public import proofs.«01_k».proof.Proof.Gen.Pre_finite_a
public import proofs.«01_k».proof.Proof.Attn.ResultB
public import proofs.«01_k».proof.Proof.AttnA.ResultA
public import proofs.«01_k».proof.Proof.Mlp.Up
public import proofs.«01_k».proof.Proof.Mlp.Dz
public import proofs.«01_k».proof.Proof.Mlp.Dh
public import proofs.«01_k».proof.Proof.Mlp.Dw
public import proofs.«01_k».proof.Proof.Mlp.Xout
public import proofs.«01_k».proof.Proof.Proj.In
public import proofs.«01_k».proof.Proof.Proj.InDx
public import proofs.«01_k».proof.Proof.Proj.InDw
public import proofs.«01_k».proof.Proof.Proj.Out
public import proofs.«01_k».proof.Proof.Proj.OutDx
public import proofs.«01_k».proof.Proof.Proj.OutDw
public import Idealize.ShloMosaic.Adequacy
public import Idealize.ShloMosaic.Init

@[expose] public section

noncomputable section

namespace Cert.Proof

open Idealize.ShloMosaic Idealize.SL.Sem

/-! ## Each reference runs and keeps its arguments -/

/-- The reference of the attention of mixer B. -/
theorem frame_attn : quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

/-- The reference of the first product. -/
theorem frame_up : quiescent_UpReferenceIdeal := by
  intro m g _
  exact (θ_run Cert.UpReferenceIdeal.defs _ _).mono (fun r h => ⟨fun c => (h c).2.2, sem_eq_zero_of_no_sems (by decide) r.2⟩)
    (Cert.UpReferenceIdeal.Value.run m g)

/-- The reference of the inner activation's gradient. -/
theorem frame_dz : quiescent_DzReferenceIdeal := by
  intro m g _
  exact (θ_run Cert.DzReferenceIdeal.defs _ _).mono (fun r h => ⟨fun c => (h c).2, sem_eq_zero_of_no_sems (by decide) r.2⟩)
    (Cert.DzReferenceIdeal.Value.run m g)

/-- The reference of the input's gradient. -/
theorem frame_dh : quiescent_DhReferenceIdeal := by
  intro m g _
  exact (θ_run Cert.DhReferenceIdeal.defs _ _).mono (fun r h => ⟨fun c => (h c).2, sem_eq_zero_of_no_sems (by decide) r.2⟩)
    (Cert.DhReferenceIdeal.Value.run m g)

/-- The reference of the second weight's gradient. -/
theorem frame_dw2 : quiescent_DwTwoReferenceIdeal := by
  intro m g _
  exact (θ_run Cert.DwTwoReferenceIdeal.defs _ _).mono (fun r h => ⟨fun c => (h c).2, sem_eq_zero_of_no_sems (by decide) r.2⟩)
    (Cert.DwTwoReferenceIdeal.Value.run m g)

/-- The reference of the first weight's gradient. -/
theorem frame_dw1 : quiescent_DwOneReferenceIdeal := by
  intro m g _
  exact (θ_run Cert.DwOneReferenceIdeal.defs _ _).mono (fun r h => ⟨fun c => (h c).2, sem_eq_zero_of_no_sems (by decide) r.2⟩)
    (Cert.DwOneReferenceIdeal.Value.run m g)

/-- The reference of the second product. -/
theorem frame_xout : quiescent_XoutReferenceIdeal := by
  intro m g _
  exact (θ_run Cert.XoutReferenceIdeal.defs _ _).mono (fun r h => ⟨fun c => (h c).2, sem_eq_zero_of_no_sems (by decide) r.2⟩)
    (Cert.XoutReferenceIdeal.Value.run m g)

/-- The reference of the attention of mixer A. -/
theorem frame_attna : quiescent_AttnAReferenceIdeal := by
  intro m g _
  exact (θ_run Cert.AttnAReferenceIdeal.defs _ _).mono (fun r h => ⟨fun c => (h c).2.2.2, sem_eq_zero_of_no_sems (by decide) r.2⟩)
    (Cert.AttnAReferenceIdeal.Value.run m g)

/-- The reference of the input projection. -/
theorem frame_in : quiescent_InReferenceIdeal := by
  intro m g _
  exact (θ_run Cert.InReferenceIdeal.defs _ _).mono (fun r h => ⟨fun c => (h c).2, sem_eq_zero_of_no_sems (by decide) r.2⟩)
    (Cert.InReferenceIdeal.Value.run m g)

/-- The reference of the input gradient of the input projection. -/
theorem frame_indx : quiescent_InDxReferenceIdeal := by
  intro m g _
  exact (θ_run Cert.InDxReferenceIdeal.defs _ _).mono (fun r h => ⟨fun c => (h c).2, sem_eq_zero_of_no_sems (by decide) r.2⟩)
    (Cert.InDxReferenceIdeal.Value.run m g)

/-- The reference of the weight gradient of the input projection. -/
theorem frame_indw : quiescent_InDwReferenceIdeal := by
  intro m g _
  exact (θ_run Cert.InDwReferenceIdeal.defs _ _).mono (fun r h => ⟨fun c => (h c).2, sem_eq_zero_of_no_sems (by decide) r.2⟩)
    (Cert.InDwReferenceIdeal.Value.run m g)

/-- The reference of the output projection. -/
theorem frame_out : quiescent_OutReferenceIdeal := by
  intro m g _
  exact (θ_run Cert.OutReferenceIdeal.defs _ _).mono (fun r h => ⟨fun c => (h c).2, sem_eq_zero_of_no_sems (by decide) r.2⟩)
    (Cert.OutReferenceIdeal.Value.run m g)

/-- The reference of the input gradient of the output projection. -/
theorem frame_outdx : quiescent_OutDxReferenceIdeal := by
  intro m g _
  exact (θ_run Cert.OutDxReferenceIdeal.defs _ _).mono (fun r h => ⟨fun c => (h c).2, sem_eq_zero_of_no_sems (by decide) r.2⟩)
    (Cert.OutDxReferenceIdeal.Value.run m g)

/-- The reference of the weight gradient of the output projection. -/
theorem frame_outdw : quiescent_OutDwReferenceIdeal := by
  intro m g _
  exact (θ_run Cert.OutDwReferenceIdeal.defs _ _).mono (fun r h => ⟨fun c => (h c).2, sem_eq_zero_of_no_sems (by decide) r.2⟩)
    (Cert.OutDwReferenceIdeal.Value.run m g)

/-- All the claims, in the order of `Cert.Claim`. -/
theorem claim : Cert.Claim := ⟨
  Cert.Kernel.Gen.facts, Cert.KernelIdeal.Gen.facts, Cert.ReferenceIdeal.Gen.facts, Cert.Up.Gen.facts,
  Cert.UpIdeal.Gen.facts, Cert.UpReferenceIdeal.Gen.facts, Cert.Dz.Gen.facts, Cert.DzIdeal.Gen.facts,
  Cert.DzReferenceIdeal.Gen.facts, Cert.Dh.Gen.facts, Cert.DhIdeal.Gen.facts, Cert.DhReferenceIdeal.Gen.facts,
  Cert.Dw.Gen.facts, Cert.DwIdeal.Gen.facts, Cert.DwTwoReferenceIdeal.Gen.facts, Cert.DwOneReferenceIdeal.Gen.facts,
  Cert.Xout.Gen.facts, Cert.XoutIdeal.Gen.facts, Cert.XoutReferenceIdeal.Gen.facts, Cert.AttnA.Gen.facts,
  Cert.AttnAIdeal.Gen.facts, Cert.AttnAReferenceIdeal.Gen.facts, Cert.In.Gen.facts, Cert.InIdeal.Gen.facts,
  Cert.InReferenceIdeal.Gen.facts, Cert.InDx.Gen.facts, Cert.InDxIdeal.Gen.facts, Cert.InDxReferenceIdeal.Gen.facts,
  Cert.InDw.Gen.facts, Cert.InDwIdeal.Gen.facts, Cert.InDwReferenceIdeal.Gen.facts, Cert.Out.Gen.facts,
  Cert.OutIdeal.Gen.facts, Cert.OutReferenceIdeal.Gen.facts, Cert.OutDx.Gen.facts, Cert.OutDxIdeal.Gen.facts,
  Cert.OutDxReferenceIdeal.Gen.facts, Cert.OutDw.Gen.facts, Cert.OutDwIdeal.Gen.facts, Cert.OutDwReferenceIdeal.Gen.facts,
  Cert.Pre_finite.Gen.facts, Cert.Pre_finite_a.Gen.facts,
  fun m g _ => Cert.Kernel.Gen.frame m g,
  fun m g _ => Cert.KernelIdeal.Gen.frame m g,
  fun m g _ => Cert.KernelIdeal.Gen.frame m g,
  frame_attn,
  fun m g _ => frame_attn m g trivial,
  fun m g _ => Cert.Up.Gen.frame m g,
  fun m g _ => Cert.UpIdeal.Gen.frame m g,
  frame_up,
  fun m g _ => Cert.Dz.Gen.frame m g,
  fun m g _ => Cert.DzIdeal.Gen.frame m g,
  frame_dz,
  fun m g _ => Cert.Dh.Gen.frame m g,
  fun m g _ => Cert.DhIdeal.Gen.frame m g,
  frame_dh,
  fun m g _ => Cert.Dw.Gen.frame m g,
  fun m g _ => Cert.DwIdeal.Gen.frame m g,
  frame_dw2, frame_dw1,
  fun m g _ => Cert.Xout.Gen.frame m g,
  fun m g _ => Cert.XoutIdeal.Gen.frame m g,
  frame_xout,
  fun m g _ => Cert.AttnA.Gen.frame m g,
  fun m g _ => Cert.AttnAIdeal.Gen.frame m g,
  fun m g _ => Cert.AttnAIdeal.Gen.frame m g,
  frame_attna,
  fun m g _ => frame_attna m g trivial,
  fun m g _ => Cert.In.Gen.frame m g,
  fun m g _ => Cert.InIdeal.Gen.frame m g,
  frame_in,
  fun m g _ => Cert.InDx.Gen.frame m g,
  fun m g _ => Cert.InDxIdeal.Gen.frame m g,
  frame_indx,
  fun m g _ => Cert.InDw.Gen.frame m g,
  fun m g _ => Cert.InDwIdeal.Gen.frame m g,
  frame_indw,
  fun m g _ => Cert.Out.Gen.frame m g,
  fun m g _ => Cert.OutIdeal.Gen.frame m g,
  frame_out,
  fun m g _ => Cert.OutDx.Gen.frame m g,
  fun m g _ => Cert.OutDxIdeal.Gen.frame m g,
  frame_outdx,
  fun m g _ => Cert.OutDw.Gen.frame m g,
  fun m g _ => Cert.OutDwIdeal.Gen.frame m g,
  frame_outdw,
  ⟨IdealRules.named_const.statement Cert.KernelIdeal.κ "scale2" .f32 0x3E0293EE#32 _ rfl,
    IdealRules.named_const.statement Cert.KernelIdeal.κ "log2e" .f32 0x3FB8AA3B#32 _ rfl⟩,
  Cert.Result.algebraic,
  trivial,
  Cert.UpIdeal.Mlp.algebraic,
  trivial,
  Cert.DzIdeal.Mlp.algebraic,
  trivial,
  Cert.DhIdeal.Mlp.algebraic,
  trivial,
  Cert.DwIdeal.Mlp.algebraic_two,
  Cert.DwIdeal.Mlp.algebraic_one,
  trivial,
  Cert.XoutIdeal.Mlp.algebraic,
  ⟨IdealRules.named_const.statement Cert.AttnAIdeal.κ "scale2" .f32 0x3DD53B95#32 _ rfl,
    IdealRules.named_const.statement Cert.AttnAIdeal.κ "log2e" .f32 0x3FB8AA3B#32 _ rfl,
    IdealRules.named_const.statement Cert.AttnAIdeal.κ "scale" .f32 0x3D93CD3A#32 _ rfl⟩,
  Cert.ResultA.algebraic,
  trivial,
  Cert.InIdeal.Proj.algebraic,
  trivial,
  Cert.InDxIdeal.Proj.algebraic,
  trivial,
  Cert.InDwIdeal.Proj.algebraic,
  trivial,
  Cert.OutIdeal.Proj.algebraic,
  trivial,
  Cert.OutDxIdeal.Proj.algebraic,
  trivial,
  Cert.OutDwIdeal.Proj.algebraic⟩

end Cert.Proof

end
